-- ==== Defs.lean ====
def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_stats_pre [hPre_stats_pre : Cert.Pre_stats_pre.Facts] (m : (ℓ : Loc Cert.StatsIdeal.nD Cert.StatsIdeal.τ Cert.StatsIdeal.sig) → Buf (Elt Ideal) ℓ) : Prop :=
  ∀ c : Dev Cert.StatsIdeal.nD,
    (Cert.Pre_stats_pre.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).1 = (fun _ => 1#1)
    ∧ (Cert.Pre_stats_pre.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))).2 = (fun _ => 1#1)

def Pre_StatsRefIdeal (m : (ℓ : Loc Cert.StatsRefIdeal.nD Cert.StatsRefIdeal.τ Cert.StatsRefIdeal.sig) → Buf (Elt Ideal) ℓ) : Prop :=
  True

def Pre_StatsRefIdeal_stats_pre [hPre_stats_pre : Cert.Pre_stats_pre.Facts] (m : (ℓ : Loc Cert.StatsRefIdeal.nD Cert.StatsRefIdeal.τ Cert.StatsRefIdeal.sig) → Buf (Elt Ideal) ℓ) : Prop :=
  ∀ c : Dev Cert.StatsRefIdeal.nD,
    (Cert.Pre_stats_pre.fn (F := Ideal) (m ((c.tc : Thread Cert.StatsRefIdeal.nD Cert.StatsRefIdeal.τ).loc Cert.StatsRefIdeal.main_arg0)) (m ((c.tc : Thread Cert.StatsRefIdeal.nD Cert.StatsRefIdeal.τ).loc Cert.StatsRefIdeal.main_arg1)) (m ((c.tc : Thread Cert.StatsRefIdeal.nD Cert.StatsRefIdeal.τ).loc Cert.StatsRefIdeal.main_arg2)) (m ((c.tc : Thread Cert.StatsRefIdeal.nD Cert.StatsRefIdeal.τ).loc Cert.StatsRefIdeal.main_arg3))).1 = (fun _ => 1#1)
    ∧ (Cert.Pre_stats_pre.fn (F := Ideal) (m ((c.tc : Thread Cert.StatsRefIdeal.nD Cert.StatsRefIdeal.τ).loc Cert.StatsRefIdeal.main_arg0)) (m ((c.tc : Thread Cert.StatsRefIdeal.nD Cert.StatsRefIdeal.τ).loc Cert.StatsRefIdeal.main_arg1)) (m ((c.tc : Thread Cert.StatsRefIdeal.nD Cert.StatsRefIdeal.τ).loc Cert.StatsRefIdeal.main_arg2)) (m ((c.tc : Thread Cert.StatsRefIdeal.nD Cert.StatsRefIdeal.τ).loc Cert.StatsRefIdeal.main_arg3))).2 = (fun _ => 1#1)

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateIdeal_update_pre [hPre_update_pre : Cert.Pre_update_pre.Facts] (m : (ℓ : Loc Cert.UpdateIdeal.nD Cert.UpdateIdeal.τ Cert.UpdateIdeal.sig) → Buf (Elt Ideal) ℓ) : Prop :=
  ∀ c : Dev Cert.UpdateIdeal.nD,
    (Cert.Pre_update_pre.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7)) (m ((c.tc : Thread Cert.UpdateIdeal.nD Cert.UpdateIdeal.τ).loc Cert.UpdateIdeal.main_arg8)) (m ((c.tc : Thread Cert.UpdateIdeal.nD Cert.UpdateIdeal.τ).loc Cert.UpdateIdeal.main_arg9))).1 = (fun _ => 1#1)
    ∧ (Cert.Pre_update_pre.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7)) (m ((c.tc : Thread Cert.UpdateIdeal.nD Cert.UpdateIdeal.τ).loc Cert.UpdateIdeal.main_arg8)) (m ((c.tc : Thread Cert.UpdateIdeal.nD Cert.UpdateIdeal.τ).loc Cert.UpdateIdeal.main_arg9))).2.1 = (fun _ => 1#1)
    ∧ (Cert.Pre_update_pre.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7)) (m ((c.tc : Thread Cert.UpdateIdeal.nD Cert.UpdateIdeal.τ).loc Cert.UpdateIdeal.main_arg8)) (m ((c.tc : Thread Cert.UpdateIdeal.nD Cert.UpdateIdeal.τ).loc Cert.UpdateIdeal.main_arg9))).2.2.1 = (fun _ => 1#1)
    ∧ (Cert.Pre_update_pre.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3)) (m ((c.tc : Thread Cert.UpdateIdeal.nD Cert.UpdateIdeal.τ).loc Cert.UpdateIdeal.main_arg4)) (m ((c.tc : Thread Cert.UpdateIdeal.nD Cert.UpdateIdeal.τ).loc Cert.UpdateIdeal.main_arg5)) (m ((c.tc : Thread Cert.UpdateIdeal.nD Cert.UpdateIdeal.τ).loc Cert.UpdateIdeal.main_arg6)) (m ((c.tc : Thread Cert.UpdateIdeal.nD Cert.UpdateIdeal.τ).loc Cert.UpdateIdeal.main_arg7)) (m ((c.tc : Thread Cert.UpdateIdeal.nD Cert.UpdateIdeal.τ).loc Cert.UpdateIdeal.main_arg8)) (m ((c.tc : Thread Cert.UpdateIdeal.nD Cert.UpdateIdeal.τ).loc Cert.UpdateIdeal.main_arg9))).2.2.2 = (fun _ => 1#1)

def Pre_UpdateRefIdeal (m : (ℓ : Loc Cert.UpdateRefIdeal.nD Cert.UpdateRefIdeal.τ Cert.UpdateRefIdeal.sig) → Buf (Elt Ideal) ℓ) : Prop :=
  True

def Pre_UpdateRefIdeal_update_pre [hPre_update_pre : Cert.Pre_update_pre.Facts] (m : (ℓ : Loc Cert.UpdateRefIdeal.nD Cert.UpdateRefIdeal.τ Cert.UpdateRefIdeal.sig) → Buf (Elt Ideal) ℓ) : Prop :=
  ∀ c : Dev Cert.UpdateRefIdeal.nD,
    (Cert.Pre_update_pre.fn (F := Ideal) (m ((c.tc : Thread Cert.UpdateRefIdeal.nD Cert.UpdateRefIdeal.τ).loc Cert.UpdateRefIdeal.main_arg0)) (m ((c.tc : Thread Cert.UpdateRefIdeal.nD Cert.UpdateRefIdeal.τ).loc Cert.UpdateRefIdeal.main_arg1)) (m ((c.tc : Thread Cert.UpdateRefIdeal.nD Cert.UpdateRefIdeal.τ).loc Cert.UpdateRefIdeal.main_arg2)) (m ((c.tc : Thread Cert.UpdateRefIdeal.nD Cert.UpdateRefIdeal.τ).loc Cert.UpdateRefIdeal.main_arg3)) (m ((c.tc : Thread Cert.UpdateRefIdeal.nD Cert.UpdateRefIdeal.τ).loc Cert.UpdateRefIdeal.main_arg4)) (m ((c.tc : Thread Cert.UpdateRefIdeal.nD Cert.UpdateRefIdeal.τ).loc Cert.UpdateRefIdeal.main_arg5)) (m ((c.tc : Thread Cert.UpdateRefIdeal.nD Cert.UpdateRefIdeal.τ).loc Cert.UpdateRefIdeal.main_arg6)) (m ((c.tc : Thread Cert.UpdateRefIdeal.nD Cert.UpdateRefIdeal.τ).loc Cert.UpdateRefIdeal.main_arg7)) (m ((c.tc : Thread Cert.UpdateRefIdeal.nD Cert.UpdateRefIdeal.τ).loc Cert.UpdateRefIdeal.main_arg8)) (m ((c.tc : Thread Cert.UpdateRefIdeal.nD Cert.UpdateRefIdeal.τ).loc Cert.UpdateRefIdeal.main_arg9))).1 = (fun _ => 1#1)
    ∧ (Cert.Pre_update_pre.fn (F := Ideal) (m ((c.tc : Thread Cert.UpdateRefIdeal.nD Cert.UpdateRefIdeal.τ).loc Cert.UpdateRefIdeal.main_arg0)) (m ((c.tc : Thread Cert.UpdateRefIdeal.nD Cert.UpdateRefIdeal.τ).loc Cert.UpdateRefIdeal.main_arg1)) (m ((c.tc : Thread Cert.UpdateRefIdeal.nD Cert.UpdateRefIdeal.τ).loc Cert.UpdateRefIdeal.main_arg2)) (m ((c.tc : Thread Cert.UpdateRefIdeal.nD Cert.UpdateRefIdeal.τ).loc Cert.UpdateRefIdeal.main_arg3)) (m ((c.tc : Thread Cert.UpdateRefIdeal.nD Cert.UpdateRefIdeal.τ).loc Cert.UpdateRefIdeal.main_arg4)) (m ((c.tc : Thread Cert.UpdateRefIdeal.nD Cert.UpdateRefIdeal.τ).loc Cert.UpdateRefIdeal.main_arg5)) (m ((c.tc : Thread Cert.UpdateRefIdeal.nD Cert.UpdateRefIdeal.τ).loc Cert.UpdateRefIdeal.main_arg6)) (m ((c.tc : Thread Cert.UpdateRefIdeal.nD Cert.UpdateRefIdeal.τ).loc Cert.UpdateRefIdeal.main_arg7)) (m ((c.tc : Thread Cert.UpdateRefIdeal.nD Cert.UpdateRefIdeal.τ).loc Cert.UpdateRefIdeal.main_arg8)) (m ((c.tc : Thread Cert.UpdateRefIdeal.nD Cert.UpdateRefIdeal.τ).loc Cert.UpdateRefIdeal.main_arg9))).2.1 = (fun _ => 1#1)
    ∧ (Cert.Pre_update_pre.fn (F := Ideal) (m ((c.tc : Thread Cert.UpdateRefIdeal.nD Cert.UpdateRefIdeal.τ).loc Cert.UpdateRefIdeal.main_arg0)) (m ((c.tc : Thread Cert.UpdateRefIdeal.nD Cert.UpdateRefIdeal.τ).loc Cert.UpdateRefIdeal.main_arg1)) (m ((c.tc : Thread Cert.UpdateRefIdeal.nD Cert.UpdateRefIdeal.τ).loc Cert.UpdateRefIdeal.main_arg2)) (m ((c.tc : Thread Cert.UpdateRefIdeal.nD Cert.UpdateRefIdeal.τ).loc Cert.UpdateRefIdeal.main_arg3)) (m ((c.tc : Thread Cert.UpdateRefIdeal.nD Cert.UpdateRefIdeal.τ).loc Cert.UpdateRefIdeal.main_arg4)) (m ((c.tc : Thread Cert.UpdateRefIdeal.nD Cert.UpdateRefIdeal.τ).loc Cert.UpdateRefIdeal.main_arg5)) (m ((c.tc : Thread Cert.UpdateRefIdeal.nD Cert.UpdateRefIdeal.τ).loc Cert.UpdateRefIdeal.main_arg6)) (m ((c.tc : Thread Cert.UpdateRefIdeal.nD Cert.UpdateRefIdeal.τ).loc Cert.UpdateRefIdeal.main_arg7)) (m ((c.tc : Thread Cert.UpdateRefIdeal.nD Cert.UpdateRefIdeal.τ).loc Cert.UpdateRefIdeal.main_arg8)) (m ((c.tc : Thread Cert.UpdateRefIdeal.nD Cert.UpdateRefIdeal.τ).loc Cert.UpdateRefIdeal.main_arg9))).2.2.1 = (fun _ => 1#1)
    ∧ (Cert.Pre_update_pre.fn (F := Ideal) (m ((c.tc : Thread Cert.UpdateRefIdeal.nD Cert.UpdateRefIdeal.τ).loc Cert.UpdateRefIdeal.main_arg0)) (m ((c.tc : Thread Cert.UpdateRefIdeal.nD Cert.UpdateRefIdeal.τ).loc Cert.UpdateRefIdeal.main_arg1)) (m ((c.tc : Thread Cert.UpdateRefIdeal.nD Cert.UpdateRefIdeal.τ).loc Cert.UpdateRefIdeal.main_arg2)) (m ((c.tc : Thread Cert.UpdateRefIdeal.nD Cert.UpdateRefIdeal.τ).loc Cert.UpdateRefIdeal.main_arg3)) (m ((c.tc : Thread Cert.UpdateRefIdeal.nD Cert.UpdateRefIdeal.τ).loc Cert.UpdateRefIdeal.main_arg4)) (m ((c.tc : Thread Cert.UpdateRefIdeal.nD Cert.UpdateRefIdeal.τ).loc Cert.UpdateRefIdeal.main_arg5)) (m ((c.tc : Thread Cert.UpdateRefIdeal.nD Cert.UpdateRefIdeal.τ).loc Cert.UpdateRefIdeal.main_arg6)) (m ((c.tc : Thread Cert.UpdateRefIdeal.nD Cert.UpdateRefIdeal.τ).loc Cert.UpdateRefIdeal.main_arg7)) (m ((c.tc : Thread Cert.UpdateRefIdeal.nD Cert.UpdateRefIdeal.τ).loc Cert.UpdateRefIdeal.main_arg8)) (m ((c.tc : Thread Cert.UpdateRefIdeal.nD Cert.UpdateRefIdeal.τ).loc Cert.UpdateRefIdeal.main_arg9))).2.2.2 = (fun _ => 1#1)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsIdeal_pre_stats_pre [hStatsIdeal : Cert.StatsIdeal.Facts] [hPre_stats_pre : Cert.Pre_stats_pre.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_stats_pre m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2)
      ∧ r.2.mem ((c.tc : Thread Cert.StatsRefIdeal.nD Cert.StatsRefIdeal.τ).loc Cert.StatsRefIdeal.main_arg3) = m ((c.tc : Thread Cert.StatsRefIdeal.nD Cert.StatsRefIdeal.τ).loc Cert.StatsRefIdeal.main_arg3))
      ∧ r.2.sem = fun _ => 0)

def quiescent_StatsRefIdeal_pre_stats_pre [hStatsRefIdeal : Cert.StatsRefIdeal.Facts] [hPre_stats_pre : Cert.Pre_stats_pre.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal_stats_pre m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1)
      ∧ r.2.mem ((c.tc : Thread Cert.StatsRefIdeal.nD Cert.StatsRefIdeal.τ).loc Cert.StatsRefIdeal.main_arg2) = m ((c.tc : Thread Cert.StatsRefIdeal.nD Cert.StatsRefIdeal.τ).loc Cert.StatsRefIdeal.main_arg2)
      ∧ r.2.mem ((c.tc : Thread Cert.StatsRefIdeal.nD Cert.StatsRefIdeal.τ).loc Cert.StatsRefIdeal.main_arg3) = m ((c.tc : Thread Cert.StatsRefIdeal.nD Cert.StatsRefIdeal.τ).loc Cert.StatsRefIdeal.main_arg3))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9))
      ∧ r.2.sem = fun _ => 0)

def quiescent_UpdateIdeal_pre_update_pre [hUpdateIdeal : Cert.UpdateIdeal.Facts] [hPre_update_pre : Cert.Pre_update_pre.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal_update_pre m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9))
      ∧ r.2.sem = fun _ => 0)

def quiescent_UpdateRefIdeal_pre_update_pre [hUpdateRefIdeal : Cert.UpdateRefIdeal.Facts] [hPre_update_pre : Cert.Pre_update_pre.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal_update_pre m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9))
      ∧ r.2.sem = fun _ => 0)

def preserves_Stats_StatsIdeal : Prop :=
  IdealRules.named_const.Statement Cert.StatsIdeal.κ "norm_c" .f32 0x4279C000#32 ((999 / 16 : ℝ) : EReal)
  ∧ IdealRules.named_const.Statement Cert.StatsIdeal.κ "g2" .f32 0x3A83126F#32 ((1 / 1000 : ℝ) : EReal)

def algebraic_StatsIdeal_StatsRefIdeal_pre_stats_pre [hStatsIdeal : Cert.StatsIdeal.Facts] [hStatsRefIdeal : Cert.StatsRefIdeal.Facts] [hPre_stats_pre : Cert.Pre_stats_pre.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal_stats_pre m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)
      ∧ m' ((c.tc : Thread Cert.StatsRefIdeal.nD Cert.StatsRefIdeal.τ).loc Cert.StatsRefIdeal.main_arg2) = m ((c.tc : Thread Cert.StatsIdeal.nD Cert.StatsIdeal.τ).loc Cert.StatsIdeal.main_arg2)
      ∧ m' ((c.tc : Thread Cert.StatsRefIdeal.nD Cert.StatsRefIdeal.τ).loc Cert.StatsRefIdeal.main_arg3) = m ((c.tc : Thread Cert.StatsIdeal.nD Cert.StatsIdeal.τ).loc Cert.StatsIdeal.main_arg3)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v30) = v0 c
          ∧ r.2.mem ((c.tc : Thread Cert.StatsRefIdeal.nD Cert.StatsRefIdeal.τ).loc Cert.StatsRefIdeal.main_v31) = v1 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1)
          ∧ r.2.mem ((c.tc : Thread Cert.StatsRefIdeal.nD Cert.StatsRefIdeal.τ).loc Cert.StatsRefIdeal.main_arg2) = m' ((c.tc : Thread Cert.StatsRefIdeal.nD Cert.StatsRefIdeal.τ).loc Cert.StatsRefIdeal.main_arg2)
          ∧ r.2.mem ((c.tc : Thread Cert.StatsRefIdeal.nD Cert.StatsRefIdeal.τ).loc Cert.StatsRefIdeal.main_arg3) = m' ((c.tc : Thread Cert.StatsRefIdeal.nD Cert.StatsRefIdeal.τ).loc Cert.StatsRefIdeal.main_arg3))

def preserves_Update_UpdateIdeal : Prop :=
  IdealRules.named_const.Statement Cert.UpdateIdeal.κ "norm_c" .f32 0x4279C000#32 ((999 / 16 : ℝ) : EReal)
  ∧ IdealRules.named_const.Statement Cert.UpdateIdeal.κ "v16g2" .f32 0x3C83126F#32 ((2 / 125 : ℝ) : EReal)
  ∧ IdealRules.named_const.Statement Cert.UpdateIdeal.κ "m_c" .f32 0x3F100000#32 ((9 / 16 : ℝ) : EReal)
  ∧ IdealRules.named_const.Statement Cert.UpdateIdeal.κ "lrwd" .f32 0x37FBA882#32 ((3 / 100000 : ℝ) : EReal)
  ∧ IdealRules.named_const.Statement Cert.UpdateIdeal.κ "g1q" .f32 0x3C6A0EA1#32 ((1 / 70 : ℝ) : EReal)

def algebraic_UpdateIdeal_UpdateRefIdeal_pre_update_pre [hUpdateIdeal : Cert.UpdateIdeal.Facts] [hUpdateRefIdeal : Cert.UpdateRefIdeal.Facts] [hPre_update_pre : Cert.Pre_update_pre.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal_update_pre m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)
      ∧ m' ((c.tc : Thread Cert.UpdateRefIdeal.nD Cert.UpdateRefIdeal.τ).loc Cert.UpdateRefIdeal.main_arg4) = m ((c.tc : Thread Cert.UpdateIdeal.nD Cert.UpdateIdeal.τ).loc Cert.UpdateIdeal.main_arg4)
      ∧ m' ((c.tc : Thread Cert.UpdateRefIdeal.nD Cert.UpdateRefIdeal.τ).loc Cert.UpdateRefIdeal.main_arg5) = m ((c.tc : Thread Cert.UpdateIdeal.nD Cert.UpdateIdeal.τ).loc Cert.UpdateIdeal.main_arg5)
      ∧ m' ((c.tc : Thread Cert.UpdateRefIdeal.nD Cert.UpdateRefIdeal.τ).loc Cert.UpdateRefIdeal.main_arg6) = m ((c.tc : Thread Cert.UpdateIdeal.nD Cert.UpdateIdeal.τ).loc Cert.UpdateIdeal.main_arg6)
      ∧ m' ((c.tc : Thread Cert.UpdateRefIdeal.nD Cert.UpdateRefIdeal.τ).loc Cert.UpdateRefIdeal.main_arg7) = m ((c.tc : Thread Cert.UpdateIdeal.nD Cert.UpdateIdeal.τ).loc Cert.UpdateIdeal.main_arg7)
      ∧ m' ((c.tc : Thread Cert.UpdateRefIdeal.nD Cert.UpdateRefIdeal.τ).loc Cert.UpdateRefIdeal.main_arg8) = m ((c.tc : Thread Cert.UpdateIdeal.nD Cert.UpdateIdeal.τ).loc Cert.UpdateIdeal.main_arg8)
      ∧ m' ((c.tc : Thread Cert.UpdateRefIdeal.nD Cert.UpdateRefIdeal.τ).loc Cert.UpdateRefIdeal.main_arg9) = m ((c.tc : Thread Cert.UpdateIdeal.nD Cert.UpdateIdeal.τ).loc Cert.UpdateIdeal.main_arg9)) →
    ∃ (v0 : (c : Dev Cert.UpdateIdeal.nD) → Buf (Elt Ideal) ((c.tc : Thread Cert.UpdateIdeal.nD Cert.UpdateIdeal.τ).loc Cert.UpdateIdeal.main_v16_0)) (v1 : (c : Dev Cert.UpdateIdeal.nD) → Buf (Elt Ideal) ((c.tc : Thread Cert.UpdateIdeal.nD Cert.UpdateIdeal.τ).loc Cert.UpdateIdeal.main_v16_1)) (v2 : (c : Dev Cert.UpdateIdeal.nD) → Buf (Elt Ideal) ((c.tc : Thread Cert.UpdateIdeal.nD Cert.UpdateIdeal.τ).loc Cert.UpdateIdeal.main_v16_2)) (v3 : (c : Dev Cert.UpdateIdeal.nD) → Buf (Elt Ideal) ((c.tc : Thread Cert.UpdateIdeal.nD Cert.UpdateIdeal.τ).loc Cert.UpdateIdeal.main_v16_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v16_0) = v0 c
          ∧ r.2.mem ((c.tc : Thread Cert.UpdateIdeal.nD Cert.UpdateIdeal.τ).loc Cert.UpdateIdeal.main_v16_1) = v1 c
          ∧ r.2.mem ((c.tc : Thread Cert.UpdateIdeal.nD Cert.UpdateIdeal.τ).loc Cert.UpdateIdeal.main_v16_2) = v2 c
          ∧ r.2.mem ((c.tc : Thread Cert.UpdateIdeal.nD Cert.UpdateIdeal.τ).loc Cert.UpdateIdeal.main_v16_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v79) = v0 c
          ∧ r.2.mem ((c.tc : Thread Cert.UpdateRefIdeal.nD Cert.UpdateRefIdeal.τ).loc Cert.UpdateRefIdeal.main_v118) = v1 c
          ∧ r.2.mem ((c.tc : Thread Cert.UpdateRefIdeal.nD Cert.UpdateRefIdeal.τ).loc Cert.UpdateRefIdeal.main_v87) = v2 c
          ∧ r.2.mem ((c.tc : Thread Cert.UpdateRefIdeal.nD Cert.UpdateRefIdeal.τ).loc Cert.UpdateRefIdeal.main_v129) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3)
          ∧ r.2.mem ((c.tc : Thread Cert.UpdateRefIdeal.nD Cert.UpdateRefIdeal.τ).loc Cert.UpdateRefIdeal.main_arg4) = m' ((c.tc : Thread Cert.UpdateRefIdeal.nD Cert.UpdateRefIdeal.τ).loc Cert.UpdateRefIdeal.main_arg4)
          ∧ r.2.mem ((c.tc : Thread Cert.UpdateRefIdeal.nD Cert.UpdateRefIdeal.τ).loc Cert.UpdateRefIdeal.main_arg5) = m' ((c.tc : Thread Cert.UpdateRefIdeal.nD Cert.UpdateRefIdeal.τ).loc Cert.UpdateRefIdeal.main_arg5)
          ∧ r.2.mem ((c.tc : Thread Cert.UpdateRefIdeal.nD Cert.UpdateRefIdeal.τ).loc Cert.UpdateRefIdeal.main_arg6) = m' ((c.tc : Thread Cert.UpdateRefIdeal.nD Cert.UpdateRefIdeal.τ).loc Cert.UpdateRefIdeal.main_arg6)
          ∧ r.2.mem ((c.tc : Thread Cert.UpdateRefIdeal.nD Cert.UpdateRefIdeal.τ).loc Cert.UpdateRefIdeal.main_arg7) = m' ((c.tc : Thread Cert.UpdateRefIdeal.nD Cert.UpdateRefIdeal.τ).loc Cert.UpdateRefIdeal.main_arg7)
          ∧ r.2.mem ((c.tc : Thread Cert.UpdateRefIdeal.nD Cert.UpdateRefIdeal.τ).loc Cert.UpdateRefIdeal.main_arg8) = m' ((c.tc : Thread Cert.UpdateRefIdeal.nD Cert.UpdateRefIdeal.τ).loc Cert.UpdateRefIdeal.main_arg8)
          ∧ r.2.mem ((c.tc : Thread Cert.UpdateRefIdeal.nD Cert.UpdateRefIdeal.τ).loc Cert.UpdateRefIdeal.main_arg9) = m' ((c.tc : Thread Cert.UpdateRefIdeal.nD Cert.UpdateRefIdeal.τ).loc Cert.UpdateRefIdeal.main_arg9))

def Claim : Prop :=
  ∃ (hStats : Cert.Stats.Facts) (hStatsIdeal : Cert.StatsIdeal.Facts) (hStatsRefIdeal : Cert.StatsRefIdeal.Facts) (hUpdate : Cert.Update.Facts) (hUpdateIdeal : Cert.UpdateIdeal.Facts) (hUpdateRefIdeal : Cert.UpdateRefIdeal.Facts) (hPre_stats_pre : Cert.Pre_stats_pre.Facts) (hPre_update_pre : Cert.Pre_update_pre.Facts),
    quiescent_Stats (hStats := hStats)
    ∧ quiescent_StatsIdeal (hStatsIdeal := hStatsIdeal)
    ∧ quiescent_StatsIdeal_pre_stats_pre (hStatsIdeal := hStatsIdeal) (hPre_stats_pre := hPre_stats_pre)
    ∧ quiescent_StatsRefIdeal (hStatsRefIdeal := hStatsRefIdeal)
    ∧ quiescent_StatsRefIdeal_pre_stats_pre (hStatsRefIdeal := hStatsRefIdeal) (hPre_stats_pre := hPre_stats_pre)
    ∧ quiescent_Update (hUpdate := hUpdate)
    ∧ quiescent_UpdateIdeal (hUpdateIdeal := hUpdateIdeal)
    ∧ quiescent_UpdateIdeal_pre_update_pre (hUpdateIdeal := hUpdateIdeal) (hPre_update_pre := hPre_update_pre)
    ∧ quiescent_UpdateRefIdeal (hUpdateRefIdeal := hUpdateRefIdeal)
    ∧ quiescent_UpdateRefIdeal_pre_update_pre (hUpdateRefIdeal := hUpdateRefIdeal) (hPre_update_pre := hPre_update_pre)
    ∧ preserves_Stats_StatsIdeal
    ∧ algebraic_StatsIdeal_StatsRefIdeal_pre_stats_pre (hStatsIdeal := hStatsIdeal) (hStatsRefIdeal := hStatsRefIdeal) (hPre_stats_pre := hPre_stats_pre)
    ∧ preserves_Update_UpdateIdeal
    ∧ algebraic_UpdateIdeal_UpdateRefIdeal_pre_update_pre (hUpdateIdeal := hUpdateIdeal) (hUpdateRefIdeal := hUpdateRefIdeal) (hPre_update_pre := hPre_update_pre)
-- ==== Pre_stats_pre.lean ====
abbrev S2x7168 : Shape := ⟨2, ![2, 7168]⟩
abbrev S2x8192 : Shape := ⟨2, ![2, 8192]⟩
abbrev S2x7168x8192 : Shape := ⟨3, ![2, 7168, 8192]⟩
abbrev S2x7168x4096 : Shape := ⟨3, ![2, 7168, 4096]⟩
abbrev S_ : Shape := ⟨0, ![]⟩

class Facts : Prop where
  bcast_S_S2x7168 : S_.BroadcastsInDim S2x7168 (![] : Fin 0 → Fin S2x7168.rank)
  bcast_S_S2x8192 : S_.BroadcastsInDim S2x8192 (![] : Fin 0 → Fin S2x8192.rank)

variable [Facts]

def fn {F : FTy → Type} [FloatOps F] (main_arg0 : FVec F S2x7168 .f32) (main_arg1 : FVec F S2x8192 .f32) (main_arg2 : FVec F S2x7168x8192 .bf16) (main_arg3 : IVec S2x7168x4096 8) : IVec S2x7168 1 × IVec S2x8192 1 :=
  let main_cst : FVec F S_ .f32 := constant S_ .f32 0x00800000#32
  let main_v0 : FVec F S2x7168 .f32 := broadcastInDim S2x7168 ![] bcast_S_S2x7168 main_cst
  let main_v1 : IVec S2x7168 1 := cmpf .oge main_arg0 main_v0
  let main_cst_0 : FVec F S_ .f32 := constant S_ .f32 0x00800000#32
  let main_v2 : FVec F S2x8192 .f32 := broadcastInDim S2x8192 ![] bcast_S_S2x8192 main_cst_0
  let main_v3 : IVec S2x8192 1 := cmpf .oge main_arg1 main_v2
  (main_v1, main_v3)
-- ==== Pre_update_pre.lean ====
abbrev S2x7168x8192 : Shape := ⟨3, ![2, 7168, 8192]⟩
abbrev S_ : Shape := ⟨0, ![]⟩
abbrev S2x7168x4096 : Shape := ⟨3, ![2, 7168, 4096]⟩
abbrev S2x56x8192 : Shape := ⟨3, ![2, 56, 8192]⟩
abbrev S2x7168 : Shape := ⟨2, ![2, 7168]⟩
abbrev S2x8192 : Shape := ⟨2, ![2, 8192]⟩
abbrev S2x7168x4096x1 : Shape := ⟨4, ![2, 7168, 4096, 1]⟩
abbrev S2x7168x4096x2 : Shape := ⟨4, ![2, 7168, 4096, 2]⟩
abbrev S2x7168x1 : Shape := ⟨3, ![2, 7168, 1]⟩
abbrev S2x1x8192 : Shape := ⟨3, ![2, 1, 8192]⟩

class Facts : Prop where
  bitsLt_bf16_f32 : FTy.bits .bf16 < FTy.bits .f32
  natLt_8_32 : 8 < 32
  bcast_S_S2x7168x4096 : S_.BroadcastsInDim S2x7168x4096 (![] : Fin 0 → Fin S2x7168x4096.rank)
  bcast_S2x7168x4096_S2x7168x4096x1_0_1_2 : S2x7168x4096.BroadcastsInDim S2x7168x4096x1 (![0, 1, 2] : Fin 3 → Fin S2x7168x4096x1.rank)
  concatenates_S2x7168x4096x1_S2x7168x4096x1_S2x7168x4096x2_d3 : Shape.Concatenates [S2x7168x4096x1, S2x7168x4096x1] S2x7168x4096x2 3
  shapeCasts_S2x7168x4096x2_S2x7168x8192 : S2x7168x4096x2.ShapeCasts S2x7168x8192
  bcast_S_S2x7168x8192 : S_.BroadcastsInDim S2x7168x8192 (![] : Fin 0 → Fin S2x7168x8192.rank)
  bcast_S2x7168_S2x7168x1_0_1 : S2x7168.BroadcastsInDim S2x7168x1 (![0, 1] : Fin 2 → Fin S2x7168x1.rank)
  bcast_S2x8192_S2x1x8192_0_2 : S2x8192.BroadcastsInDim S2x1x8192 (![0, 2] : Fin 2 → Fin S2x1x8192.rank)
  bcast_S2x7168x1_S2x7168x8192_0_1_2 : S2x7168x1.BroadcastsInDim S2x7168x8192 (![0, 1, 2] : Fin 3 → Fin S2x7168x8192.rank)
  bcast_S2x1x8192_S2x7168x8192_0_1_2 : S2x1x8192.BroadcastsInDim S2x7168x8192 (![0, 1, 2] : Fin 3 → Fin S2x7168x8192.rank)
  bcast_S_S2x7168 : S_.BroadcastsInDim S2x7168 (![] : Fin 0 → Fin S2x7168.rank)
  bcast_S_S2x8192 : S_.BroadcastsInDim S2x8192 (![] : Fin 0 → Fin S2x8192.rank)

variable [Facts]

def fn_part2 {F : FTy → Type} [FloatOps F] (main_arg6 : FVec F S2x7168 .f32) (main_arg7 : FVec F S2x8192 .f32) (main_v29 : FVec F S2x7168x8192 .f32) (main_v35 : IVec S2x7168x8192 1) (main_v36 : IVec S_ 1) (main_cst_8 : FVec F S_ .f32) : IVec S_ 1 × IVec S2x7168 1 × IVec S2x8192 1 × IVec S2x7168x8192 1 :=
  let main_v37 : FVec F S2x7168 .f32 := broadcastInDim S2x7168 ![] bcast_S_S2x7168 main_cst_8
  let main_v38 : IVec S2x7168 1 := cmpf .oge main_arg6 main_v37
  let main_cst_9 : FVec F S_ .f32 := constant S_ .f32 0x00800000#32
  let main_v39 : FVec F S2x8192 .f32 := broadcastInDim S2x8192 ![] bcast_S_S2x8192 main_cst_9
  let main_v40 : IVec S2x8192 1 := cmpf .oge main_arg7 main_v39
  let main_cst_10 : FVec F S_ .f32 := constant S_ .f32 0x7F800000#32
  let main_v41 : FVec F S2x7168x8192 .f32 := broadcastInDim S2x7168x8192 ![] bcast_S_S2x7168x8192 main_cst_10
  let main_v42 : IVec S2x7168x8192 1 := cmpf .olt main_v29 main_v41
  let main_v43 : IVec S2x7168x8192 1 := andi main_v35 main_v42
  (main_v36, main_v38, main_v40, main_v43)

def fn_part1 {F : FTy → Type} [FloatOps F] (main_arg2 : IVec S_ 32) (main_arg6 : FVec F S2x7168 .f32) (main_arg7 : FVec F S2x8192 .f32) (main_arg8 : FVec F S2x7168 .f32) (main_arg9 : FVec F S2x8192 .f32) (main_v0 : FVec F S2x7168x8192 .f32) (main_v14 : FVec F S2x7168x8192 .f32) (main_v19 : FVec F S2x7168x8192 .f32) : IVec S_ 1 × IVec S2x7168 1 × IVec S2x8192 1 × IVec S2x7168x8192 1 :=
  let main_v20 : FVec F S2x7168x8192 .f32 := mulf main_v14 main_v19
  let main_cst_2 : FVec F S_ .f32 := constant S_ .f32 0x4479C000#32
  let main_cst_3 : FVec F S_ .f32 := constant S_ .f32 0x447A0000#32
  let main_v21 : FVec F S_ .f32 := Host.divf main_cst_2 main_cst_3
  let main_v22 : FVec F S2x7168x8192 .f32 := broadcastInDim S2x7168x8192 ![] bcast_S_S2x7168x8192 main_v21
  let main_v23 : FVec F S2x7168x8192 .f32 := mulf main_v22 main_v20
  let main_cst_4 : FVec F S_ .f32 := constant S_ .f32 0x4479C000#32
  let main_cst_5 : FVec F S_ .f32 := constant S_ .f32 0x447A0000#32
  let main_v24 : FVec F S_ .f32 := Host.divf main_cst_4 main_cst_5
  let main_cst_6 : FVec F S_ .f32 := constant S_ .f32 0x3F800000#32
  let main_v25 : FVec F S_ .f32 := subf main_cst_6 main_v24
  let main_v26 : FVec F S2x7168x8192 .f32 := broadcastInDim S2x7168x8192 ![] bcast_S_S2x7168x8192 main_v25
  let main_v27 : FVec F S2x7168x8192 .f32 := mulf main_v26 main_v0
  let main_v28 : FVec F S2x7168x8192 .f32 := mulf main_v27 main_v0
  let main_v29 : FVec F S2x7168x8192 .f32 := addf main_v23 main_v28
  let main_v30 : FVec F S2x7168x1 .f32 := broadcastInDim S2x7168x1 ![0, 1] bcast_S2x7168_S2x7168x1_0_1 main_arg8
  let main_v31 : FVec F S2x1x8192 .f32 := broadcastInDim S2x1x8192 ![0, 2] bcast_S2x8192_S2x1x8192_0_2 main_arg9
  let main_v32 : FVec F S2x7168x8192 .f32 := broadcastInDim S2x7168x8192 ![0, 1, 2] bcast_S2x7168x1_S2x7168x8192_0_1_2 main_v30
  let main_v33 : FVec F S2x7168x8192 .f32 := broadcastInDim S2x7168x8192 ![0, 1, 2] bcast_S2x1x8192_S2x7168x8192_0_1_2 main_v31
  let main_v34 : FVec F S2x7168x8192 .f32 := minimumf main_v32 main_v33
  let main_v35 : IVec S2x7168x8192 1 := cmpf .ole main_v29 main_v34
  let main_c_7 : IVec S_ 32 := constantI S_ 32 1#32
  let main_v36 : IVec S_ 1 := cmpi .sge main_arg2 main_c_7
  let main_cst_8 : FVec F S_ .f32 := constant S_ .f32 0x00800000#32
  fn_part2 (F := F) main_arg6 main_arg7 main_v29 main_v35 main_v36 main_cst_8

def fn {F : FTy → Type} [FloatOps F] (main_arg0 : FVec F S2x7168x8192 .bf16) (main_arg1 : FVec F S2x7168x8192 .bf16) (main_arg2 : IVec S_ 32) (main_arg3 : IVec S2x7168x4096 8) (main_arg4 : FVec F S2x56x8192 .f32) (main_arg5 : IVec S2x7168x4096 8) (main_arg6 : FVec F S2x7168 .f32) (main_arg7 : FVec F S2x8192 .f32) (main_arg8 : FVec F S2x7168 .f32) (main_arg9 : FVec F S2x8192 .f32) : IVec S_ 1 × IVec S2x7168 1 × IVec S2x8192 1 × IVec S2x7168x8192 1 :=
  let main_v0 : FVec F S2x7168x8192 .f32 := (extf .f32 · bitsLt_bf16_f32) main_arg1
  let main_v1 : IVec S2x7168x4096 32 := (extui 32 · natLt_8_32) main_arg5
  let main_c : IVec S_ 32 := constantI S_ 32 15#32
  let main_v2 : IVec S2x7168x4096 32 := broadcastInDim S2x7168x4096 ![] bcast_S_S2x7168x4096 main_c
  let main_v3 : IVec S2x7168x4096 32 := andi main_v1 main_v2
  let main_c_0 : IVec S_ 32 := constantI S_ 32 4#32
  let main_v4 : IVec S2x7168x4096 32 := broadcastInDim S2x7168x4096 ![] bcast_S_S2x7168x4096 main_c_0
  let main_v5 : IVec S2x7168x4096 32 := Host.shrui main_v1 main_v4
  let main_v6 : IVec S2x7168x4096x1 32 := broadcastInDim S2x7168x4096x1 ![0, 1, 2] bcast_S2x7168x4096_S2x7168x4096x1_0_1_2 main_v3
  let main_v7 : IVec S2x7168x4096x1 32 := broadcastInDim S2x7168x4096x1 ![0, 1, 2] bcast_S2x7168x4096_S2x7168x4096x1_0_1_2 main_v5
  let main_v8 : IVec S2x7168x4096x2 32 := (fun a b => concatenate S2x7168x4096x2 3 [⟨S2x7168x4096x1, a⟩, ⟨S2x7168x4096x1, b⟩] concatenates_S2x7168x4096x1_S2x7168x4096x1_S2x7168x4096x2_d3) main_v6 main_v7
  let main_v9 : IVec S2x7168x8192 32 := shapeCast S2x7168x8192 main_v8 shapeCasts_S2x7168x4096x2_S2x7168x8192
  let main_v10 : FVec F S2x7168x8192 .f32 := sitofp .f32 main_v9
  let main_cst : FVec F S_ .f32 := constant S_ .f32 0x3F800000#32
  let main_v11 : FVec F S2x7168x8192 .f32 := broadcastInDim S2x7168x8192 ![] bcast_S_S2x7168x8192 main_cst
  let main_v12 : FVec F S2x7168x8192 .f32 := addf main_v10 main_v11
  let main_cst_1 : FVec F S_ .f32 := constant S_ .f32 0x3D800000#32
  let main_v13 : FVec F S2x7168x8192 .f32 := broadcastInDim S2x7168x8192 ![] bcast_S_S2x7168x8192 main_cst_1
  let main_v14 : FVec F S2x7168x8192 .f32 := mulf main_v12 main_v13
  let main_v15 : FVec F S2x7168x1 .f32 := broadcastInDim S2x7168x1 ![0, 1] bcast_S2x7168_S2x7168x1_0_1 main_arg6
  let main_v16 : FVec F S2x1x8192 .f32 := broadcastInDim S2x1x8192 ![0, 2] bcast_S2x8192_S2x1x8192_0_2 main_arg7
  let main_v17 : FVec F S2x7168x8192 .f32 := broadcastInDim S2x7168x8192 ![0, 1, 2] bcast_S2x7168x1_S2x7168x8192_0_1_2 main_v15
  let main_v18 : FVec F S2x7168x8192 .f32 := broadcastInDim S2x7168x8192 ![0, 1, 2] bcast_S2x1x8192_S2x7168x8192_0_1_2 main_v16
  let main_v19 : FVec F S2x7168x8192 .f32 := minimumf main_v17 main_v18
  fn_part1 (F := F) main_arg2 main_arg6 main_arg7 main_arg8 main_arg9 main_v0 main_v14 main_v19
-- ==== Stats.lean ====
abbrev S2x7168 : Shape := ⟨2, ![2, 7168]⟩
abbrev S2x8192 : Shape := ⟨2, ![2, 8192]⟩
abbrev S2x7168x8192 : Shape := ⟨3, ![2, 7168, 8192]⟩
abbrev S2x7168x4096 : Shape := ⟨3, ![2, 7168, 4096]⟩
abbrev S1x128x8192 : Shape := ⟨3, ![1, 128, 8192]⟩
abbrev S1x128x4096 : Shape := ⟨3, ![1, 128, 4096]⟩
abbrev S256x256 : Shape := ⟨2, ![256, 256]⟩
abbrev S128x128 : Shape := ⟨2, ![128, 128]⟩
abbrev S8x8192 : Shape := ⟨2, ![8, 8192]⟩
abbrev S1x128 : Shape := ⟨2, ![1, 128]⟩
abbrev S1x256 : Shape := ⟨2, ![1, 256]⟩
abbrev S1x128x128 : Shape := ⟨3, ![1, 128, 128]⟩
abbrev S32x128 : Shape := ⟨2, ![32, 128]⟩
abbrev S128x256 : Shape := ⟨2, ![128, 256]⟩
abbrev S1x128x256 : Shape := ⟨3, ![1, 128, 256]⟩
abbrev S8x256 : Shape := ⟨2, ![8, 256]⟩
abbrev S128 : Shape := ⟨1, ![128]⟩
abbrev S8192 : Shape := ⟨1, ![8192]⟩
abbrev S1x8192 : Shape := ⟨2, ![1, 8192]⟩

abbrev nBuf : Space → Nat
  | .hbm => 6
  | .vmem => 12
  | .smem => 0
  | _ => 0

abbrev bufTy : (tb : Table) → Fin (tcTables nBuf tb) → BufTy
  | .hbm, ⟨0, _⟩ => ⟨S2x7168, .f32⟩
  | .hbm, ⟨1, _⟩ => ⟨S2x8192, .f32⟩
  | .hbm, ⟨2, _⟩ => ⟨S2x7168x8192, .bf16⟩
  | .hbm, ⟨3, _⟩ => ⟨S2x7168x4096, .i8⟩
  | .hbm, ⟨4, _⟩ => ⟨S2x7168, .f32⟩
  | .hbm, ⟨5, _⟩ => ⟨S2x8192, .f32⟩
  | .local _ .vmem, ⟨0, _⟩ => ⟨S2x7168, .f32⟩
  | .local _ .vmem, ⟨1, _⟩ => ⟨S2x8192, .f32⟩
  | .local _ .vmem, ⟨2, _⟩ => ⟨S1x128x8192, .bf16⟩
  | .local _ .vmem, ⟨3, _⟩ => ⟨S1x128x8192, .bf16⟩
  | .local _ .vmem, ⟨4, _⟩ => ⟨S1x128x4096, .i8⟩
  | .local _ .vmem, ⟨5, _⟩ => ⟨S1x128x4096, .i8⟩
  | .local _ .vmem, ⟨6, _⟩ => ⟨S2x7168, .f32⟩
  | .local _ .vmem, ⟨7, _⟩ => ⟨S2x8192, .f32⟩
  | .local _ .vmem, ⟨8, _⟩ => ⟨S256x256, .bf16⟩
  | .local _ .vmem, ⟨9, _⟩ => ⟨S128x128, .f32⟩
  | .local _ .vmem, ⟨10, _⟩ => ⟨S128x128, .f32⟩
  | .local _ .vmem, ⟨11, _⟩ => ⟨S8x8192, .f32⟩
  | _, _ => ⟨S2x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 56], ![false, false]⟩

def k0_mult1 (i : grid0.Coords) : BitVec 32 :=
  let arg1 : BitVec 32 := BitVec.ofNat 32 (i 1).val
  let c128_i32 : BitVec 32 := 128#32
  let v8 : BitVec 32 := Scalar.muli arg1 c128_i32
  v8
def k0_off1 (i : grid0.Coords) : Fin 2 → Nat :=
  let c0 : Index := 0#32
  let arg1 : BitVec 32 := BitVec.ofNat 32 (i 1).val
  let c128_i32 : BitVec 32 := 128#32
  let v8 : BitVec 32 := Scalar.muli arg1 c128_i32
  let v9 : BitVec 32 := v8
  let v11 : Index := Scalar.indexCast v9
  ![0, v11.toNat]
def k0_off2 (i : grid0.Coords) : Fin 2 → Nat :=
  let c1 : Index := 1#32
  let arg1 : BitVec 32 := BitVec.ofNat 32 (i 1).val
  let c128_i32 : BitVec 32 := 128#32
  let v8 : BitVec 32 := Scalar.muli arg1 c128_i32
  let v9 : BitVec 32 := v8
  let v13 : Index := Scalar.indexCast v9
  ![1, v13.toNat]
@[reducible] def k0_t1_loop : Scf.Loop 32 :=
  let c0_i32_11 : BitVec 32 := 0#32
  let c32_i32 : BitVec 32 := 32#32
  let v30 : BitVec 32 := Scalar.addi c0_i32_11 c32_i32
  let c1_i32 : BitVec 32 := 1#32
  ⟨c0_i32_11, v30, c1_i32⟩
def k0_mult2 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c128_i32_22 : BitVec 32 := 128#32
  let v46 : BitVec 32 := Scalar.muli arg12 c128_i32_22
  v46
def k0_mult3 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c256_i32 : BitVec 32 := 256#32
  let v48 : BitVec 32 := Scalar.muli arg12 c256_i32
  v48
def k0_off3 (k0_t1 : Fin k0_t1_loop.trips) : Fin 2 → Nat :=
  let c0_24 : Index := 0#32
  let c0_i32_11 : BitVec 32 := 0#32
  let c1_i32 : BitVec 32 := 1#32
  let arg12 : BitVec 32 := Scf.iv c0_i32_11 c1_i32 k0_t1
  let c256_i32 : BitVec 32 := 256#32
  let v48 : BitVec 32 := Scalar.muli arg12 c256_i32
  let v49 : BitVec 32 := v48
  let v51 : Index := Scalar.indexCast v49
  ![0, v51.toNat]
def k0_off4 (k0_t1 : Fin k0_t1_loop.trips) : Fin 2 → Nat :=
  let c1_25 : Index := 1#32
  let c0_i32_11 : BitVec 32 := 0#32
  let c1_i32 : BitVec 32 := 1#32
  let arg12 : BitVec 32 := Scf.iv c0_i32_11 c1_i32 k0_t1
  let c256_i32 : BitVec 32 := 256#32
  let v48 : BitVec 32 := Scalar.muli arg12 c256_i32
  let v49 : BitVec 32 := v48
  let v53 : Index := Scalar.indexCast v49
  ![1, v53.toNat]
def k0_off5 (k0_t1 : Fin k0_t1_loop.trips) : Fin 3 → Nat :=
  let c0_28 : Index := 0#32
  let c0_29 : Index := 0#32
  let c0_i32_11 : BitVec 32 := 0#32
  let c1_i32 : BitVec 32 := 1#32
  let arg12 : BitVec 32 := Scf.iv c0_i32_11 c1_i32 k0_t1
  let c128_i32_22 : BitVec 32 := 128#32
  let v46 : BitVec 32 := Scalar.muli arg12 c128_i32_22
  let v47 : BitVec 32 := v46
  let v60 : Index := Scalar.indexCast v47
  ![0, 0, v60.toNat]
def k0_off6 (k0_t1 : Fin k0_t1_loop.trips) : Fin 3 → Nat :=
  let c0_35 : Index := 0#32
  let c0_36 : Index := 0#32
  let c0_i32_11 : BitVec 32 := 0#32
  let c1_i32 : BitVec 32 := 1#32
  let arg12 : BitVec 32 := Scf.iv c0_i32_11 c1_i32 k0_t1
  let c256_i32 : BitVec 32 := 256#32
  let v48 : BitVec 32 := Scalar.muli arg12 c256_i32
  let v49 : BitVec 32 := v48
  let v81 : Index := Scalar.indexCast v49
  ![0, 0, v81.toNat]
def k0_off7 (k0_t1 : Fin k0_t1_loop.trips) : Fin 2 → Nat :=
  let c0_43 : Index := 0#32
  let c0_i32_11 : BitVec 32 := 0#32
  let c1_i32 : BitVec 32 := 1#32
  let arg12 : BitVec 32 := Scf.iv c0_i32_11 c1_i32 k0_t1
  let c256_i32 : BitVec 32 := 256#32
  let v48 : BitVec 32 := Scalar.muli arg12 c256_i32
  let v49 : BitVec 32 := v48
  let v131 : Index := Scalar.indexCast v49
  ![0, v131.toNat]
def k0_cond3 (i : grid0.Coords) : BitVec 1 :=
  let arg0 : BitVec 32 := BitVec.ofNat 32 (i 0).val
  let c0_i32_17 : BitVec 32 := 0#32
  let v37 : BitVec 1 := Scalar.cmpi .eq arg0 c0_i32_17
  let v38 : BitVec 32 := Scalar.extui v37
  let c0_i32_18 : BitVec 32 := 0#32
  let v39 : BitVec 1 := Scalar.cmpi .ne v38 c0_i32_18
  v39

def k0_off8 (i : grid0.Coords) : Fin 2 → Nat :=
  let c0_22 : Index := 0#32
  let arg1 : BitVec 32 := BitVec.ofNat 32 (i 1).val
  let c128_i32 : BitVec 32 := 128#32
  let v8 : BitVec 32 := Scalar.muli arg1 c128_i32
  let v9 : BitVec 32 := v8
  let v46 : Index := Scalar.indexCast v9
  ![0, v46.toNat]
def k0_cond4 (i : grid0.Coords) : BitVec 1 :=
  let arg0 : BitVec 32 := BitVec.ofNat 32 (i 0).val
  let c1_i32_19 : BitVec 32 := 1#32
  let v40 : BitVec 1 := Scalar.cmpi .eq arg0 c1_i32_19
  let v41 : BitVec 32 := Scalar.extui v40
  let c0_i32_20 : BitVec 32 := 0#32
  let v42 : BitVec 1 := Scalar.cmpi .ne v41 c0_i32_20
  v42

def k0_off9 (i : grid0.Coords) : Fin 2 → Nat :=
  let c1_22 : Index := 1#32
  let arg1 : BitVec 32 := BitVec.ofNat 32 (i 1).val
  let c128_i32 : BitVec 32 := 128#32
  let v8 : BitVec 32 := Scalar.muli arg1 c128_i32
  let v9 : BitVec 32 := v8
  let v46 : Index := Scalar.indexCast v9
  ![1, v46.toNat]
def k0_cond5 (i : grid0.Coords) : BitVec 1 :=
  let arg1 : BitVec 32 := BitVec.ofNat 32 (i 1).val
  let c55_i32 : BitVec 32 := 55#32
  let v43 : BitVec 1 := Scalar.cmpi .eq arg1 c55_i32
  let v44 : BitVec 32 := Scalar.extui v43
  let c0_i32_21 : BitVec 32 := 0#32
  let v45 : BitVec 1 := Scalar.cmpi .ne v44 c0_i32_21
  v45

def k0_cond6 (i : grid0.Coords) : BitVec 1 :=
  let arg0 : BitVec 32 := BitVec.ofNat 32 (i 0).val
  let c0_i32_26 : BitVec 32 := 0#32
  let v51 : BitVec 1 := Scalar.cmpi .eq arg0 c0_i32_26
  let v52 : BitVec 32 := Scalar.extui v51
  let c0_i32_27 : BitVec 32 := 0#32
  let v53 : BitVec 1 := Scalar.cmpi .ne v52 c0_i32_27
  v53

def k0_cond7 (i : grid0.Coords) : BitVec 1 :=
  let arg0 : BitVec 32 := BitVec.ofNat 32 (i 0).val
  let c1_i32_28 : BitVec 32 := 1#32
  let v54 : BitVec 1 := Scalar.cmpi .eq arg0 c1_i32_28
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== StatsIdeal.lean ====
variable {F : FTy → Type} [FloatOps F] [Named F]
def κ : String → Option EReal := fun
  | "g2" => some ((1 / 1000 : ℝ) : EReal)
  | "norm_c" => some ((999 / 16 : ℝ) : EReal)
  | _ => none
-- ==== StatsRefIdeal.lean ====
abbrev S2x7168 : Shape := ⟨2, ![2, 7168]⟩
abbrev S2x8192 : Shape := ⟨2, ![2, 8192]⟩
abbrev S2x7168x8192 : Shape := ⟨3, ![2, 7168, 8192]⟩
abbrev S2x7168x4096 : Shape := ⟨3, ![2, 7168, 4096]⟩
abbrev S_ : Shape := ⟨0, ![]⟩
abbrev S2x7168x4096x1 : Shape := ⟨4, ![2, 7168, 4096, 1]⟩
abbrev S2x7168x4096x2 : Shape := ⟨4, ![2, 7168, 4096, 2]⟩
abbrev S2x7168x1 : Shape := ⟨3, ![2, 7168, 1]⟩
abbrev S2x1x8192 : Shape := ⟨3, ![2, 1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x7168, .f32⟩
  | .hbm, ⟨1, _⟩ => ⟨S2x8192, .f32⟩
  | .hbm, ⟨2, _⟩ => ⟨S2x7168x8192, .bf16⟩
  | .hbm, ⟨3, _⟩ => ⟨S2x7168x4096, .i8⟩
  | .hbm, ⟨4, _⟩ => ⟨S2x7168x8192, .f32⟩
  | .hbm, ⟨5, _⟩ => ⟨S2x7168x4096, .i32⟩
  | .hbm, ⟨6, _⟩ => ⟨S_, .i32⟩
  | .hbm, ⟨7, _⟩ => ⟨S2x7168x4096, .i32⟩
  | .hbm, ⟨8, _⟩ => ⟨S2x7168x4096, .i32⟩
  | .hbm, ⟨9, _⟩ => ⟨S_, .i32⟩
  | .hbm, ⟨10, _⟩ => ⟨S2x7168x4096, .i32⟩
  | .hbm, ⟨11, _⟩ => ⟨S2x7168x4096, .i32⟩
  | .hbm, ⟨12, _⟩ => ⟨S2x7168x4096x1, .i32⟩
  | .hbm, ⟨13, _⟩ => ⟨S2x7168x4096x1, .i32⟩
  | .hbm, ⟨14, _⟩ => ⟨S2x7168x4096x2, .i32⟩
  | .hbm, ⟨15, _⟩ => ⟨S2x7168x8192, .i32⟩
  | .hbm, ⟨16, _⟩ => ⟨S2x7168x8192, .f32⟩
  | .hbm, ⟨17, _⟩ => ⟨S_, .f32⟩
  | .hbm, ⟨18, _⟩ => ⟨S2x7168x8192, .f32⟩
  | .hbm, ⟨19, _⟩ => ⟨S2x7168x8192, .f32⟩
  | .hbm, ⟨20, _⟩ => ⟨S_, .f32⟩
  | .hbm, ⟨21, _⟩ => ⟨S2x7168x8192, .f32⟩
  | .hbm, ⟨22, _⟩ => ⟨S2x7168x8192, .f32⟩
  | .hbm, ⟨23, _⟩ => ⟨S2x7168x1, .f32⟩
  | .hbm, ⟨24, _⟩ => ⟨S2x1x8192, .f32⟩
  | .hbm, ⟨25, _⟩ => ⟨S2x7168x8192, .f32⟩
  | .hbm, ⟨26, _⟩ => ⟨S2x7168x8192, .f32⟩
  | .hbm, ⟨27, _⟩ => ⟨S2x7168x8192, .f32⟩
  | .hbm, ⟨28, _⟩ => ⟨S2x7168x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x7168x8192, .f32⟩
  | .hbm, ⟨33, _⟩ => ⟨S2x7168x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x7168x8192, .f32⟩
  | .hbm, ⟨40, _⟩ => ⟨S2x7168x8192, .f32⟩
  | .hbm, ⟨41, _⟩ => ⟨S2x7168x8192, .f32⟩
  | .hbm, ⟨42, _⟩ => ⟨S2x7168x8192, .f32⟩
  | .hbm, ⟨43, _⟩ => ⟨S_, .f32⟩
  | .hbm, ⟨44, _⟩ => ⟨S2x7168, .f32⟩
  | .hbm, ⟨45, _⟩ => ⟨S_, .f32⟩
  | .hbm, ⟨46, _⟩ => ⟨S2x8192, .f32⟩
  | _, _ => ⟨S2x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Update.lean ====
abbrev S2x7168x8192 : Shape := ⟨3, ![2, 7168, 8192]⟩
abbrev S_ : Shape := ⟨0, ![]⟩
abbrev S2x7168x4096 : Shape := ⟨3, ![2, 7168, 4096]⟩
abbrev S2x56x8192 : Shape := ⟨3, ![2, 56, 8192]⟩
abbrev S2x7168 : Shape := ⟨2, ![2, 7168]⟩
abbrev S2x8192 : Shape := ⟨2, ![2, 8192]⟩
abbrev S1 : Shape := ⟨1, ![1]⟩
abbrev S2 : Shape := ⟨1, ![2]⟩
abbrev S1x56x8192 : Shape := ⟨3, ![1, 56, 8192]⟩
abbrev S1x128x8192 : Shape := ⟨3, ![1, 128, 8192]⟩
abbrev S1x128x4096 : Shape := ⟨3, ![1, 128, 4096]⟩
abbrev S256x256 : Shape := ⟨2, ![256, 256]⟩
abbrev S256x128 : Shape := ⟨2, ![256, 128]⟩
abbrev S128x128 : Shape := ⟨2, ![128, 128]⟩
abbrev S1x128 : Shape := ⟨2, ![1, 128]⟩
abbrev S1x256 : Shape := ⟨2, ![1, 256]⟩
abbrev S1x128x128 : Shape := ⟨3, ![1, 128, 128]⟩
abbrev S32x128 : Shape := ⟨2, ![32, 128]⟩
abbrev S128x256 : Shape := ⟨2, ![128, 256]⟩
abbrev S1x128x256 : Shape := ⟨3, ![1, 128, 256]⟩
abbrev S1x1x256 : Shape := ⟨3, ![1, 1, 256]⟩
abbrev S256 : Shape := ⟨1, ![256]⟩

abbrev nBuf : Space → Nat
  | .hbm => 40
  | .vmem => 26
  | .smem => 1
  | _ => 0

abbrev bufTy : (tb : Table) → Fin (tcTables nBuf tb) → BufTy
  | .hbm, ⟨0, _⟩ => ⟨S2x7168x8192, .bf16⟩
  | .hbm, ⟨1, _⟩ => ⟨S2x7168x8192, .bf16⟩
  | .hbm, ⟨2, _⟩ => ⟨S_, .i32⟩
  | .hbm, ⟨3, _⟩ => ⟨S2x7168x4096, .i8⟩
  | .hbm, ⟨4, _⟩ => ⟨S2x56x8192, .f32⟩
  | .hbm, ⟨5, _⟩ => ⟨S2x7168x4096, .i8⟩
  | .hbm, ⟨6, _⟩ => ⟨S2x7168, .f32⟩
  | .hbm, ⟨7, _⟩ => ⟨S2x8192, .f32⟩
  | .hbm, ⟨8, _⟩ => ⟨S2x7168, .f32⟩
  | .hbm, ⟨9, _⟩ => ⟨S2x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S2, .f32⟩
  | .hbm, ⟨36, _⟩ => ⟨S2x7168x8192, .f32⟩
  | .hbm, ⟨37, _⟩ => ⟨S2x7168x4096, .i8⟩
  | .hbm, ⟨38, _⟩ => ⟨S2x56x8192, .f32⟩
  | .hbm, ⟨39, _⟩ => ⟨S2x7168x4096, .i8⟩
  | .local _ .vmem, ⟨0, _⟩ => ⟨S2x7168, .f32⟩
  | .local _ .vmem, ⟨1, _⟩ => ⟨S2x8192, .f32⟩
  | .local _ .vmem, ⟨2, _⟩ => ⟨S2x7168, .f32⟩
  | .local _ .vmem, ⟨3, _⟩ => ⟨S2x8192, .f32⟩
  | .local _ .vmem, ⟨4, _⟩ => ⟨S1x56x8192, .f32⟩
  | .local _ .vmem, ⟨5, _⟩ => ⟨S1x56x8192, .f32⟩
  | .local _ .vmem, ⟨6, _⟩ => ⟨S1x128x8192, .bf16⟩
  | .local _ .vmem, ⟨7, _⟩ => ⟨S1x128x8192, .bf16⟩
  | .local _ .vmem, ⟨8, _⟩ => ⟨S1x128x8192, .bf16⟩
  | .local _ .vmem, ⟨9, _⟩ => ⟨S1x128x8192, .bf16⟩
  | .local _ .vmem, ⟨10, _⟩ => ⟨S1x128x4096, .i8⟩
  | .local _ .vmem, ⟨11, _⟩ => ⟨S1x128x4096, .i8⟩
  | .local _ .vmem, ⟨12, _⟩ => ⟨S1x128x4096, .i8⟩
  | .local _ .vmem, ⟨13, _⟩ => ⟨S1x128x4096, .i8⟩
  | .local _ .vmem, ⟨14, _⟩ => ⟨S1x128x8192, .f32⟩
  | .local _ .vmem, ⟨15, _⟩ => ⟨S1x128x8192, .f32⟩
  | .local _ .vmem, ⟨16, _⟩ => ⟨S1x128x4096, .i8⟩
  | .local _ .vmem, ⟨17, _⟩ => ⟨S1x128x4096, .i8⟩
  | .local _ .vmem, ⟨18, _⟩ => ⟨S1x56x8192, .f32⟩
  | .local _ .vmem, ⟨19, _⟩ => ⟨S1x56x8192, .f32⟩
  | .local _ .vmem, ⟨20, _⟩ => ⟨S1x128x4096, .i8⟩
  | .local _ .vmem, ⟨21, _⟩ => ⟨S1x128x4096, .i8⟩
  | .local _ .vmem, ⟨22, _⟩ => ⟨S256x256, .bf16⟩
  | .local _ .vmem, ⟨23, _⟩ => ⟨S256x128, .bf16⟩
  | .local _ .vmem, ⟨24, _⟩ => ⟨S128x128, .f32⟩
  | .local _ .vmem, ⟨25, _⟩ => ⟨S128x128, .f32⟩
  | .local _ .smem, ⟨0, _⟩ => ⟨S2, .f32⟩
  | _, _ => ⟨S2x7168x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_cst_3 : Ref sig .tc := ⟨.hbm, 19, rfl⟩
abbrev main_cst_4 : Ref sig .tc := ⟨.hbm, 20, rfl⟩
abbrev main_v5 : Ref sig .tc := ⟨.hbm, 21, rfl⟩
abbrev main_v6 : Ref sig .tc := ⟨.hbm, 22, rfl⟩
abbrev main_cst_5 : Ref sig .tc := ⟨.hbm, 23, rfl⟩
abbrev main_cst_6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_7 : Ref sig .tc := ⟨.hbm, 29, rfl⟩
abbrev main_cst_8 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 56], ![false, false]⟩

def k0_mult1 (i : grid0.Coords) : BitVec 32 :=
  let arg1 : BitVec 32 := BitVec.ofNat 32 (i 1).val
  let c128_i32 : BitVec 32 := 128#32
  let v5 : BitVec 32 := Scalar.muli arg1 c128_i32
  v5
def k0_off1 (i : grid0.Coords) : Fin 2 → Nat :=
  let c0 : Index := 0#32
  let arg1 : BitVec 32 := BitVec.ofNat 32 (i 1).val
  let c128_i32 : BitVec 32 := 128#32
  let v5 : BitVec 32 := Scalar.muli arg1 c128_i32
  let v6 : BitVec 32 := v5
  let v8 : Index := Scalar.indexCast v6
  ![0, v8.toNat]
def k0_off2 (i : grid0.Coords) : Fin 2 → Nat :=
  let c1 : Index := 1#32
  let arg1 : BitVec 32 := BitVec.ofNat 32 (i 1).val
  let c128_i32 : BitVec 32 := 128#32
  let v5 : BitVec 32 := Scalar.muli arg1 c128_i32
  let v6 : BitVec 32 := v5
  let v10 : Index := Scalar.indexCast v6
  ![1, v10.toNat]
@[reducible] def k0_t1_loop : Scf.Loop 32 :=
  let c0_i32_16 : BitVec 32 := 0#32
  let c32_i32 : BitVec 32 := 32#32
  let v43 : BitVec 32 := Scalar.addi c0_i32_16 c32_i32
  let c1_i32 : BitVec 32 := 1#32
  ⟨c0_i32_16, v43, c1_i32⟩
def k0_mult2 (k0_t1 : Fin k0_t1_loop.trips) : BitVec 32 :=
  let c0_i32_16 : BitVec 32 := 0#32
  let c1_i32 : BitVec 32 := 1#32
  let arg20 : BitVec 32 := Scf.iv c0_i32_16 c1_i32 k0_t1
  let c128_i32_18 : BitVec 32 := 128#32
  let v44 : BitVec 32 := Scalar.muli arg20 c128_i32_18
  v44
def k0_mult3 (k0_t1 : Fin k0_t1_loop.trips) : BitVec 32 :=
  let c0_i32_16 : BitVec 32 := 0#32
  let c1_i32 : BitVec 32 := 1#32
  let arg20 : BitVec 32 := Scf.iv c0_i32_16 c1_i32 k0_t1
  let c256_i32 : BitVec 32 := 256#32
  let v46 : BitVec 32 := Scalar.muli arg20 c256_i32
  v46
def k0_off3 (k0_t1 : Fin k0_t1_loop.trips) : Fin 2 → Nat :=
  let c0_20 : Index := 0#32
  let c0_i32_16 : BitVec 32 := 0#32
  let c1_i32 : BitVec 32 := 1#32
  let arg20 : BitVec 32 := Scf.iv c0_i32_16 c1_i32 k0_t1
  let c256_i32 : BitVec 32 := 256#32
  let v46 : BitVec 32 := Scalar.muli arg20 c256_i32
  let v47 : BitVec 32 := v46
  let v49 : Index := Scalar.indexCast v47
  ![0, v49.toNat]
def k0_off4 (k0_t1 : Fin k0_t1_loop.trips) : Fin 2 → Nat :=
  let c1_21 : Index := 1#32
  let c0_i32_16 : BitVec 32 := 0#32
  let c1_i32 : BitVec 32 := 1#32
  let arg20 : BitVec 32 := Scf.iv c0_i32_16 c1_i32 k0_t1
  let c256_i32 : BitVec 32 := 256#32
  let v46 : BitVec 32 := Scalar.muli arg20 c256_i32
  let v47 : BitVec 32 := v46
  let v51 : Index := Scalar.indexCast v47
  ![1, v51.toNat]
def k0_off5 (k0_t1 : Fin k0_t1_loop.trips) : Fin 3 → Nat :=
  let c0_24 : Index := 0#32
  let c0_25 : Index := 0#32
  let c0_i32_16 : BitVec 32 := 0#32
  let c1_i32 : BitVec 32 := 1#32
  let arg20 : BitVec 32 := Scf.iv c0_i32_16 c1_i32 k0_t1
  let c128_i32_18 : BitVec 32 := 128#32
  let v44 : BitVec 32 := Scalar.muli arg20 c128_i32_18
  let v45 : BitVec 32 := v44
  let v58 : Index := Scalar.indexCast v45
  ![0, 0, v58.toNat]
def k0_off6 (k0_t1 : Fin k0_t1_loop.trips) : Fin 3 → Nat :=
  let c0_31 : Index := 0#32
  let c0_32 : Index := 0#32
  let c0_i32_16 : BitVec 32 := 0#32
  let c1_i32 : BitVec 32 := 1#32
  let arg20 : BitVec 32 := Scf.iv c0_i32_16 c1_i32 k0_t1
  let c256_i32 : BitVec 32 := 256#32
  let v46 : BitVec 32 := Scalar.muli arg20 c256_i32
  let v47 : BitVec 32 := v46
  let v79 : Index := Scalar.indexCast v47
  ![0, 0, v79.toNat]
def k0_off7 (i : grid0.Coords) (k0_t1 : Fin k0_t1_loop.trips) : Fin 3 → Nat :=
  let c0_42 : Index := 0#32
  let arg1 : BitVec 32 := BitVec.ofNat 32 (i 1).val
  let v107 : Index := Scalar.indexCast arg1
  let c0_i32_16 : BitVec 32 := 0#32
  let c1_i32 : BitVec 32 := 1#32
  let arg20 : BitVec 32 := Scf.iv c0_i32_16 c1_i32 k0_t1
  let c256_i32 : BitVec 32 := 256#32
  let v46 : BitVec 32 := Scalar.muli arg20 c256_i32
  let v47 : BitVec 32 := v46
  let v108 : Index := Scalar.indexCast v47
  ![0, v107.toNat, v108.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x56x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x4096 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x4096 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x56x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x4096 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== UpdateIdeal.lean ====
variable {F : FTy → Type} [FloatOps F] [Named F]
def κ : String → Option EReal := fun
  | "g1q" => some ((1 / 70 : ℝ) : EReal)
  | "lrwd" => some ((3 / 100000 : ℝ) : EReal)
  | "m_c" => some ((9 / 16 : ℝ) : EReal)
  | "norm_c" => some ((999 / 16 : ℝ) : EReal)
  | "v16g2" => some ((2 / 125 : ℝ) : EReal)
  | _ => none
-- ==== UpdateRefIdeal.lean ====
abbrev S2x7168x8192 : Shape := ⟨3, ![2, 7168, 8192]⟩
abbrev S_ : Shape := ⟨0, ![]⟩
abbrev S2x7168x4096 : Shape := ⟨3, ![2, 7168, 4096]⟩
abbrev S2x56x8192 : Shape := ⟨3, ![2, 56, 8192]⟩
abbrev S2x7168 : Shape := ⟨2, ![2, 7168]⟩
abbrev S2x8192 : Shape := ⟨2, ![2, 8192]⟩
abbrev S2x7168x4096x1 : Shape := ⟨4, ![2, 7168, 4096, 1]⟩
abbrev S2x7168x4096x2 : Shape := ⟨4, ![2, 7168, 4096, 2]⟩
abbrev S2x56x128x8192 : Shape := ⟨4, ![2, 56, 128, 8192]⟩
abbrev S2x56x1x8192 : Shape := ⟨4, ![2, 56, 1, 8192]⟩
abbrev S2x7168x1 : Shape := ⟨3, ![2, 7168, 1]⟩
abbrev S2x1x8192 : Shape := ⟨3, ![2, 1, 8192]⟩

abbrev nBuf : Space → Nat
  | .hbm => 194
  | .vmem => 0
  | .smem => 0
  | _ => 0

abbrev hbmTy0_0 (i : Nat) : BufTy := match i % 128 with
  | 0 => ⟨S2x7168x8192, .bf16⟩
  | 1 => ⟨S2x7168x8192, .bf16⟩
  | 2 => ⟨S_, .i32⟩
  | 3 => ⟨S2x7168x4096, .i8⟩
  | 4 => ⟨S2x56x8192, .f32⟩
  | 5 => ⟨S2x7168x4096, .i8⟩
  | 6 => ⟨S2x7168, .f32⟩
  | 7 => ⟨S2x8192, .f32⟩
  | 8 => ⟨S2x7168, .f32⟩
  | 9 => ⟨S2x8192, .f32⟩
  | 10 => ⟨S2x7168x8192, .f32⟩
  | 11 => ⟨S2x7168x4096, .i32⟩
  | 12 => ⟨S_, .i32⟩
  | 13 => ⟨S2x7168x4096, .i32⟩
  | 14 => ⟨S2x7168x4096, .i32⟩
  | 15 => ⟨S_, .i32⟩
  | 16 => ⟨S2x7168x4096, .i32⟩
  | 17 => ⟨S2x7168x4096, .i32⟩
  | 18 => ⟨S2x7168x4096x1, .i32⟩
  | 19 => ⟨S2x7168x4096x1, .i32⟩
  | 20 => ⟨S2x7168x4096x2, .i32⟩
  | 21 => ⟨S2x7168x8192, .i32⟩
  | 22 => ⟨S_, .i32⟩
  | 23 => ⟨S2x7168x8192, .i32⟩
  | 24 => ⟨S2x7168x8192, .i1⟩
  | 25 => ⟨S_, .i32⟩
  | 26 => ⟨S2x7168x8192, .i32⟩
  | 27 => ⟨S2x7168x8192, .i32⟩
  | 28 => ⟨S2x7168x8192, .i32⟩
  | 29 => ⟨S2x7168x8192, .f32⟩
  | 30 => ⟨S2x56x128x8192, .f32⟩
  | 31 => ⟨S2x56x1x8192, .f32⟩
  | 32 => ⟨S2x56x128x8192, .f32⟩
  | 33 => ⟨S2x56x128x8192, .f32⟩
  | 34 => ⟨S2x7168x8192, .f32⟩
  | 35 => ⟨S_, .f32⟩
  | 36 => ⟨S_, .f32⟩
  | 37 => ⟨S_, .f32⟩
  | 38 => ⟨S2x7168x8192, .f32⟩
  | 39 => ⟨S2x7168x8192, .f32⟩
  | 40 => ⟨S_, .f32⟩
  | 41 => ⟨S_, .f32⟩
  | 42 => ⟨S_, .f32⟩
  | 43 => ⟨S_, .f32⟩
  | 44 => ⟨S_, .f32⟩
  | 45 => ⟨S2x7168x8192, .f32⟩
  | 46 => ⟨S2x7168x8192, .f32⟩
  | 47 => ⟨S2x7168x8192, .f32⟩
  | 48 => ⟨S2x7168x4096, .i32⟩
  | 49 => ⟨S_, .i32⟩
  | 50 => ⟨S2x7168x4096, .i32⟩
  | 51 => ⟨S2x7168x4096, .i32⟩
  | 52 => ⟨S_, .i32⟩
  | 53 => ⟨S2x7168x4096, .i32⟩
  | 54 => ⟨S2x7168x4096, .i32⟩
  | 55 => ⟨S2x7168x4096x1, .i32⟩
  | 56 => ⟨S2x7168x4096x1, .i32⟩
  | 57 => ⟨S2x7168x4096x2, .i32⟩
  | 58 => ⟨S2x7168x8192, .i32⟩
  | 59 => ⟨S2x7168x8192, .f32⟩
  | 60 => ⟨S_, .f32⟩
  | 61 => ⟨S2x7168x8192, .f32⟩
  | 62 => ⟨S2x7168x8192, .f32⟩
  | 63 => ⟨S_, .f32⟩
  | 64 => ⟨S2x7168x8192, .f32⟩
  | 65 => ⟨S2x7168x8192, .f32⟩
  | 66 => ⟨S2x7168x1, .f32⟩
  | 67 => ⟨S2x1x8192, .f32⟩
  | 68 => ⟨S2x7168x8192, .f32⟩
  | 69 => ⟨S2x7168x8192, .f32⟩
  | 70 => ⟨S2x7168x8192, .f32⟩
  | 71 => ⟨S2x7168x8192, .f32⟩
  | 72 => ⟨S_, .f32⟩
  | 73 => ⟨S_, .f32⟩
  | 74 => ⟨S_, .f32⟩
  | 75 => ⟨S2x7168x8192, .f32⟩
  | 76 => ⟨S2x7168x8192, .f32⟩
  | 77 => ⟨S_, .f32⟩
  | 78 => ⟨S_, .f32⟩
  | 79 => ⟨S_, .f32⟩
  | 80 => ⟨S_, .f32⟩
  | 81 => ⟨S_, .f32⟩
  | 82 => ⟨S2x7168x8192, .f32⟩
  | 83 => ⟨S2x7168x8192, .f32⟩
  | 84 => ⟨S2x7168x8192, .f32⟩
  | 85 => ⟨S2x7168x8192, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S2x7168x8192, .f32⟩
  | 105 => ⟨S2x7168x8192, .f32⟩
  | 106 => ⟨S2x7168x8192, .f32⟩
  | 107 => ⟨S2x7168x8192, .f32⟩
  | 108 => ⟨S2x7168x8192, .f32⟩
  | 109 => ⟨S2x7168x8192, .f32⟩
  | 110 => ⟨S2x7168x8192, .f32⟩
  | 111 => ⟨S2x7168x8192, .f32⟩
  | 112 => ⟨S2x7168x8192, .f32⟩
  | 113 => ⟨S2x7168x8192, .f32⟩
  | 114 => ⟨S2x7168x8192, .f32⟩
  | 115 => ⟨S2x7168x8192, .f32⟩
  | 116 => ⟨S2x7168x8192, .f32⟩
  | 117 => ⟨S2x7168x8192, .f32⟩
  | 118 => ⟨S2x56x128x8192, .f32⟩
  | 119 => ⟨S2x56x128x8192, .f32⟩
  | 120 => ⟨S_, .f32⟩
  | 121 => ⟨S2x56x8192, .f32⟩
  | 122 => ⟨S_, .f32⟩
  | 123 => ⟨S2x56x8192, .f32⟩
  | 124 => ⟨S2x56x8192, .i1⟩
  | 125 => ⟨S_, .f32⟩
  | 126 => ⟨S2x56x8192, .f32⟩
  | 127 => ⟨S2x56x8192, .f32⟩
  | _ => ⟨S2x7168x8192, .bf16⟩

abbrev hbmTy0_1 (i : Nat) : BufTy := match i % 128 with
  | 0 => ⟨S_, .f32⟩
  | 1 => ⟨S_, .f32⟩
  | 2 => ⟨S2x56x8192, .f32⟩
  | 3 => ⟨S2x56x8192, .f32⟩
  | 4 => ⟨S2x56x1x8192, .f32⟩
  | 5 => ⟨S2x56x128x8192, .f32⟩
  | 6 => ⟨S2x56x128x8192, .f32⟩
  | 7 => ⟨S2x56x128x8192, .f32⟩
  | 8 => ⟨S_, .f32⟩
  | 9 => ⟨S_, .f32⟩
  | 10 => ⟨S_, .f32⟩
  | 11 => ⟨S2x56x128x8192, .f32⟩
  | 12 => ⟨S2x56x128x8192, .f32⟩
  | 13 => ⟨S_, .f32⟩
  | 14 => ⟨S2x56x128x8192, .f32⟩
  | 15 => ⟨S2x56x128x8192, .f32⟩
  | 16 => ⟨S2x56x128x8192, .i32⟩
  | 17 => ⟨S2x7168x8192, .i32⟩
  | 18 => ⟨S2x7168x1, .f32⟩
  | 19 => ⟨S2x1x8192, .f32⟩
  | 20 => ⟨S2x7168x8192, .f32⟩
  | 21 => ⟨S2x7168x8192, .f32⟩
  | 22 => ⟨S2x7168x8192, .f32⟩
  | 23 => ⟨S_, .f32⟩
  | 24 => ⟨S2x7168x8192, .f32⟩
  | 25 => ⟨S2x7168x8192, .f32⟩
  | 26 => ⟨S2x7168x8192, .f32⟩
  | 27 => ⟨S_, .f32⟩
  | 28 => ⟨S2x7168x8192, .f32⟩
  | 29 => ⟨S2x7168x8192, .f32⟩
  | 30 => ⟨S2x7168x8192, .f32⟩
  | 31 => ⟨S_, .f32⟩
  | 32 => ⟨S_, .f32⟩
  | 33 => ⟨S_, .f32⟩
  | 34 => ⟨S2x7168x8192, .f32⟩
  | 35 => ⟨S2x7168x8192, .f32⟩
  | 36 => ⟨S_, .f32⟩
  | 37 => ⟨S2x7168x8192, .f32⟩
  | 38 => ⟨S2x7168x8192, .f32⟩
  | 39 => ⟨S2x7168x8192, .i32⟩
  | 40 => ⟨S_, .i32⟩
  | 41 => ⟨S2x7168x8192, .i32⟩
  | 42 => ⟨S2x7168x8192, .i32⟩
  | 43 => ⟨S2x7168x4096x2, .i32⟩
  | 44 => ⟨S2x7168x4096x1, .i32⟩
  | 45 => ⟨S2x7168x4096, .i32⟩
  | 46 => ⟨S2x7168x4096x1, .i32⟩
  | 47 => ⟨S2x7168x4096, .i32⟩
  | 48 => ⟨S_, .i32⟩
  | 49 => ⟨S2x7168x4096, .i32⟩
  | 50 => ⟨S2x7168x4096, .i32⟩
  | 51 => ⟨S2x7168x4096, .i32⟩
  | 52 => ⟨S2x7168x4096, .i8⟩
  | 53 => ⟨S_, .i32⟩
  | 54 => ⟨S2x7168x8192, .i32⟩
  | 55 => ⟨S2x7168x8192, .i32⟩
  | 56 => ⟨S2x7168x4096x2, .i32⟩
  | 57 => ⟨S2x7168x4096x1, .i32⟩
  | 58 => ⟨S2x7168x4096, .i32⟩
  | 59 => ⟨S2x7168x4096x1, .i32⟩
  | 60 => ⟨S2x7168x4096, .i32⟩
  | 61 => ⟨S_, .i32⟩
  | 62 => ⟨S2x7168x4096, .i32⟩
  | 63 => ⟨S2x7168x4096, .i32⟩
  | 64 => ⟨S2x7168x4096, .i32⟩
  | 65 => ⟨S2x7168x4096, .i8⟩
  | _ => ⟨S2x7168x8192, .bf16⟩

abbrev hbmTy (i : Nat) : BufTy := match i / 128 with
  | 0 => hbmTy0_0 i
  | 1 => hbmTy0_1 i
  | _ => ⟨S2x7168x8192, .bf16⟩

abbrev bufTy : (tb : Table) → Fin (tcTables nBuf tb) → BufTy
  | .hbm, ⟨i, _⟩ => hbmTy i
  | _, _ => ⟨S2x7168x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_cst_14 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_cst_18 : Ref sig .tc := ⟨.hbm, 91, rfl⟩
abbrev main_v61 : Ref sig .tc := ⟨.hbm, 92, rfl⟩
abbrev main_cst_19 : Ref sig .tc := ⟨.hbm, 93, rfl⟩
abbrev main_v62 : Ref sig .tc := ⟨.hbm, 94, rfl⟩
abbrev main_cst_20 : Ref sig .tc := ⟨.hbm, 95, rfl⟩
abbrev main_cst_21 : Ref sig .tc := ⟨.hbm, 96, rfl⟩
abbrev main_v63 : Ref sig .tc := ⟨.hbm, 97, rfl⟩
abbrev main_cst_22 : Ref sig .tc := ⟨.hbm, 98, rfl⟩
abbrev main_cst_23 : Ref sig .tc := ⟨.hbm, 99, rfl⟩
abbrev main_v64 : Ref sig .tc := ⟨.hbm, 100, rfl⟩
abbrev main_cst_24 : Ref sig .tc := ⟨.hbm, 101, rfl⟩
abbrev main_cst_25 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_26 : Ref sig .tc := ⟨.hbm, 120, rfl⟩
abbrev main_v82 : Ref sig .tc := ⟨.hbm, 121, rfl⟩
abbrev main_cst_27 : Ref sig .tc := ⟨.hbm, 122, rfl⟩
abbrev main_v83 : Ref sig .tc := ⟨.hbm, 123, rfl⟩
abbrev main_v84 : Ref sig .tc := ⟨.hbm, 124, rfl⟩
abbrev main_cst_28 : Ref sig .tc := ⟨.hbm, 125, rfl⟩
abbrev main_v85 : Ref sig .tc := ⟨.hbm, 126, rfl⟩
abbrev main_v86 : Ref sig .tc := ⟨.hbm, 127, rfl⟩
abbrev main_cst_29 : Ref sig .tc := ⟨.hbm, 128, rfl⟩
abbrev main_call1_v0 : Ref sig .tc := ⟨.hbm, 129, rfl⟩
abbrev main_call1_v1 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_30 : Ref sig .tc := ⟨.hbm, 136, rfl⟩
abbrev main_cst_31 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_32 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_33 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_34 : Ref sig .tc := ⟨.hbm, 159, rfl⟩
abbrev main_cst_35 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v106 : Ref sig .tc := ⟨.hbm, 166, rfl⟩
abbrev main_v107 : Ref sig .tc := ⟨.hbm, 167, rfl⟩
abbrev main_c_36 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_c_37 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_38 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_c_39 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩

abbrev nD : Nat := 1
abbrev τ : Topo := Topo.v7x

variable {F : FTy → Type} [FloatOps F]
-- ==== Proof.StatsRun.Runs.lean ====
/- What the runs of the kernel body of `Stats` share: the staging memrefs, the conditions on the grid point, each input block. -/
module

public import proofs.«01_k».proof.Proof.Gen.Stats.Launch
public import proofs.«01_k».proof.Proof.Gen.Stats.Skeleton
public import proofs.«01_k».proof.Proof.Gen.Stats.Loops
public import proofs.«01_k».proof.Proof.Gen.Stats.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Stats`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 112 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 56) — by arithmetic of the point. -/
theorem hcond0_1 : ∀ t : Fin cfg0.N, cond0_1 (grid0.coords t) ↔ t.val % 56 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_1, e0, e1]
    word_cmp
   : ∀ t : Fin grid0.N, cond0_1 (grid0.coords t) ↔ t.val % 56 = 0)

/-- The condition of the body's `scf.if` 2 (`k0_h3`), from the grid coordinates (the skeleton's scalar
    chain substituted). -/
abbrev cond0_2 (i : grid0.Coords) : Prop := k0_cond3 i = 1#1
/-- It holds at the points before point 56 — by arithmetic of the point. -/
theorem hcond0_2 : ∀ t : Fin cfg0.N, cond0_2 (grid0.coords t) ↔ t.val < 56 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_2, k0_cond3, e0, e1]
    word_cmp
   : ∀ t : Fin grid0.N, cond0_2 (grid0.coords t) ↔ t.val < 56)

/-- The condition of the body's `scf.if` 3 (`k0_h4`), from the grid coordinates (the skeleton's scalar
    chain substituted). -/
abbrev cond0_3 (i : grid0.Coords) : Prop := k0_cond4 i = 1#1
/-- It holds at the points from point 56 on — by arithmetic of the point. -/
theorem hcond0_3 : ∀ t : Fin cfg0.N, cond0_3 (grid0.coords t) ↔ 56 ≤ t.val :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_3, k0_cond4, e0, e1]
    word_cmp
   : ∀ t : Fin grid0.N, cond0_3 (grid0.coords t) ↔ 56 ≤ t.val)

/-- The condition of the body's `scf.if` 4 (`k0_h5`), from the grid coordinates (the skeleton's scalar
    chain substituted). -/
abbrev cond0_4 (i : grid0.Coords) : Prop := k0_cond5 i = 1#1
/-- It holds at the points ≡ 55 (mod 56) — by arithmetic of the point. -/
theorem hcond0_4 : ∀ t : Fin cfg0.N, cond0_4 (grid0.coords t) ↔ t.val % 56 = 55 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_4, k0_cond5, e0, e1]
    word_cmp
   : ∀ t : Fin grid0.N, cond0_4 (grid0.coords t) ↔ t.val % 56 = 55)

/-- The condition of the body's `scf.if` 5 (`k0_h6`), from the grid coordinates (the skeleton's scalar
    chain substituted). -/
abbrev cond0_5 (i : grid0.Coords) : Prop := k0_cond6 i = 1#1
/-- It holds at the points before point 56 — by arithmetic of the point. -/
theorem hcond0_5 : ∀ t : Fin cfg0.N, cond0_5 (grid0.coords t) ↔ t.val < 56 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_5, k0_cond6, e0, e1]
    word_cmp
   : ∀ t : Fin grid0.N, cond0_5 (grid0.coords t) ↔ t.val < 56)

/-- The condition of the body's `scf.if` 6 (`k0_h7`), from the grid coordinates (the skeleton's scalar
    chain substituted). -/
abbrev cond0_6 (i : grid0.Coords) : Prop := k0_cond7 i = 1#1
/-- It holds at the points from point 56 on — by arithmetic of the point. -/
theorem hcond0_6 : ∀ t : Fin cfg0.N, cond0_6 (grid0.coords t) ↔ 56 ≤ t.val :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_6, k0_cond7, e0, e1]
    word_cmp
   : ∀ t : Fin grid0.N, cond0_6 (grid0.coords t) ↔ 56 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x7168 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8192 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x256 .bf16 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S8x8192 .f32 := Memref.whole cc0_scratch3
/-- The scratch `arg8` the kernel carries between points, as a view: what it holds is stated through it. -/
abbrev VS0_0 : View sig .tc .vmem S256x256 .bf16 := scM0_0.view
/-- The scratch `arg11` the kernel carries between points, as a view: what it holds is stated through it. -/
abbrev VS0_3 : View sig .tc .vmem S8x8192 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Stats.Run

end
-- ==== Proof.StatsRun.RunA.lean ====
/- The kernel body of `Stats`, run in one case of its conditionals. -/
module

public import proofs.«01_k».proof.Proof.StatsRun.Runs

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_A (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.RunB.lean ====
/- The kernel body of `Stats`, run in one case of its conditionals. -/
module

public import proofs.«01_k».proof.Proof.StatsRun.RunA

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken, `scf.if` 3 not taken, `scf.if` 4 not taken: points 1, 2, … 54: 54 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_B (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg11.eq_unread hfs3
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.RunC.lean ====
/- The kernel body of `Stats`, run in one case of its conditionals. -/
module

public import proofs.«01_k».proof.Proof.StatsRun.RunB

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 taken, `scf.if` 5 taken, `scf.if` 6 not taken: points 55), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_C (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : cond0_4 i) (hc5 : cond0_5 i) (hc6 : ¬cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg11.eq_unread hfs3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.RunD.lean ====
/- The kernel body of `Stats`, run in one case of its conditionals. -/
module

public import proofs.«01_k».proof.Proof.StatsRun.RunC

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken, `scf.if` 3 taken, `scf.if` 4 not taken: points 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_D (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.RunE.lean ====
/- The kernel body of `Stats`, run in one case of its conditionals. -/
module

public import proofs.«01_k».proof.Proof.StatsRun.RunD

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 not taken, `scf.if` 3 taken, `scf.if` 4 not taken: points 57, 58, … 110: 54 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_E (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg11.eq_unread hfs3
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.RunF.lean ====
/- The kernel body of `Stats`, run in one case of its conditionals. -/
module

public import proofs.«01_k».proof.Proof.StatsRun.RunE

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE F (`scf.if` 0 not taken, `scf.if` 1 not taken, `scf.if` 2 not taken, `scf.if` 3 taken, `scf.if` 4 taken, `scf.if` 5 not taken, `scf.if` 6 taken: points 111), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_F (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : cond0_4 i) (hc5 : ¬cond0_5 i) (hc6 : cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) :
    Σ' (LS0 : List (View.Piece (Elt F) S256x256 .bf16)), { LS3 : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_stats_eq_skeleton]; unfold cc0_stats_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hfs0; obtain rfl := harg11.eq_unread hfs3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    iexists _; iexact HS3

end Cert.Stats.Run

end
-- ==== Proof.StatsRun.Frame.lean ====
/- The frame of `Stats`: what the carried scratch holds point by point, the body at every point, the launch. -/
module

public import proofs.«01_k».proof.Proof.StatsRun.RunF
public import Idealize.ShloMosaic.Lib.Claim

@[expose] public section

-- membership in a rectangle of production extents (`View.cover_of_tiled`): the elaborator's structural look
-- recurses once per coordinate of the long axes
set_option maxRecDepth 16384

noncomputable section

namespace Cert.Stats.Run

open Cert.Stats.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 1 piece of `S256x256` tiling it (Lib/Ring.lean `Piece.tiledL`). -/
theorem scover0_A_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (y : S256x256.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 hc4 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 hc3 hc4 x0 x1 x2 x3).1 S256x256.size (by sl_kernel_rfl) y

/-- What case A leaves in scratch `arg8`: its pieces read back over junk. -/
def sout0_A_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) : Vec F S256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 hc3 hc4 x0 x1 x2 x3).1)

/-- Case A's pieces for scratch `arg11`, which the kernel carries between points, cover it: one of them a store of the WHOLE buffer (Lib/Ring.lean `sl_whole_mem`). -/
theorem scover0_A_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (y : S8x8192.Idx) :
    ∃ pc ∈ (kernelRun0_A c i arg2 harg2 arg3 harg3 arg4 harg4 arg5 harg5 arg6 harg6 arg7 harg7 arg8 harg8 arg9 harg9 arg10 harg10 arg11 harg11 hc0 hc1 hc2 hc3 hc4 x0 x1 x2 x3).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 hc2 hc3 hc4 x0 x1 x2 x3).2.1 (by sl_whole_mem) y

/-- What case A leaves in scratch `arg11`: its pieces read back over junk. -/
def sout0_A_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) : Vec F S8x8192 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 hc2 hc3 hc4 x0 x1 x2 x3).2.1)

/-- Case B stores nothing into scratch `arg8`: it holds what the point before left. -/
def sout0_B_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S256x256 .bf16 := xs0

/-- Case B's pieces for scratch `arg11`, which the kernel carries between points, cover it: 32 pieces of `S8x256` tiling it (Lib/Ring.lean `Piece.tiledL`). -/
theorem scover0_B_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) (y : S8x8192.Idx) :
    ∃ pc ∈ (kernelRun0_B c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1 S8x256.size (by sl_kernel_rfl) y

/-- What case B leaves in scratch `arg11`: its pieces read back over junk. -/
def sout0_B_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S8x8192 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1)

/-- Case C stores nothing into scratch `arg8`: it holds what the point before left. -/
def sout0_C_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : cond0_4 i) (hc5 : cond0_5 i) (hc6 : ¬cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S256x256 .bf16 := xs0

/-- Case C's pieces for scratch `arg11`, which the kernel carries between points, cover it: 32 pieces of `S8x256` tiling it (Lib/Ring.lean `Piece.tiledL`). -/
theorem scover0_C_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : cond0_4 i) (hc5 : cond0_5 i) (hc6 : ¬cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) (y : S8x8192.Idx) :
    ∃ pc ∈ (kernelRun0_C c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1 S8x256.size (by sl_kernel_rfl) y

/-- What case C leaves in scratch `arg11`: its pieces read back over junk. -/
def sout0_C_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : cond0_4 i) (hc5 : cond0_5 i) (hc6 : ¬cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S8x8192 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1)

/-- Case D stores nothing into scratch `arg8`: it holds what the point before left. -/
def sout0_D_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) : Vec F S256x256 .bf16 := xs0

/-- Case D's pieces for scratch `arg11`, which the kernel carries between points, cover it: one of them a store of the WHOLE buffer (Lib/Ring.lean `sl_whole_mem`). -/
theorem scover0_D_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (y : S8x8192.Idx) :
    ∃ pc ∈ (kernelRun0_D c i arg2 harg2 arg3 harg3 arg4 harg4 arg5 harg5 arg6 harg6 arg7 harg7 arg8 harg8 arg9 harg9 arg10 harg10 arg11 harg11 hc0 hc1 hc2 hc3 hc4 x0 x1 x2 x3 xs0).2.1, y ∈ pc.1.set :=
  View.cover_of_wholeMem (kernelRun0_D c i arg2 harg2 arg3 harg3 arg4 harg4 arg5 harg5 arg6 harg6 arg7 harg7 arg8 harg8 arg9 harg9 arg10 harg10 arg11 harg11 hc0 hc1 hc2 hc3 hc4 x0 x1 x2 x3 xs0).2.1 (by sl_whole_mem) y

/-- What case D leaves in scratch `arg11`: its pieces read back over junk. -/
def sout0_D_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) : Vec F S8x8192 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 hc0 hc1 hc2 hc3 hc4 x0 x1 x2 x3 xs0).2.1)

/-- Case E stores nothing into scratch `arg8`: it holds what the point before left. -/
def sout0_E_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S256x256 .bf16 := xs0

/-- Case E's pieces for scratch `arg11`, which the kernel carries between points, cover it: 32 pieces of `S8x256` tiling it (Lib/Ring.lean `Piece.tiledL`). -/
theorem scover0_E_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) (y : S8x8192.Idx) :
    ∃ pc ∈ (kernelRun0_E c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1, y ∈ pc.1.set :=
  View.cover_of_tiledL (kernelRun0_E c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1 S8x256.size (by sl_kernel_rfl) y

/-- What case E leaves in scratch `arg11`: its pieces read back over junk. -/
def sout0_E_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S8x8192 .f32 :=
  VS0_3.read (Elt F) (VS0_3.writes (Elt F) VS0_3.junk (kernelRun0_E c i arg2 harg2 arg3 harg3 arg4 harg4 arg5 harg5 arg6 harg6 arg7 harg7 arg8 harg8 arg9 harg9 arg10 harg10 arg11 harg11 hc0 hc1 hc2 hc3 hc4 x0 x1 x2 x3 xs0 xs3).2.1)

/-- Case F stores nothing into scratch `arg8`: it holds what the point before left. -/
def sout0_F_0 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : cond0_4 i) (hc5 : ¬cond0_5 i) (hc6 : cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S256x256 .bf16 := xs0

/-- Case F's pieces for scratch `arg11`, which the kernel carries between points, cover it: 32 pieces of `S8x256` tiling it (Lib/Ring.lean `Piece.tiledL`). -/
theorem scover0_F_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : cond0_4 i) (hc5 : ¬cond0_5 i) (hc6 : cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) (y : S8x8192.Idx) :
    ∃ pc ∈ (kernelRun0_F c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1, y ∈ pc.1.set :=
  View.cover_of_tiledL (kernelRun0_F c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1 S8x256.size (by sl_kernel_rfl) y

/-- What case F leaves in scratch `arg11`: its pieces read back over junk. -/
def sout0_F_3 (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : cond0_4 i) (hc5 : ¬cond0_5 i) (hc6 : cond0_6 i)
    (x0 : Vec F S2x7168 .f32) (x1 : Vec F S2x8192 .f32) (x2 : Vec F S1x128x8192 .bf16) (x3 : Vec F S1x128x4096 .i8) (xs0 : Vec F S256x256 .bf16) (xs3 : Vec F S8x8192 .f32) : Vec F S8x8192 .f32 :=
  VS0_3.read (Elt F) (VS0_3.writes (Elt F) VS0_3.junk (kernelRun0_F c i arg2 harg2 arg3 harg3 arg4 harg4 arg5 harg5 arg6 harg6 arg7 harg7 arg8 harg8 arg9 harg9 arg10 harg10 arg11 harg11 hc0 hc1 hc2 hc3 hc4 hc5 hc6 x0 x1 x2 x3 xs0 xs3).2.1)

/-! ## What the outputs hold after each point -/

def outsAt0 (c : Dev nD) : (n : ℕ) → n < cfg0.N → Vec F S256x256 .bf16 × Vec F S8x8192 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 112 = 0 then
      if h1 : (n + 1) % 56 = 0 then
        if h2 : (n + 1) < 56 then
          if h3 : 56 ≤ (n + 1) then
            False.elim (by have hN : n + 1 < 112 := lt_of_lt_of_eq hn (show cfg0.N = 112 from N_0); omega)
          else
            if h4 : (n + 1) % 56 = 55 then
              False.elim (by have hN : n + 1 < 112 := lt_of_lt_of_eq hn (show cfg0.N = 112 from N_0); omega)
            else
              (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 112 := lt_of_lt_of_eq hn (show cfg0.N = 112 from N_0); omega)
      else
        False.elim (by have hN : n + 1 < 112 := lt_of_lt_of_eq hn (show cfg0.N = 112 from N_0); omega)
    else
      if h1 : (n + 1) % 56 = 0 then
        if h2 : (n + 1) < 56 then
          False.elim (by have hN : n + 1 < 112 := lt_of_lt_of_eq hn (show cfg0.N = 112 from N_0); omega)
        else
          if h3 : 56 ≤ (n + 1) then
            if h4 : (n + 1) % 56 = 55 then
              False.elim (by have hN : n + 1 < 112 := lt_of_lt_of_eq hn (show cfg0.N = 112 from N_0); omega)
            else
              (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1)
          else
            False.elim (by have hN : n + 1 < 112 := lt_of_lt_of_eq hn (show cfg0.N = 112 from N_0); omega)
      else
        if h2 : (n + 1) < 56 then
          if h3 : 56 ≤ (n + 1) then
            False.elim (by have hN : n + 1 < 112 := lt_of_lt_of_eq hn (show cfg0.N = 112 from N_0); omega)
          else
            if h4 : (n + 1) % 56 = 55 then
              if h5 : (n + 1) < 56 then
                if h6 : 56 ≤ (n + 1) then
                  False.elim (by have hN : n + 1 < 112 := lt_of_lt_of_eq hn (show cfg0.N = 112 from N_0); omega)
                else
                  (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
              else
                False.elim (by have hN : n + 1 < 112 := lt_of_lt_of_eq hn (show cfg0.N = 112 from N_0); omega)
            else
              (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
        else
          if h3 : 56 ≤ (n + 1) then
            if h4 : (n + 1) % 56 = 55 then
              if h5 : (n + 1) < 56 then
                False.elim (by have hN : n + 1 < 112 := lt_of_lt_of_eq hn (show cfg0.N = 112 from N_0); omega)
              else
                if h6 : 56 ≤ (n + 1) then
                  (sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_F_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
                else
                  False.elim (by have hN : n + 1 < 112 := lt_of_lt_of_eq hn (show cfg0.N = 112 from N_0); omega)
            else
              (sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2, sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
          else
            False.elim (by have hN : n + 1 < 112 := lt_of_lt_of_eq hn (show cfg0.N = 112 from N_0); omega)

/-- `outsAt0` at a point of case A: that case's contents. -/
theorem outsAt0_A (c : Dev nD) (t : Fin cfg0.N) (h0 : t.val % 112 = 0) (h1 : t.val % 56 = 0) (h2 : t.val < 56) (h3 : ¬56 ≤ t.val) (h4 : ¬t.val % 56 = 55) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_pos h2).trans ((dif_neg h3).trans ((dif_neg h4).trans rfl))))

/-- `outsAt0` at a point of case B: that case's contents, over what the point before left. -/
theorem outsAt0_B (c : Dev nD) (t : Fin cfg0.N) (h0 : ¬t.val % 112 = 0) (h1 : ¬t.val % 56 = 0) (h2 : t.val < 56) (h3 : ¬56 ≤ t.val) (h4 : ¬t.val % 56 = 55) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case C: that case's contents, over what the point before left. -/
theorem outsAt0_C (c : Dev nD) (t : Fin cfg0.N) (h0 : ¬t.val % 112 = 0) (h1 : ¬t.val % 56 = 0) (h2 : t.val < 56) (h3 : ¬56 ≤ t.val) (h4 : t.val % 56 = 55) (h5 : t.val < 56) (h6 : ¬56 ≤ t.val) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) ((hcond0_5 t).mpr h5) (fun h => h6 ((hcond0_6 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) ((hcond0_5 t).mpr h5) (fun h => h6 ((hcond0_6 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans ((dif_pos h5).trans ((dif_neg h6).trans rfl))))))

/-- `outsAt0` at a point of case D: that case's contents, over what the point before left. -/
theorem outsAt0_D (c : Dev nD) (t : Fin cfg0.N) (h0 : ¬t.val % 112 = 0) (h1 : t.val % 56 = 0) (h2 : ¬t.val < 56) (h3 : 56 ≤ t.val) (h4 : ¬t.val % 56 = 55) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- `outsAt0` at a point of case E: that case's contents, over what the point before left. -/
theorem outsAt0_E (c : Dev nD) (t : Fin cfg0.N) (h0 : ¬t.val % 112 = 0) (h1 : ¬t.val % 56 = 0) (h2 : ¬t.val < 56) (h3 : 56 ≤ t.val) (h4 : ¬t.val % 56 = 55) :
    outsAt0 m c t.val t.isLt = (sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case F: that case's contents, over what the point before left. -/
theorem outsAt0_F (c : Dev nD) (t : Fin cfg0.N) (h0 : ¬t.val % 112 = 0) (h1 : ¬t.val % 56 = 0) (h2 : ¬t.val < 56) (h3 : 56 ≤ t.val) (h4 : t.val % 56 = 55) (h5 : ¬t.val < 56) (h6 : 56 ≤ t.val) :
    outsAt0 m c t.val t.isLt = (sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) ((hcond0_6 t).mpr h6) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2, sout0_F_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) ((hcond0_6 t).mpr h6) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_pos h4).trans ((dif_neg h5).trans ((dif_pos h6).trans rfl))))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ (∃ d, owns (c : Thread nD τ) scM0_2 fullShare d) ∗ owns (c : Thread nD τ) scM0_3 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ (∃ d, owns (c : Thread nD τ) scM0_2 fullShare d) ∗ owns (c : Thread nD τ) scM0_3 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ (∃ d, owns (c : Thread nD τ) scM0_2 fullShare d) ∗ owns (c : Thread nD τ) scM0_3 fullShare ((outsAt0 m c (n - 1) (by omega)).2)) ∗ (∃ r, prngReg c r)) := by
  cases n with
  | zero => exact absurd rfl hz
  | succ n => rfl

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 112 = 0
  · by_cases h1 : t.val % 56 = 0
    · by_cases h2 : t.val < 56
      · by_cases h3 : 56 ≤ t.val
        · exfalso; omega
        · by_cases h4 : t.val % 56 = 55
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            by_cases hz : t.val = 0
            · rw [PhiS_castSucc m c t, PhiS_zero m c _ _ hz, PhiA0_eq]
              rw [outsAt0_A m c t h0 h1 h2 h3 h4]
              unfold sout0_A_0 sout0_A_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
              iapply ((kernelRun0_A c (grid0.coords t) _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t)).2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [HS0]; · iexact HS0
              isplitl [HS1]; · iexact HS1
              isplitl [HS2]; · iexact HS2
              isplitl [HS3]; · iexact HS3
              iintro ⟨H0, H1, H2, H3, H4, H5, ⟨%es0, HS0⟩, HS1, HS2, ⟨%es3, HS3⟩⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _)
                  isplitl [HS1]
                  · iexact HS1
                  isplitl [HS2]
                  · iexact HS2
                  unfold owns; iexists _; isplitr
                  swap; · iexact HS3
                  ipureintro; exact View.read_writes_of_cover _ _ _ _ _ (scover0_A_3 c _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              iexact H5
            · exfalso; have hN : t.val < 112 := lt_of_lt_of_eq t.isLt (show cfg0.N = 112 from N_0); omega
      · exfalso; omega
    · exfalso; omega
  · by_cases h1 : t.val % 56 = 0
    · by_cases h2 : t.val < 56
      · exfalso; omega
      · by_cases h3 : 56 ≤ t.val
        · by_cases h4 : t.val % 56 = 55
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            by_cases hz : t.val = 0
            · exfalso; have hN : t.val < 112 := lt_of_lt_of_eq t.isLt (show cfg0.N = 112 from N_0); omega
            · rw [PhiS_castSucc m c t, PhiS_pos m c _ _ hz]
              rw [outsAt0_D m c t h0 h1 h2 h3 h4]
              unfold sout0_D_0 sout0_D_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
              iapply ((kernelRun0_D c (grid0.coords t) _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) _).2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [HS0]; · iexact HS0
              isplitl [HS1]; · iexact HS1
              isplitl [HS2]; · iexact HS2
              isplitl [HS3]; · iexists _; iexact HS3
              iintro ⟨H0, H1, H2, H3, H4, H5, HS0, HS1, HS2, ⟨%es3, HS3⟩⟩
              isplitl [HS0 HS1 HS2 HS3 Hg]
              · isplitl [HS0 HS1 HS2 HS3]
                · isplitl [HS0]
                  · iexact HS0
                  isplitl [HS1]
                  · iexact HS1
                  isplitl [HS2]
                  · iexact HS2
                  unfold owns; iexists _; isplitr
                  swap; · iexact HS3
                  ipureintro; exact View.read_writes_of_cover _ _ _ _ _ (scover0_D_3 c _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              iexact H5
        · exfalso; omega
    · by_cases h2 : t.val < 56
      · by_cases h3 : 56 ≤ t.val
        · exfalso; omega
        · by_cases h4 : t.val % 56 = 55
          · by_cases h5 : t.val < 56
            · by_cases h6 : 56 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                by_cases hz : t.val = 0
                · exfalso; have hN : t.val < 112 := lt_of_lt_of_eq t.isLt (show cfg0.N = 112 from N_0); omega
                · rw [PhiS_castSucc m c t, PhiS_pos m c _ _ hz]
                  rw [outsAt0_C m c t h0 h1 h2 h3 h4 h5 h6]
                  unfold sout0_C_0 sout0_C_3; (try dsimp only)
                  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
                  iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) ((hcond0_5 t).mpr h5) (fun h => h6 ((hcond0_6 t).mp h)) (iblk m c 0 t) (iblk m c 1 t) (iblk m c 2 t) (iblk m c 3 t) _ _).2.2 Set.univ _)
                  isplitl [H0]; · iexact H0
                  isplitl [H1]; · iexact H1
                  isplitl [H2]; · iexact H2
                  isplitl [H3]; · iexact H3
                  isplitl [H4]; · iexists _; iexact H4
                  isplitl [H5]; · iexists _; iexact H5
                  isplitl [HS0]; · iexact HS0
                  isplitl [HS1]; · iexact HS1
                  isplitl [HS2]; · iexact HS2
                  isplitl [HS3]; · iexact HS3
                  iintro ⟨H0, H1, H2, H3, H4, H5, HS0, HS1, HS2, ⟨%es3, HS3⟩⟩
                  isplitl [HS0 HS1 HS2 HS3 Hg]
                  · isplitl [HS0 HS1 HS2 HS3]
                    · isplitl [HS0]
                      · iexact HS0
                      isplitl [HS1]
                      · iexact HS1
                      isplitl [HS2]
                      · iexact HS2
                      unfold owns; iexists _; isplitr
                      swap; · iexact HS3
                      ipureintro; exact View.read_writes_of_cover _ _ _ _ _ (scover0_C_3 c _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  iexact H5
            · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            by_cases hz : t.val = 0
            · exfalso; have hN : t.val < 112 := lt_of_lt_of_eq t.isLt (show cfg0.N = 112 from N_0); omega
            · rw [PhiS_castSucc m c t, PhiS_pos m c _ _ hz]
              rw [outsAt0_B m c t h0 h1 h2 h3 h4]
              unfold sout0_B_0 sout0_B_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
              iapply ((kernelRun0_B c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) _ _).2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [HS0]; · iexact HS0
              isplitl [HS1]; · iexact HS1
              isplitl [HS2]; · iexact HS2
              isplitl [HS3]; · iexact HS3
              iintro ⟨H0, H1, H2, H3, H4, H5, HS0, HS1, HS2, ⟨%es3, HS3⟩⟩
              isplitl [HS0 HS1 HS2 HS3 Hg]
              · isplitl [HS0 HS1 HS2 HS3]
                · isplitl [HS0]
                  · iexact HS0
                  isplitl [HS1]
                  · iexact HS1
                  isplitl [HS2]
                  · iexact HS2
                  unfold owns; iexists _; isplitr
                  swap; · iexact HS3
                  ipureintro; exact View.read_writes_of_cover _ _ _ _ _ (scover0_B_3 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              iexact H5
      · by_cases h3 : 56 ≤ t.val
        · by_cases h4 : t.val % 56 = 55
          · by_cases h5 : t.val < 56
            · exfalso; omega
            · by_cases h6 : 56 ≤ t.val
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                by_cases hz : t.val = 0
                · exfalso; have hN : t.val < 112 := lt_of_lt_of_eq t.isLt (show cfg0.N = 112 from N_0); omega
                · rw [PhiS_castSucc m c t, PhiS_pos m c _ _ hz]
                  rw [outsAt0_F m c t h0 h1 h2 h3 h4 h5 h6]
                  unfold sout0_F_0 sout0_F_3; (try dsimp only)
                  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
                  iapply ((kernelRun0_F c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) ((hcond0_6 t).mpr h6) (iblk m c 0 t) (iblk m c 1 t) (iblk m c 2 t) (iblk m c 3 t) _ _).2.2 Set.univ _)
                  isplitl [H0]; · iexact H0
                  isplitl [H1]; · iexact H1
                  isplitl [H2]; · iexact H2
                  isplitl [H3]; · iexact H3
                  isplitl [H4]; · iexists _; iexact H4
                  isplitl [H5]; · iexists _; iexact H5
                  isplitl [HS0]; · iexact HS0
                  isplitl [HS1]; · iexact HS1
                  isplitl [HS2]; · iexact HS2
                  isplitl [HS3]; · iexact HS3
                  iintro ⟨H0, H1, H2, H3, H4, H5, HS0, HS1, HS2, ⟨%es3, HS3⟩⟩
                  isplitl [HS0 HS1 HS2 HS3 Hg]
                  · isplitl [HS0 HS1 HS2 HS3]
                    · isplitl [HS0]
                      · iexact HS0
                      isplitl [HS1]
                      · iexact HS1
                      isplitl [HS2]
                      · iexact HS2
                      unfold owns; iexists _; isplitr
                      swap; · iexact HS3
                      ipureintro; exact View.read_writes_of_cover _ _ _ _ _ (scover0_F_3 c _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  iexact H5
              · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            by_cases hz : t.val = 0
            · exfalso; have hN : t.val < 112 := lt_of_lt_of_eq t.isLt (show cfg0.N = 112 from N_0); omega
            · rw [PhiS_castSucc m c t, PhiS_pos m c _ _ hz]
              rw [outsAt0_E m c t h0 h1 h2 h3 h4]
              unfold sout0_E_0 sout0_E_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
              iapply ((kernelRun0_E c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) _ _).2.2 Set.univ _)
              isplitl [H0]; · iexact H0
              isplitl [H1]; · iexact H1
              isplitl [H2]; · iexact H2
              isplitl [H3]; · iexact H3
              isplitl [H4]; · iexists _; iexact H4
              isplitl [H5]; · iexists _; iexact H5
              isplitl [HS0]; · iexact HS0
              isplitl [HS1]; · iexact HS1
              isplitl [HS2]; · iexact HS2
              isplitl [HS3]; · iexact HS3
              iintro ⟨H0, H1, H2, H3, H4, H5, HS0, HS1, HS2, ⟨%es3, HS3⟩⟩
              isplitl [HS0 HS1 HS2 HS3 Hg]
              · isplitl [HS0 HS1 HS2 HS3]
                · isplitl [HS0]
                  · iexact HS0
                  isplitl [HS1]
                  · iexact HS1
                  isplitl [HS2]
                  · iexact HS2
                  unfold owns; iexists _; isplitr
                  swap; · iexact HS3
                  ipureintro; exact View.read_writes_of_cover _ _ _ _ _ (scover0_E_3 c _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              iexact H5
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Stats`'s statement (Defs.lean) at any `F` — Proof.lean cites it at `Bits`:
    `theorem Cert.Proof.claim : Cert.Claim := ⟨Cert.Stats.Gen.facts, fun m ρ _ => Cert.Stats.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Stats.Run

end
-- ==== Proof.Stats.Trip.lean ====
/- One trip of the statistics kernel's counted loop, in closed form: the running row maxima and the running column maxima of the
   trip's columns, and what the thirty-two trips together leave in the two buffers. -/
module

public import proofs.«01_k».proof.Proof.Gen.StatsIdeal.Loops
public import Idealize.ShloMosaic.Lib.WritesUnit
public import Idealize.ShloMosaic.Lib.VecWindow
public import Idealize.ShloMosaic.Lib.Pipeline.FrameBody
public import Idealize.ShloMosaic.Lib.Pipeline.Value

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen

variable {F : FTy → Type} [FloatOps F] [Named F]

theorem zero2 : (![0, 0] : Fin 2 → ℕ) = fun _ => 0 := by funext a; fin_cases a <;> rfl

/-! ## The vectors of one trip -/

section Values

variable (arg0 : BitVec 32)
  (x3 : Vec F S2x8192 .f32) (x4 : Vec F S1x128x8192 .bf16) (x5 : Vec F S1x128x4096 .i8)
  (x8 : Vec F S256x256 .bf16) (x9 : Vec F S128x128 .f32) (k : Fin k0_t1_loop.trips)

/-- The two rows of the column statistic, at trip `k`'s 256 columns, and the batch's one of them normed. -/
def colV : FVec F S1x256 .f32 :=
  k0_pay3 arg0 (View.ld x3 (Rect.unit (k0_off3 k) S1x256.size (k0_off3_inb k)))
    (View.ld x3 (Rect.unit (k0_off4 k) S1x256.size (k0_off4_inb k)))

/-- The second moment's codes of trip `k`, unpacked. -/
def codeV : FVec F S128x256 .f32 :=
  k0_pay4 (View.ld x5 (Rect.unit (k0_off5 k) S1x128x128.size (k0_off5_inb k))) x8

/-- The gradient's columns of trip `k`. -/
def gradV : FVec F S128x256 .f32 :=
  k0_pay5 (View.ld x4 (Rect.unit (k0_off6 k) S1x128x256.size (k0_off6_inb k)))

/-- The (scaled) second moment of trip `k`. -/
def momV : FVec F S128x256 .f32 :=
  k0_pay6 (colV arg0 x3 k) (codeV x5 x8 k) (gradV x4 k) x9

/-- The running row maxima after trip `k`, from those before it. -/
def rowStep (r : Vec F S128x128 .f32) : FVec F S128x128 .f32 :=
  k0_pay7 (colV arg0 x3 k) (codeV x5 x8 k) (gradV x4 k) x9 r

/-- The running column maxima of trip `k`'s columns, from those before it. -/
def colStep (s : Vec F S8x256 .f32) : FVec F S8x256 .f32 :=
  k0_pay13 (k0_pay8 (colV arg0 x3 k) (codeV x5 x8 k) (gradV x4 k) x9 s)

omit k in
/-- The running row maxima before trip `n`, from zeros. -/
def rowAcc : ℕ → Vec F S128x128 .f32
  | 0 => k0_pay12
  | n + 1 => if h : n < k0_t1_loop.trips then rowStep arg0 x3 x4 x5 x8 x9 ⟨n, h⟩ (rowAcc n) else rowAcc n

omit k in
/-- The column maxima `e` after a point, from those before it `d`. -/
def ColNext (d e : Vec F S8x8192 .f32) : Prop :=
  ∀ (k : Fin k0_t1_loop.trips) (x : S8x256.Idx) y, (∀ a : Fin 2, (y a).val = (![0, 256 * k.val] : Fin 2 → ℕ) a + (x a).val) →
    e y = colStep arg0 x3 x4 x5 x8 x9 k (View.ld d (Rect.unit (k0_off7 k) S8x256.size (k0_off7_inb k))) x

end Values

/-! ## The places of one trip -/

theorem trips_eq : k0_t1_loop.trips = 32 := by decide

theorem trip_lt (k : Fin k0_t1_loop.trips) : k.val < 32 := lt_of_lt_of_eq k.isLt trips_eq

theorem word128 : ∀ n : Fin 32, (Scalar.indexCast (Scalar.muli (Scf.iv 0#32 1#32 n.val) 128#32)).toNat = 128 * n.val := by
  decide

theorem word256 : ∀ n : Fin 32, (Scalar.indexCast (Scalar.muli (Scf.iv 0#32 1#32 n.val) 256#32)).toNat = 256 * n.val := by
  decide

/-- A trip's packed columns start at 128 times its number. -/
theorem off5_eq (k : Fin k0_t1_loop.trips) : k0_off5 k = ![0, 0, 128 * k.val] :=
  congrArg (fun n => (![0, 0, n] : Fin 3 → ℕ)) (word128 ⟨k.val, trip_lt k⟩)

/-- A trip's columns start at 256 times its number. -/
theorem off6_eq (k : Fin k0_t1_loop.trips) : k0_off6 k = ![0, 0, 256 * k.val] :=
  congrArg (fun n => (![0, 0, n] : Fin 3 → ℕ)) (word256 ⟨k.val, trip_lt k⟩)

theorem off3_eq (k : Fin k0_t1_loop.trips) : k0_off3 k = ![0, 256 * k.val] :=
  congrArg (fun n => (![0, n] : Fin 2 → ℕ)) (word256 ⟨k.val, trip_lt k⟩)

theorem off4_eq (k : Fin k0_t1_loop.trips) : k0_off4 k = ![1, 256 * k.val] :=
  congrArg (fun n => (![1, n] : Fin 2 → ℕ)) (word256 ⟨k.val, trip_lt k⟩)

theorem off7_eq (k : Fin k0_t1_loop.trips) : k0_off7 k = ![0, 256 * k.val] :=
  congrArg (fun n => (![0, n] : Fin 2 → ℕ)) (word256 ⟨k.val, trip_lt k⟩)

/-! ## A list of stores, each a function of what it finds at its place -/

/-- Updates of slab after slab: after `n` of them each slab done holds its update of what was there, the rest is as it was. -/
theorem read_updates {sig : RefSig} {κ : Kind} {sp : Space} {d : Fin 2 → ℕ} {e : EltTy} {Val : EltTy → Type}
    (v : View sig κ sp (⟨2, d⟩ : Shape) e) (f : v.ty.Contents Val) {N : ℕ} (L : ℕ → List (View.Piece Val (⟨2, d⟩ : Shape) e))
    (size : Fin 2 → ℕ) (off : Fin N → Fin 2 → ℕ) (inb : ∀ k, ∀ a : Fin 2, off k a + size a ≤ d a)
    (w : (k : Fin N) → ((Rect.unit (s := ⟨2, d⟩) (off k) size (inb k)).shape.Idx → Val e) → (Rect.unit (s := ⟨2, d⟩) (off k) size (inb k)).shape.Idx → Val e)
    (hoff : ∀ k, off k = ![0, size 1 * k.val]) (h0 : L 0 = [])
    (hs : ∀ k : Fin N, L (k.val + 1) = (⟨Rect.unit (s := ⟨2, d⟩) (off k) size (inb k),
      w k (View.ld (v.read Val (v.writes Val f (L k.val))) (Rect.unit (s := ⟨2, d⟩) (off k) size (inb k)))⟩ : View.Piece Val _ e) :: L k.val) :
    ∀ n ≤ N, (∀ k : Fin N, k.val < n → ∀ (x : (Rect.unit (s := ⟨2, d⟩) (off k) size (inb k)).shape.Idx) (y : (⟨2, d⟩ : Shape).Idx),
        (∀ a : Fin 2, (y a).val = (![0, size 1 * k.val] : Fin 2 → ℕ) a + (x a).val) →
          v.read Val (v.writes Val f (L n)) y = w k (View.ld (v.read Val f) (Rect.unit (s := ⟨2, d⟩) (off k) size (inb k))) x)
      ∧ (∀ y : (⟨2, d⟩ : Shape).Idx, size 1 * n ≤ (y 1).val → v.read Val (v.writes Val f (L n)) y = v.read Val f y) := by
  intro n
  induction n with
  | zero =>
    intro _
    rw [h0]
    exact ⟨fun k hk => absurd hk (Nat.not_lt_zero _), fun y _ => rfl⟩
  | succ n ih =>
    intro hn
    obtain ⟨ih1, ih2⟩ := ih (by omega)
    have hL := hs ⟨n, by omega⟩
    simp only at hL
    have hld : View.ld (v.read Val (v.writes Val f (L n))) (Rect.unit (s := ⟨2, d⟩) (off ⟨n, by omega⟩) size (inb ⟨n, by omega⟩))
        = View.ld (v.read Val f) (Rect.unit (s := ⟨2, d⟩) (off ⟨n, by omega⟩) size (inb ⟨n, by omega⟩)) := by
      funext x
      refine ih2 _ ?_
      have h1 := congrFun (hoff ⟨n, by omega⟩) 1
      simp only [Matrix.cons_val] at h1
      show size 1 * n ≤ off ⟨n, by omega⟩ 1 + 1 * (x 1).val
      omega
    rw [hld] at hL
    rw [hL]
    refine ⟨fun k hk x y hy => ?_, fun y hy => ?_⟩
    · by_cases hkn : k.val = n
      · subst hkn
        exact View.read_writes_cons_unit_of_mem v f _ _ _ y x (hoff _) hy
      · rw [View.read_writes_cons_unit_of_not_mem v f _ _ _ y (hoff _) (1 : Fin 2) ?_]
        · exact ih1 k (by omega) x y hy
        · left
          have h2 := hy 1
          have hx : (x 1).val < size 1 := (x 1).isLt
          have : size 1 * (k.val + 1) ≤ size 1 * n := Nat.mul_le_mul_left _ (by omega)
          rw [Nat.mul_succ] at this
          simp only [Matrix.cons_val] at h2 ⊢
          omega
    · rw [Nat.mul_succ] at hy
      rw [View.read_writes_cons_unit_of_not_mem v f _ _ _ y (hoff _) (1 : Fin 2) (by simp only [Matrix.cons_val]; omega)]
      exact ih2 y (by omega)

/-! ## The trip's stores -/

section Trip

variable (𝒱 : Variants) (c : Dev nD) (bd : Option 𝒱.V) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (arg0 : BitVec 32) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (X_arg9 : BufTy.Contents (Elt F) arg9.view.ty)

set_option maxHeartbeats 4000000 in
theorem trip_10 (k : Fin k0_t1_loop.trips) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 k).1 f10 f11 =
      [⟨Rect.unit ![0, 0] S128x128.size inb_S128x128_S128x128_0_0, rowStep arg0 (arg3.view.read (Elt F) X_arg3) (arg4.view.read (Elt F) X_arg4) (arg5.view.read (Elt F) X_arg5) (arg8.view.read (Elt F) X_arg8) (arg9.view.read (Elt F) X_arg9) k (arg10.view.read (Elt F) f10)⟩] := by
  unfold trip_k0_t1
  dsimp only
  sl_unfold_run_names
  show [(⟨Rect.unit ![0, 0] S128x128.size inb_S128x128_S128x128_0_0, k0_pay7 (k0_pay3 arg0 (View.readAt (Elt F) arg3.view (Rect.unit (s := S2x8192) (k0_off3 k) S1x256.size (k0_off3_inb k)).toLoadRect X_arg3) (View.readAt (Elt F) arg3.view (Rect.unit (s := S2x8192) (k0_off4 k) S1x256.size (k0_off4_inb k)).toLoadRect X_arg3)) (k0_pay4 (View.readAt (Elt F) arg5.view (Rect.unit (s := S1x128x4096) (k0_off5 k) S1x128x128.size (k0_off5_inb k)).toLoadRect X_arg5) (View.readAt (Elt F) arg8.view (Rect.unit (s := S256x256) ![0, 0] S256x256.size inb_S256x256_S256x256_0_0).toLoadRect X_arg8)) (k0_pay5 (View.readAt (Elt F) arg4.view (Rect.unit (s := S1x128x8192) (k0_off6 k) S1x128x256.size (k0_off6_inb k)).toLoadRect X_arg4)) (View.readAt (Elt F) arg9.view (Rect.unit (s := S128x128) ![0, 0] S128x128.size inb_S128x128_S128x128_0_0).toLoadRect X_arg9) (View.readAt (Elt F) arg10.view (Rect.unit (s := S128x128) ![0, 0] S128x128.size inb_S128x128_S128x128_0_0).toLoadRect f10)⟩ : View.Piece (Elt F) S128x128 .f32)] = _
  simp only [View.readAt_eq_ld]
  simp only [View.ld_unit_zero (S := S256x256) zero2, View.ld_unit_zero (S := S128x128) zero2]
  rfl

set_option maxHeartbeats 4000000 in
theorem trip_11 (k : Fin k0_t1_loop.trips) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 k).2.1 f10 f11 =
      [⟨Rect.unit (k0_off7 k) S8x256.size (k0_off7_inb k), colStep arg0 (arg3.view.read (Elt F) X_arg3) (arg4.view.read (Elt F) X_arg4) (arg5.view.read (Elt F) X_arg5) (arg8.view.read (Elt F) X_arg8) (arg9.view.read (Elt F) X_arg9) k (View.ld (arg11.view.read (Elt F) f11) (Rect.unit (k0_off7 k) S8x256.size (k0_off7_inb k)))⟩] := by
  unfold trip_k0_t1
  dsimp only
  sl_unfold_run_names
  show [(⟨Rect.unit (k0_off7 k) S8x256.size (k0_off7_inb k), k0_pay13 (k0_pay8 (k0_pay3 arg0 (View.readAt (Elt F) arg3.view (Rect.unit (s := S2x8192) (k0_off3 k) S1x256.size (k0_off3_inb k)).toLoadRect X_arg3) (View.readAt (Elt F) arg3.view (Rect.unit (s := S2x8192) (k0_off4 k) S1x256.size (k0_off4_inb k)).toLoadRect X_arg3)) (k0_pay4 (View.readAt (Elt F) arg5.view (Rect.unit (s := S1x128x4096) (k0_off5 k) S1x128x128.size (k0_off5_inb k)).toLoadRect X_arg5) (View.readAt (Elt F) arg8.view (Rect.unit (s := S256x256) ![0, 0] S256x256.size inb_S256x256_S256x256_0_0).toLoadRect X_arg8)) (k0_pay5 (View.readAt (Elt F) arg4.view (Rect.unit (s := S1x128x8192) (k0_off6 k) S1x128x256.size (k0_off6_inb k)).toLoadRect X_arg4)) (View.readAt (Elt F) arg9.view (Rect.unit (s := S128x128) ![0, 0] S128x128.size inb_S128x128_S128x128_0_0).toLoadRect X_arg9) (View.readAt (Elt F) arg11.view (Rect.unit (s := S8x8192) (k0_off7 k) S8x256.size (k0_off7_inb k)).toLoadRect f11))⟩ : View.Piece (Elt F) S8x8192 .f32)] = _
  simp only [View.readAt_eq_ld]
  simp only [View.ld_unit_zero (S := S256x256) zero2, View.ld_unit_zero (S := S128x128) zero2]
  rfl

variable (G_arg10 : BufTy.Contents (Elt F) arg10.view.ty) (G_arg11 : BufTy.Contents (Elt F) arg11.view.ty)

set_option maxHeartbeats 4000000 in
/-- What the trips leave in the row maxima. -/
theorem loop_10 (h0 : arg10.view.read (Elt F) G_arg10 = k0_pay12) : ∀ n ≤ k0_t1_loop.trips,
    arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 G_arg10 G_arg11 n).1)
      = rowAcc arg0 (arg3.view.read (Elt F) X_arg3) (arg4.view.read (Elt F) X_arg4) (arg5.view.read (Elt F) X_arg5) (arg8.view.read (Elt F) X_arg8) (arg9.view.read (Elt F) X_arg9) n := by
  intro n
  induction n with
  | zero => intro _; exact h0
  | succ n ih =>
    intro hn
    rw [rowAcc, dif_pos (by omega : n < k0_t1_loop.trips), ← ih (by omega)]
    have hp := pb_k0_t1_succ (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 G_arg10 G_arg11 ⟨n, by omega⟩
    simp only at hp
    rw [hp]
    dsimp only
    rw [trip_10]
    exact View.read_writes_full _ _ _ _ _

set_option maxHeartbeats 4000000 in
/-- What the trips leave in the column maxima. -/
theorem loop_11 :
    ColNext arg0 (arg3.view.read (Elt F) X_arg3) (arg4.view.read (Elt F) X_arg4) (arg5.view.read (Elt F) X_arg5) (arg8.view.read (Elt F) X_arg8) (arg9.view.read (Elt F) X_arg9) (arg11.view.read (Elt F) G_arg11)
      (arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 G_arg10 G_arg11 k0_t1_loop.trips).2)) := by
  have h := read_updates arg11.view G_arg11 (N := k0_t1_loop.trips)
    (fun n => (pb_k0_t1 (F := F) 𝒱 c bd i arg2 harg2 arg3 harg3 arg4 harg4 arg5 harg5 arg6 harg6 arg7 harg7 arg8 harg8 arg9 harg9 arg10 harg10 arg11 harg11 arg0 X_arg3 X_arg4 X_arg5 X_arg8 X_arg9 G_arg10 G_arg11 n).2) S8x256.size (fun k => k0_off7 k) (fun k => k0_off7_inb k)
    (fun k s => colStep arg0 (arg3.view.read (Elt F) X_arg3) (arg4.view.read (Elt F) X_arg4) (arg5.view.read (Elt F) X_arg5) (arg8.view.read (Elt F) X_arg8) (arg9.view.read (Elt F) X_arg9) k s) (fun k => off7_eq k) rfl
    (fun k => by
      dsimp only
      rw [pb_k0_t1_succ]
      dsimp only
      rw [trip_11]
      rfl)
    k0_t1_loop.trips le_rfl
  exact fun k x y hy => h.1 k k.isLt x y hy

end Trip

end Cert.StatsIdeal.Hand

end

end
-- ==== Proof.Stats.Body.lean ====
/- What the statistics kernel's body leaves in its two result blocks and in the running column maxima at a grid point. -/
module

public import proofs.«01_k».proof.Proof.Stats.Trip
public import Idealize.ShloMosaic.Lib.VecWindow

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen

variable {F : FTy → Type} [FloatOps F] [Named F]

section Body

variable (i : grid0.Coords) (x0 : Vec F S2x7168 .f32) (x1 : Vec F S2x8192 .f32) (x2 : Vec F S1x128x8192 .bf16) (x3 : Vec F S1x128x4096 .i8)

/-- The grid row of the point, as a word. -/
abbrev gb : BitVec 32 := BitVec.ofNat 32 (i 0).val

/-- The normed row statistic of the point's 128 rows, spread over 128 lanes. -/
def rowV : FVec F S128x128 .f32 :=
  k0_pay11 i (View.ld x0 (Rect.unit (k0_off1 i) S1x128.size (k0_off1_inb i)))
    (View.ld x0 (Rect.unit (k0_off2 i) S1x128.size (k0_off2_inb i)))

/-- The running row maxima after the point's last trip. -/
def ptRow : Vec F S128x128 .f32 := rowAcc (gb i) x1 x2 x3 k0_pay9 (rowV i x0) k0_t1_loop.trips

/-- The running column maxima `e` after the point, from those before it `d`. -/
def PtCol (d e : Vec F S8x8192 .f32) : Prop := ColNext (gb i) x1 x2 x3 k0_pay9 (rowV i x0) d e

end Body

/-- `d` is `y` with `w` put into row `b` at the 128 places from `r`. -/
def RowAt (b r : ℕ) (w : FVec F S1x128 .f32) (y d : Vec F S2x7168 .f32) : Prop :=
  (∀ (x : S1x128.Idx) (z : S2x7168.Idx), (∀ a : Fin 2, (z a).val = (![b, r] : Fin 2 → ℕ) a + (x a).val) → d z = w x)
  ∧ ∀ z : S2x7168.Idx, ((z 0).val ≠ b ∨ (z 1).val < r ∨ r + 128 ≤ (z 1).val) → d z = y z

/-- `d` is `y` with `w` for its row `b`. -/
def ColAt (b : ℕ) (w : FVec F S1x8192 .f32) (y d : Vec F S2x8192 .f32) : Prop :=
  (∀ (x : S1x8192.Idx) (z : S2x8192.Idx), (∀ a : Fin 2, (z a).val = (![b, 0] : Fin 2 → ℕ) a + (x a).val) → d z = w x)
  ∧ ∀ z : S2x8192.Idx, (z 0).val ≠ b → d z = y z

theorem rowAt_of {arg6 : Memref sig .tc .vmem S2x7168 .f32} {f : BufTy.Contents (Elt F) arg6.view.ty} {y : Vec F S2x7168 .f32} (hf : arg6.view.read (Elt F) f = y)
    {off : Fin 2 → ℕ} {b r : ℕ} (hoff : off = ![b, r]) {inb} {w w' : FVec F S1x128 .f32} (hw : w = w') :
    RowAt b r w' y (arg6.view.read (Elt F) (arg6.view.writes (Elt F) f [⟨Rect.unit (s := S2x7168) off S1x128.size inb, w⟩])) := by
  subst hw; subst hf
  refine ⟨fun x z hz => View.read_writes_cons_unit_of_mem arg6.view f inb w [] z x hoff hz, fun z hz => ?_⟩
  by_cases h0 : (z 0).val = b
  · rw [View.read_writes_cons_unit_of_not_mem arg6.view f inb w [] z hoff (1 : Fin 2) (by
      show (z 1).val < r ∨ r + 128 ≤ (z 1).val
      omega)]
    rfl
  · rw [View.read_writes_cons_unit_of_not_mem arg6.view f inb w [] z hoff (0 : Fin 2) (by
      show (z 0).val < b ∨ b + 1 ≤ (z 0).val
      omega)]
    rfl

theorem colAt_of {arg7 : Memref sig .tc .vmem S2x8192 .f32} {f : BufTy.Contents (Elt F) arg7.view.ty} {y : Vec F S2x8192 .f32} (hf : arg7.view.read (Elt F) f = y)
    {off : Fin 2 → ℕ} {b : ℕ} (hoff : off = ![b, 0]) {inb} {w w' : FVec F S1x8192 .f32} (hw : w = w') :
    ColAt b w' y (arg7.view.read (Elt F) (arg7.view.writes (Elt F) f [⟨Rect.unit (s := S2x8192) off S1x8192.size inb, w⟩])) := by
  subst hw; subst hf
  refine ⟨fun x z hz => View.read_writes_cons_unit_of_mem arg7.view f inb w [] z x hoff hz, fun z hz => ?_⟩
  rw [View.read_writes_cons_unit_of_not_mem arg7.view f inb w [] z hoff (0 : Fin 2) (by
    show (z 0).val < b ∨ b + 1 ≤ (z 0).val
    omega)]
  rfl

theorem word_row (i : grid0.Coords) : (Scalar.muli (BitVec.ofNat 32 (i 1).val) 128#32).toNat = 128 * (i 1).val := by
  have h : (i 1).val < 56 := (i 1).isLt
  show (BitVec.ofNat 32 (i 1).val * 128#32).toNat = _
  rw [BitVec.toNat_mul, BitVec.toNat_ofNat]
  simp only [BitVec.toNat_ofNat]
  omega

theorem off1_eq (i : grid0.Coords) : k0_off1 i = ![0, 128 * (i 1).val] := congrArg (fun n => (![0, n] : Fin 2 → ℕ)) (word_row i)
theorem off2_eq (i : grid0.Coords) : k0_off2 i = ![1, 128 * (i 1).val] := congrArg (fun n => (![1, n] : Fin 2 → ℕ)) (word_row i)
theorem off8_eq (i : grid0.Coords) : k0_off8 i = ![0, 128 * (i 1).val] := congrArg (fun n => (![0, n] : Fin 2 → ℕ)) (word_row i)
theorem off9_eq (i : grid0.Coords) : k0_off9 i = ![1, 128 * (i 1).val] := congrArg (fun n => (![1, n] : Fin 2 → ℕ)) (word_row i)

theorem rowV_read (i : grid0.Coords) (arg2 : Memref sig .tc .vmem S2x7168 .f32) (harg2 : arg2.IsWhole) (x0 : Vec F S2x7168 .f32) :
    k0_pay11 i (View.readAt (Elt F) arg2.view (Rect.unit (s := S2x7168) (k0_off1 i) S1x128.size (k0_off1_inb i)).toLoadRect (harg2.unread x0))
      (View.readAt (Elt F) arg2.view (Rect.unit (s := S2x7168) (k0_off2 i) S1x128.size (k0_off2_inb i)).toLoadRect (harg2.unread x0)) = rowV i x0 := by
  rw [View.readAt_eq_ld, View.readAt_eq_ld, harg2.read_unread]; rfl

section Loop

variable {c : Dev nD} {i : grid0.Coords} {arg2 : Memref sig .tc .vmem S2x7168 .f32} {harg2 : arg2.IsWhole} {arg3 : Memref sig .tc .vmem S2x8192 .f32} {harg3 : arg3.IsWhole} {arg4 : Memref sig .tc .vmem S1x128x8192 .bf16} {harg4 : arg4.IsWhole} {arg5 : Memref sig .tc .vmem S1x128x4096 .i8} {harg5 : arg5.IsWhole} {arg6 : Memref sig .tc .vmem S2x7168 .f32} {harg6 : arg6.IsWhole} {arg7 : Memref sig .tc .vmem S2x8192 .f32} {harg7 : arg7.IsWhole} {arg8 : Memref sig .tc .vmem S256x256 .bf16} {harg8 : arg8.IsWhole} {arg9 : Memref sig .tc .vmem S128x128 .f32} {harg9 : arg9.IsWhole} {arg10 : Memref sig .tc .vmem S128x128 .f32} {harg10 : arg10.IsWhole} {arg11 : Memref sig .tc .vmem S8x8192 .f32} {harg11 : arg11.IsWhole} {X_arg3 : BufTy.Contents (Elt F) arg3.view.ty} {X_arg4 : BufTy.Contents (Elt F) arg4.view.ty} {X_arg5 : BufTy.Contents (Elt F) arg5.view.ty} {X_arg8 : BufTy.Contents (Elt F) arg8.view.ty} {X_arg9 : BufTy.Contents (Elt F) arg9.view.ty} {x0 : Vec F S2x7168 .f32} {x1 : Vec F S2x8192 .f32} {x2 : Vec F S1x128x8192 .bf16} {x3 : Vec F S1x128x4096 .i8}
  {G_arg10 : BufTy.Contents (Elt F) arg10.view.ty} {G_arg11 : BufTy.Contents (Elt F) arg11.view.ty}

theorem ptRow_of (h3 : arg3.view.read (Elt F) X_arg3 = x1) (h4 : arg4.view.read (Elt F) X_arg4 = x2) (h5 : arg5.view.read (Elt F) X_arg5 = x3) (h8 : arg8.view.read (Elt F) X_arg8 = k0_pay9) (h9 : arg9.view.read (Elt F) X_arg9 = rowV i x0) (h10 : arg10.view.read (Elt F) G_arg10 = k0_pay12) {inb} :
    View.readAt (Elt F) arg10.view (Rect.unit (s := S128x128) ![0, 0] S128x128.size inb).toLoadRect (arg10.view.writes (Elt F) G_arg10 (pb_k0_t1 (F := F) Variants.none c none i arg2 harg2 arg3 harg3 arg4 harg4 arg5 harg5 arg6 harg6 arg7 harg7 arg8 harg8 arg9 harg9 arg10 harg10 arg11 harg11 (BitVec.ofNat 32 (i 0).val) X_arg3 X_arg4 X_arg5 X_arg8 X_arg9 G_arg10 G_arg11 (Scf.trips k0_t1_loop.lb k0_t1_loop.ub k0_t1_loop.st)).1) = ptRow i x0 x1 x2 x3 := by
  have hl := loop_10 (F := F) Variants.none c none i arg2 harg2 arg3 harg3 arg4 harg4 arg5 harg5 arg6 harg6 arg7 harg7 arg8 harg8 arg9 harg9 arg10 harg10 arg11 harg11 (BitVec.ofNat 32 (i 0).val) X_arg3 X_arg4 X_arg5 X_arg8 X_arg9 G_arg10 G_arg11 h10 k0_t1_loop.trips le_rfl
  rw [h3, h4, h5, h8, h9] at hl
  rw [View.readAt_eq_ld]
  exact (View.ld_unit_zero (S := S128x128) zero2 _ _).trans hl

theorem ptCol_of (h3 : arg3.view.read (Elt F) X_arg3 = x1) (h4 : arg4.view.read (Elt F) X_arg4 = x2) (h5 : arg5.view.read (Elt F) X_arg5 = x3) (h8 : arg8.view.read (Elt F) X_arg8 = k0_pay9) (h9 : arg9.view.read (Elt F) X_arg9 = rowV i x0) {d : Vec F S8x8192 .f32} (h11 : arg11.view.read (Elt F) G_arg11 = d) :
    PtCol i x0 x1 x2 x3 d (arg11.view.read (Elt F) (arg11.view.writes (Elt F) G_arg11 (pb_k0_t1 (F := F) Variants.none c none i arg2 harg2 arg3 harg3 arg4 harg4 arg5 harg5 arg6 harg6 arg7 harg7 arg8 harg8 arg9 harg9 arg10 harg10 arg11 harg11 (BitVec.ofNat 32 (i 0).val) X_arg3 X_arg4 X_arg5 X_arg8 X_arg9 G_arg10 G_arg11 (Scf.trips k0_t1_loop.lb k0_t1_loop.ub k0_t1_loop.st)).2)) := by
  have hl := loop_11 (F := F) Variants.none c none i arg2 harg2 arg3 harg3 arg4 harg4 arg5 harg5 arg6 harg6 arg7 harg7 arg8 harg8 arg9 harg9 arg10 harg10 arg11 harg11 (BitVec.ofNat 32 (i 0).val) X_arg3 X_arg4 X_arg5 X_arg8 X_arg9 G_arg10 G_arg11
  rw [h3, h4, h5, h8, h9, h11] at hl
  exact hl

end Loop

end Cert.StatsIdeal.Hand

end

end
-- ==== Proof.StatsIdealRun.Runs.lean ====
/- What the runs of the kernel body of `StatsIdeal` share: the staging memrefs, the conditions on the grid point, each input block. -/
module

public import proofs.«01_k».proof.Proof.Gen.StatsIdeal.Launch
public import proofs.«01_k».proof.Proof.Gen.StatsIdeal.Skeleton
public import proofs.«01_k».proof.Proof.Gen.StatsIdeal.Loops
public import proofs.«01_k».proof.Proof.Gen.StatsIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.StatsIdeal.Run

open Cert.StatsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_StatsIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 112 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 56) — by arithmetic of the point. -/
theorem hcond0_1 : ∀ t : Fin cfg0.N, cond0_1 (grid0.coords t) ↔ t.val % 56 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_1, e0, e1]
    word_cmp
   : ∀ t : Fin grid0.N, cond0_1 (grid0.coords t) ↔ t.val % 56 = 0)

/-- The condition of the body's `scf.if` 2 (`k0_h3`), from the grid coordinates (the skeleton's scalar
    chain substituted). -/
abbrev cond0_2 (i : grid0.Coords) : Prop := k0_cond3 i = 1#1
/-- It holds at the points before point 56 — by arithmetic of the point. -/
theorem hcond0_2 : ∀ t : Fin cfg0.N, cond0_2 (grid0.coords t) ↔ t.val < 56 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_2, k0_cond3, e0, e1]
    word_cmp
   : ∀ t : Fin grid0.N, cond0_2 (grid0.coords t) ↔ t.val < 56)

/-- The condition of the body's `scf.if` 3 (`k0_h4`), from the grid coordinates (the skeleton's scalar
    chain substituted). -/
abbrev cond0_3 (i : grid0.Coords) : Prop := k0_cond4 i = 1#1
/-- It holds at the points from point 56 on — by arithmetic of the point. -/
theorem hcond0_3 : ∀ t : Fin cfg0.N, cond0_3 (grid0.coords t) ↔ 56 ≤ t.val :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_3, k0_cond4, e0, e1]
    word_cmp
   : ∀ t : Fin grid0.N, cond0_3 (grid0.coords t) ↔ 56 ≤ t.val)

/-- The condition of the body's `scf.if` 4 (`k0_h5`), from the grid coordinates (the skeleton's scalar
    chain substituted). -/
abbrev cond0_4 (i : grid0.Coords) : Prop := k0_cond5 i = 1#1
/-- It holds at the points ≡ 55 (mod 56) — by arithmetic of the point. -/
theorem hcond0_4 : ∀ t : Fin cfg0.N, cond0_4 (grid0.coords t) ↔ t.val % 56 = 55 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_4, k0_cond5, e0, e1]
    word_cmp
   : ∀ t : Fin grid0.N, cond0_4 (grid0.coords t) ↔ t.val % 56 = 55)

/-- The condition of the body's `scf.if` 5 (`k0_h6`), from the grid coordinates (the skeleton's scalar
    chain substituted). -/
abbrev cond0_5 (i : grid0.Coords) : Prop := k0_cond6 i = 1#1
/-- It holds at the points before point 56 — by arithmetic of the point. -/
theorem hcond0_5 : ∀ t : Fin cfg0.N, cond0_5 (grid0.coords t) ↔ t.val < 56 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_5, k0_cond6, e0, e1]
    word_cmp
   : ∀ t : Fin grid0.N, cond0_5 (grid0.coords t) ↔ t.val < 56)

/-- The condition of the body's `scf.if` 6 (`k0_h7`), from the grid coordinates (the skeleton's scalar
    chain substituted). -/
abbrev cond0_6 (i : grid0.Coords) : Prop := k0_cond7 i = 1#1
/-- It holds at the points from point 56 on — by arithmetic of the point. -/
theorem hcond0_6 : ∀ t : Fin cfg0.N, cond0_6 (grid0.coords t) ↔ 56 ≤ t.val :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_6, k0_cond7, e0, e1]
    word_cmp
   : ∀ t : Fin grid0.N, cond0_6 (grid0.coords t) ↔ 56 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x7168 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8192 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x256 .bf16 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S8x8192 .f32 := Memref.whole cc0_scratch3
/-- The scratch `arg8` the kernel carries between points, as a view: what it holds is stated through it. -/
abbrev VS0_0 : View sig .tc .vmem S256x256 .bf16 := scM0_0.view
/-- The scratch `arg11` the kernel carries between points, as a view: what it holds is stated through it. -/
abbrev VS0_3 : View sig .tc .vmem S8x8192 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.StatsIdeal.Run

end
-- ==== Proof.Stats.RunA.lean ====
/- The statistics kernel's body run at a grid point of case A: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_A (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : cond0_0 i) (hc1 : cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 0 (128 * (i 1).val) (k0_pay1 (ptRow i x0 x1 x2 x3)) y4 d⌝ ∗ owns (c : Thread nD τ) arg6 fullShare d) ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 k0_pay10 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  skip
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off8_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact View.read_writes_full _ _ _ _ _
    · sl_unfold_run_names; exact (View.read_writes_full _ _ _ _ _).trans (rowV_read i _ harg2 _)
    · sl_unfold_run_names; exact View.read_writes_full _ _ _ _ _
  isplitl [H5]
  · iexists _; isplitr; · ipureintro; exact harg7.read_unread _
    iexact H5
  isplitl [HS0]
  · iexists _; isplitr; swap; · iexact HS0
    ipureintro
    exact View.read_writes_full _ _ _ _ _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · rw [View.writes_append]
    refine ptCol_of (F := F) (h3 := harg3.read_unread _) (h4 := harg4.read_unread _) (h5 := harg5.read_unread _) (h8 := ?_) (h9 := ?_) (h11 := ?_)
    · sl_unfold_run_names; exact View.read_writes_full _ _ _ _ _
    · sl_unfold_run_names; exact (View.read_writes_full _ _ _ _ _).trans (rowV_read i _ harg2 _)
    · sl_unfold_run_names; exact View.read_writes_full _ _ _ _ _

end Cert.StatsIdeal.Hand

end

end
-- ==== Proof.Stats.RunB.lean ====
/- The statistics kernel's body run at a grid point of case B: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_B (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : ¬cond0_4 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (s3 : Vec F S8x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ owns (c : Thread nD τ) arg11 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 0 (128 * (i 1).val) (k0_pay1 (ptRow i x0 x1 x2 x3)) y4 d⌝ ∗ owns (c : Thread nD τ) arg6 fullShare d) ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 s3 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs0; obtain rfl := harg11.eq_unread hfs3; skip
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off8_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact harg8.read_unread _
    · sl_unfold_run_names; exact (View.read_writes_full _ _ _ _ _).trans (rowV_read i _ harg2 _)
    · sl_unfold_run_names; exact View.read_writes_full _ _ _ _ _
  isplitl [H5]
  · iexists _; isplitr; · ipureintro; exact harg7.read_unread _
    iexact H5
  isplitl [HS0]
  · iexists _; isplitr; swap; · iexact HS0
    ipureintro
    exact harg8.read_unread _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _

end Cert.StatsIdeal.Hand

end

end
-- ==== Proof.Stats.RunC.lean ====
/- The statistics kernel's body run at a grid point of case C: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_C (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : cond0_2 i) (hc3 : ¬cond0_3 i) (hc4 : cond0_4 i) (hc5 : cond0_5 i) (hc6 : ¬cond0_6 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (s3 : Vec F S8x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ owns (c : Thread nD τ) arg11 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 0 (128 * (i 1).val) (k0_pay1 (ptRow i x0 x1 x2 x3)) y4 d⌝ ∗ owns (c : Thread nD τ) arg6 fullShare d) ∗ (∃ d, ⌜∃ e, PtCol i x0 x1 x2 x3 s3 e ∧ ColAt 0 (k0_pay2 e) y5 d⌝ ∗ owns (c : Thread nD τ) arg7 fullShare d) ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 s3 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs0; obtain rfl := harg11.eq_unread hfs3; skip
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off8_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact harg8.read_unread _
    · sl_unfold_run_names; exact (View.read_writes_full _ _ _ _ _).trans (rowV_read i _ harg2 _)
    · sl_unfold_run_names; exact View.read_writes_full _ _ _ _ _
  isplitl [H5]
  · iexists _; isplitr; swap
    · iexists _; isplitr; swap
      · iexact H5
      ipureintro; rfl
    ipureintro
    sl_unfold_run_names
    refine ⟨_, ?_, colAt_of (harg7.read_unread _) rfl (congrArg k0_pay2 ((View.readAt_eq_ld _ _ _).trans (View.ld_unit_zero (S := S8x8192) zero2 _ _)))⟩
    skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _
  isplitl [HS0]
  · iexists _; isplitr; swap; · iexact HS0
    ipureintro
    exact harg8.read_unread _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _

end Cert.StatsIdeal.Hand

end

end
-- ==== Proof.Stats.RunD.lean ====
/- The statistics kernel's body run at a grid point of case D: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_D (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 1 (128 * (i 1).val) (k0_pay1 (ptRow i x0 x1 x2 x3)) y4 d⌝ ∗ owns (c : Thread nD τ) arg6 fullShare d) ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 k0_pay10 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs0; skip
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off9_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact harg8.read_unread _
    · sl_unfold_run_names; exact (View.read_writes_full _ _ _ _ _).trans (rowV_read i _ harg2 _)
    · sl_unfold_run_names; exact View.read_writes_full _ _ _ _ _
  isplitl [H5]
  · iexists _; isplitr; · ipureintro; exact harg7.read_unread _
    iexact H5
  isplitl [HS0]
  · iexists _; isplitr; swap; · iexact HS0
    ipureintro
    exact harg8.read_unread _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · rw [View.writes_append]
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact View.read_writes_full _ _ _ _ _

end Cert.StatsIdeal.Hand

end

end
-- ==== Proof.Stats.RunE.lean ====
/- The statistics kernel's body run at a grid point of case E: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_E (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : ¬cond0_4 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (s3 : Vec F S8x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ owns (c : Thread nD τ) arg11 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 1 (128 * (i 1).val) (k0_pay1 (ptRow i x0 x1 x2 x3)) y4 d⌝ ∗ owns (c : Thread nD τ) arg6 fullShare d) ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 s3 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs0; obtain rfl := harg11.eq_unread hfs3; skip
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off9_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact harg8.read_unread _
    · sl_unfold_run_names; exact (View.read_writes_full _ _ _ _ _).trans (rowV_read i _ harg2 _)
    · sl_unfold_run_names; exact View.read_writes_full _ _ _ _ _
  isplitl [H5]
  · iexists _; isplitr; · ipureintro; exact harg7.read_unread _
    iexact H5
  isplitl [HS0]
  · iexists _; isplitr; swap; · iexact HS0
    ipureintro
    exact harg8.read_unread _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _

end Cert.StatsIdeal.Hand

end

end
-- ==== Proof.Stats.RunF.lean ====
/- The statistics kernel's body run at a grid point of case F: what it leaves in its result blocks and in the running maxima. -/
module

public import proofs.«01_k».proof.Proof.Stats.Body
public import proofs.«01_k».proof.Proof.StatsIdealRun.Runs

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run (cond0_0 cond0_1 cond0_2 cond0_3 cond0_4 cond0_5 cond0_6)

variable {F : FTy → Type} [FloatOps F] [Named F]

local notation "𝕄" => MT nD τ sig Unit (Elt F) ℕ (UR sig nD τ) ℕ

set_option maxHeartbeats 4000000 in
theorem run_F (c : Dev nD) (i : grid0.Coords) (arg2 : Memref sig .tc .vmem S2x7168 .f32) (harg2 : arg2.IsWhole) (arg3 : Memref sig .tc .vmem S2x8192 .f32) (harg3 : arg3.IsWhole) (arg4 : Memref sig .tc .vmem S1x128x8192 .bf16) (harg4 : arg4.IsWhole) (arg5 : Memref sig .tc .vmem S1x128x4096 .i8) (harg5 : arg5.IsWhole) (arg6 : Memref sig .tc .vmem S2x7168 .f32) (harg6 : arg6.IsWhole) (arg7 : Memref sig .tc .vmem S2x8192 .f32) (harg7 : arg7.IsWhole) (arg8 : Memref sig .tc .vmem S256x256 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S8x8192 .f32) (harg11 : arg11.IsWhole) (hc0 : ¬cond0_0 i) (hc1 : ¬cond0_1 i) (hc2 : ¬cond0_2 i) (hc3 : cond0_3 i) (hc4 : cond0_4 i) (hc5 : ¬cond0_5 i) (hc6 : cond0_6 i)
    (x0 : Vec F S2x7168 .f32) (x1 : Vec F S2x8192 .f32) (x2 : Vec F S1x128x8192 .bf16) (x3 : Vec F S1x128x4096 .i8) (y4 : Vec F S2x7168 .f32) (y5 : Vec F S2x8192 .f32) (s3 : Vec F S8x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (k0_pay9 (F := F)) ∗ (∃ d, owns (c : Thread nD τ) arg9 fullShare d) ∗ (∃ d, owns (c : Thread nD τ) arg10 fullShare d) ∗ owns (c : Thread nD τ) arg11 fullShare s3
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, ⌜RowAt 1 (128 * (i 1).val) (k0_pay1 (ptRow i x0 x1 x2 x3)) y4 d⌝ ∗ owns (c : Thread nD τ) arg6 fullShare d) ∗ (∃ d, ⌜∃ e, PtCol i x0 x1 x2 x3 s3 e ∧ ColAt 1 (k0_pay2 e) y5 d⌝ ∗ owns (c : Thread nD τ) arg7 fullShare d) ∗ owns (c : Thread nD τ) arg8 fullShare (k0_pay9 (F := F)) ∗ (∃ d, owns (c : Thread nD τ) arg9 fullShare d) ∗ (∃ d, owns (c : Thread nD τ) arg10 fullShare d) ∗ (∃ e, ⌜PtCol i x0 x1 x2 x3 s3 e⌝ ∗ owns (c : Thread nD τ) arg11 fullShare e)) -∗ K ⟨⟩))
      ⊢ wp frame (wpE (defs₀ (F := F)) Variants.none c none) E (cc0_stats i arg2 harg2 arg3 harg3 arg4 harg4 arg5 harg5 arg6 harg6 arg7 harg7 arg8 harg8 arg9 harg9 arg10 harg10 arg11 harg11) K := by
  simp only [cc0_stats_eq_skeleton]; unfold cc0_stats_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hfs0; obtain rfl := harg11.eq_unread hfs3; skip
  sl_exec (disch := first | sl_exact hc0 | sl_exact hc1 | sl_exact hc2 | sl_exact hc3 | sl_exact hc4 | sl_exact hc5 | sl_exact hc6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap
    · iexists _; isplitr; swap
      · iexact H4
      ipureintro; rfl
    ipureintro
    refine rowAt_of (harg6.read_unread _) (off9_eq i) ?_
    sl_unfold_run_names
    refine congrArg k0_pay1 ?_
    show View.readAt (Elt F) arg10.view _ (arg10.view.writes (Elt F) arg10.view.junk _) = _
    rw [View.writes_append]
    refine ptRow_of (F := F) (h3 := harg3.read_unread _) (h4 := harg4.read_unread _) (h5 := harg5.read_unread _) (h8 := ?_) (h9 := ?_) (h10 := ?_)
    · sl_unfold_run_names; exact harg8.read_unread _
    · sl_unfold_run_names; exact (View.read_writes_full _ _ _ _ _).trans (rowV_read i _ harg2 _)
    · sl_unfold_run_names; exact View.read_writes_full _ _ _ _ _
  isplitl [H5]
  · iexists _; isplitr; swap
    · iexists _; isplitr; swap
      · iexact H5
      ipureintro; rfl
    ipureintro
    sl_unfold_run_names
    refine ⟨_, ?_, colAt_of (harg7.read_unread _) rfl (congrArg k0_pay2 ((View.readAt_eq_ld _ _ _).trans (View.ld_unit_zero (S := S8x8192) zero2 _ _)))⟩
    skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _
  isplitl [HS0]
  · iexists _; isplitr; swap; · iexact HS0
    ipureintro
    exact harg8.read_unread _
  isplitl [HS1]
  · iexists _, _; isplitr; swap; · iexact HS1
    ipureintro; rfl
  isplitl [HS2]
  · iexists _, _; isplitr; swap; · iexact HS2
    ipureintro; rfl
  iexists _; isplitr; swap
  · iexists _; isplitr; swap
    · iexact HS3
    ipureintro; rfl
  ipureintro
  · skip
    refine ptCol_of (F := F) (h3 := harg3.read_unread _) (h4 := harg4.read_unread _) (h5 := harg5.read_unread _) (h8 := ?_) (h9 := ?_) (h11 := ?_)
    · sl_unfold_run_names; exact harg8.read_unread _
    · sl_unfold_run_names; exact (View.read_writes_full _ _ _ _ _).trans (rowV_read i _ harg2 _)
    · sl_unfold_run_names; exact harg11.read_unread _

end Cert.StatsIdeal.Hand

end

end
-- ==== Proof.Stats.Frame.lean ====
/- The run of the statistics kernel: what its region leaves in the two result blocks at each grid point, the invariant that holds
   from one point to the next, the launch, and the frame. -/
module

public import proofs.«01_k».proof.Proof.Stats.RunA
public import proofs.«01_k».proof.Proof.Stats.RunB
public import proofs.«01_k».proof.Proof.Stats.RunC
public import proofs.«01_k».proof.Proof.Stats.RunD
public import proofs.«01_k».proof.Proof.Stats.RunE
public import proofs.«01_k».proof.Proof.Stats.RunF
public import Idealize.ShloMosaic.Lib.Pipeline.DatRel
public import Idealize.ShloMosaic.Lib.Pipeline.ArrRel
public import Idealize.ShloMosaic.Lib.Claim

@[expose] public section

set_option maxRecDepth 16384

noncomputable section

namespace Cert.StatsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.StatsIdeal.Gen
open Cert.StatsIdeal.Run
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of the results, held to a predicate. -/
def forgets0 : Fin 6 → Bool := fun w => w.val == 4 || w.val == 5

/-- The grid row of point `t`. -/
theorem i0_eq (t : Fin cfg0.N) : (grid0.coords t 0).val = t.val / 56 := by
  have h : (grid0.coords t 0).val = t.val / 56 % 2 := Pipeline.Grid.coords_val t 0 (by decide) rfl
  have hN : t.val < 112 := lt_of_lt_of_eq t.isLt (show cfg0.N = 112 from N_0)
  omega

/-- The grid column of point `t`. -/
theorem i1_eq (t : Fin cfg0.N) : (grid0.coords t 1).val = t.val % 56 := by
  have h : (grid0.coords t 1).val = t.val / 1 % 56 := Pipeline.Grid.coords_val t 1 (by decide) rfl
  rw [Nat.div_one] at h; exact h

/-- The running column maxima `e` after point `n`, from those before it `d`. -/
def PtAt (c : Dev nD) (u : Fin cfg0.N) (d e : Vec F S8x8192 .f32) : Prop :=
  PtCol (grid0.coords u) (iblk m c 0 u) (iblk m c 1 u) (iblk m c 2 u) (iblk m c 3 u) d e

/-- The running column maxima after point `n` of the grid. -/
def CmN (c : Dev nD) : (n : ℕ) → n < cfg0.N → Vec F S8x8192 .f32 → Prop
  | 0, h, e => PtAt m c ⟨0, h⟩ k0_pay10 e
  | n + 1, h, e => ((n + 1) % 56 = 0 → PtAt m c ⟨n + 1, h⟩ k0_pay10 e)
      ∧ ((n + 1) % 56 ≠ 0 → ∃ d, CmN c n (Nat.lt_of_succ_lt h) d ∧ PtAt m c ⟨n + 1, h⟩ d e)

theorem CmN_first (c : Dev nD) (t : Fin cfg0.N) (ht : t.val % 56 = 0) (e : Vec F S8x8192 .f32) (h : PtAt m c t k0_pay10 e) : CmN m c t.val t.isLt e := by
  obtain ⟨n, hn⟩ := t
  cases n with
  | zero => exact h
  | succ n => exact ⟨fun _ => h, fun h' => absurd ht h'⟩

theorem CmN_next (c : Dev nD) (t : Fin cfg0.N) (ht : t.val % 56 ≠ 0) (hn : t.val - 1 < cfg0.N) (d e : Vec F S8x8192 .f32)
    (hd : CmN m c (t.val - 1) hn d) (h : PtAt m c t d e) : CmN m c t.val t.isLt e := by
  obtain ⟨n, hn'⟩ := t
  cases n with
  | zero => exact absurd rfl ht
  | succ n => exact ⟨fun h' => absurd h' ht, fun _ => ⟨d, hd, h⟩⟩

/-- What the body leaves in the row statistic's block at point `t`: the row maxima of the points so far. -/
def RlRow (c : Dev nD) (t : Fin cfg0.N) (X : Vec F S2x7168 .f32) : Prop :=
  ∀ u : Fin cfg0.N, u.val ≤ t.val → ∀ (x : S1x128.Idx) (z : S2x7168.Idx), (z 0).val = u.val / 56 → (z 1).val = 128 * (u.val % 56) + (x 1).val →
    X z = k0_pay1 (ptRow (grid0.coords u) (iblk m c 0 u) (iblk m c 1 u) (iblk m c 2 u) (iblk m c 3 u)) x

/-- What the body leaves in the column statistic's block at point `t`: the column maxima of the grid rows done. -/
def RlCol (c : Dev nD) (t : Fin cfg0.N) (X : Vec F S2x8192 .f32) : Prop :=
  ∀ u : Fin cfg0.N, u.val ≤ t.val → u.val % 56 = 55 → ∃ e, CmN m c u.val u.isLt e ∧
    ∀ (x : S1x8192.Idx) (z : S2x8192.Idx), (z 0).val = u.val / 56 → (z 1).val = (x 1).val → X z = k0_pay2 e x

/-- The predicate each result's block meets after point `t`. -/
def Rl (c : Dev nD) (w : Fin cfg0.W) (t : Fin cfg0.N) : ((cfg0.win w).block.Idx → Elt F (cfg0.win w).elt) → Prop :=
  match w with
  | ⟨4, _⟩ => RlRow m c t
  | ⟨5, _⟩ => RlCol m c t
  | _ => fun _ => True

/-- The invariant before position `n`: after the first point the spread is in its scratch and the column maxima are the running ones. -/
def PhiS (c : Dev nD) : (n : ℕ) → n ≤ cfg0.N → sProp 𝕄
  | 0, _ => Pipeline.ΦA spec0 c
  | n + 1, hn => iprop(iprop(owns (c : Thread nD τ) scM0_0 fullShare (k0_pay9 (F := F)) ∗ (∃ d, owns (c : Thread nD τ) scM0_1 fullShare d) ∗ (∃ d, owns (c : Thread nD τ) scM0_2 fullShare d) ∗ (∃ e, ⌜CmN m c n hn e⌝ ∗ owns (c : Thread nD τ) scM0_3 fullShare e)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) scM0_0 fullShare (k0_pay9 (F := F)) ∗ (∃ d, owns (c : Thread nD τ) scM0_1 fullShare d) ∗ (∃ d, owns (c : Thread nD τ) scM0_2 fullShare d) ∗ (∃ e, ⌜CmN m c n hn e⌝ ∗ owns (c : Thread nD τ) scM0_3 fullShare e)) ∗ (∃ r, prngReg c r)) := rfl

theorem PhiS_pos (c : Dev nD) (n : ℕ) (h : n ≤ cfg0.N) (hz : n ≠ 0) (h' : n - 1 < cfg0.N) : PhiS m c n h = iprop(iprop(owns (c : Thread nD τ) scM0_0 fullShare (k0_pay9 (F := F)) ∗ (∃ d, owns (c : Thread nD τ) scM0_1 fullShare d) ∗ (∃ d, owns (c : Thread nD τ) scM0_2 fullShare d) ∗ (∃ e, ⌜CmN m c (n - 1) h' e⌝ ∗ owns (c : Thread nD τ) scM0_3 fullShare e)) ∗ (∃ r, prngReg c r)) := by
  cases n with
  | zero => exact absurd rfl hz
  | succ n => rfl

/-- The proof data of the pipeline: the arrays as the region finds them, each input block left as it was found, the
    invariant above; the results are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The arrays are the contents the region finds. -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The data with the results held to `Rl`. -/
abbrev rdat (c : Dev nD) : Pipeline.RDat τ (Elt F) Unit ℕ (UR sig nD τ) ℕ cfg0 c := (dats m 0 c).toRRel forgets0 (Rl m c)

/-- What the body finds in a result's block is what the point before left. -/
theorem finds_row (c : Dev nD) (t : Fin cfg0.N) (Y : Vec F S2x7168 .f32) (h : (rdat m c).Finds 4 t Y) (u : Fin cfg0.N) (hlt : u.val < t.val) :
    ∃ t' : Fin cfg0.N, u.val ≤ t'.val ∧ RlRow m c t' Y := by
  have hz : t.val ≠ 0 := by omega
  have hN : t.val < 112 := lt_of_lt_of_eq t.isLt (show cfg0.N = 112 from N_0)
  rcases ((rdat m c).finds_of_pos (w := 4) (Pipeline.Window.fetch_out _ rfl _) hz Y).mp h with hf | hL
  · have := (flush0_4 _).mp hf
    dsimp only at this
    omega
  · exact ⟨_, by dsimp only; omega, Dat.toRRel_leaves (w := 4) (dats m 0 c) rfl hL⟩

theorem finds_col (c : Dev nD) (t : Fin cfg0.N) (Y : Vec F S2x8192 .f32) (h : (rdat m c).Finds 5 t Y) (u : Fin cfg0.N) (hlt : u.val < t.val) :
    ∃ t' : Fin cfg0.N, u.val ≤ t'.val ∧ RlCol m c t' Y := by
  have hz : t.val ≠ 0 := by omega
  have hN : t.val < 112 := lt_of_lt_of_eq t.isLt (show cfg0.N = 112 from N_0)
  rcases ((rdat m c).finds_of_pos (w := 5) (Pipeline.Window.fetch_out _ rfl _) hz Y).mp h with hf | hL
  · have := (flush0_5 _).mp hf
    dsimp only at this
    omega
  · exact ⟨_, by dsimp only; omega, Dat.toRRel_leaves (w := 5) (dats m 0 c) rfl hL⟩

/-- The point's own rows join them. -/
theorem row_step (c : Dev nD) (t : Fin cfg0.N) (Y X : Vec F S2x7168 .f32) (h : (rdat m c).Finds 4 t Y) {b : ℕ} (hb : b = t.val / 56)
    (hX : RowAt b (128 * (grid0.coords t 1).val) (k0_pay1 (ptRow (grid0.coords t) (iblk m c 0 t) (iblk m c 1 t) (iblk m c 2 t) (iblk m c 3 t))) Y X) : RlRow m c t X := by
  intro u hle x z h0 h1
  rw [i1_eq, hb] at hX
  have hx : (x 1).val < 128 := (x 1).isLt
  have hx0 : (x 0).val < 1 := (x 0).isLt
  rcases Nat.lt_or_eq_of_le hle with hlt | he
  · rw [hX.2 z (by omega)]
    obtain ⟨t', ht', hr⟩ := finds_row m c t Y h u hlt
    exact hr u ht' x z h0 h1
  · obtain rfl : u = t := Fin.ext he
    refine hX.1 x z fun a => ?_
    fin_cases a
    · show (z 0).val = u.val / 56 + (x 0).val
      omega
    · exact h1

/-- The blocks of a grid row that is not done are as they were found. -/
theorem col_keep (c : Dev nD) (t : Fin cfg0.N) (Y : Vec F S2x8192 .f32) (h : (rdat m c).Finds 5 t Y) (ht : t.val % 56 ≠ 55) : RlCol m c t Y := by
  intro u hle hu
  rcases Nat.lt_or_eq_of_le hle with hlt | he
  · obtain ⟨t', ht', hr⟩ := finds_col m c t Y h u hlt
    exact hr u ht' hu
  · omega

/-- At the last point of a grid row its maxima join them. -/
theorem col_step (c : Dev nD) (t : Fin cfg0.N) (Y X : Vec F S2x8192 .f32) (h : (rdat m c).Finds 5 t Y) {b : ℕ} (hb : b = t.val / 56)
    (hX : ∃ e, CmN m c t.val t.isLt e ∧ ColAt b (k0_pay2 e) Y X) : RlCol m c t X := by
  obtain ⟨e, he, hX⟩ := hX
  rw [hb] at hX
  intro u hle hu
  rcases Nat.lt_or_eq_of_le hle with hlt | heq
  · obtain ⟨t', ht', hr⟩ := finds_col m c t Y h u hlt
    obtain ⟨e', he', hr⟩ := hr u ht' hu
    refine ⟨e', he', fun x z h0 h1 => ?_⟩
    by_cases hut : u.val / 56 = t.val / 56
    · exfalso
      have := t.isLt
      omega
    rw [hX.2 z (by omega)]
    exact hr x z h0 h1
  · obtain rfl : u = t := Fin.ext heq
    refine ⟨e, he, fun x z h0 h1 => hX.1 x z fun a => ?_⟩
    have hx0 : (x 0).val < 1 := (x 0).isLt
    fin_cases a
    · show (z 0).val = u.val / 56 + (x 0).val
      omega
    · show (z 1).val = 0 + (x 1).val
      omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X))

set_option maxHeartbeats 12800000 in
/-- The body at a point of case A. -/
theorem sound_A (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_zero m c _ _ hz, PhiA0_eq]
  iintro ⟨⟨⟨HS0, HS1, HS2, HS3⟩, Hg⟩, Ho, ⟨%d0, H0⟩, ⟨%d1, H1⟩, ⟨%d2, H2⟩, ⟨%d3, H3⟩, ⟨%d4, %hd4, H4⟩, ⟨%d5, %hd5, H5⟩⟩
  iapply (run_A c (grid0.coords t) _ _ _ _ _ _ _ _ _ _ _ _ _ _ _ _ _ _ _ _ ((hcond0_0 t).mpr (by omega)) ((hcond0_1 t).mpr (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) d4 d5 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, ⟨%e4, %g4, H4⟩, H5, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_first m c t (by omega) e he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists d5; isplitr; · ipureintro; exact col_keep m c t d5 hd5 (by omega)
  iexact H5

set_option maxHeartbeats 12800000 in
/-- The body at a point of case B. -/
theorem sound_B (c : Dev nD) (t : Fin cfg0.N) (hz : t.val ≠ 0 ∧ t.val < 55) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_pos m c _ _ (by omega) (by omega)]
  iintro ⟨⟨⟨HS0, HS1, HS2, ⟨%s3, %hs3, HS3⟩⟩, Hg⟩, Ho, ⟨%d0, H0⟩, ⟨%d1, H1⟩, ⟨%d2, H2⟩, ⟨%d3, H3⟩, ⟨%d4, %hd4, H4⟩, ⟨%d5, %hd5, H5⟩⟩
  iapply (run_B c (grid0.coords t) _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 0 t) (iblk m c 1 t) (iblk m c 2 t) (iblk m c 3 t) d4 d5 s3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, ⟨%e4, %g4, H4⟩, H5, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_next m c t (by omega) _ s3 e hs3 he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists d5; isplitr; · ipureintro; exact col_keep m c t d5 hd5 (by omega)
  iexact H5

set_option maxHeartbeats 12800000 in
/-- The body at a point of case C. -/
theorem sound_C (c : Dev nD) (t : Fin cfg0.N) (hz : t.val = 55) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_pos m c _ _ (by omega) (by omega)]
  iintro ⟨⟨⟨HS0, HS1, HS2, ⟨%s3, %hs3, HS3⟩⟩, Hg⟩, Ho, ⟨%d0, H0⟩, ⟨%d1, H1⟩, ⟨%d2, H2⟩, ⟨%d3, H3⟩, ⟨%d4, %hd4, H4⟩, ⟨%d5, %hd5, H5⟩⟩
  iapply (run_C c (grid0.coords t) _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) ((hcond0_4 t).mpr (by omega)) ((hcond0_5 t).mpr (by omega)) (fun h => absurd ((hcond0_6 t).mp h) (by omega)) (iblk m c 0 t) (iblk m c 1 t) (iblk m c 2 t) (iblk m c 3 t) d4 d5 s3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, ⟨%e4, %g4, H4⟩, ⟨%e5, %g5, H5⟩, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_next m c t (by omega) _ s3 e hs3 he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists e5; isplitr
  · ipureintro
    obtain ⟨e', h1, h2⟩ := g5
    exact col_step m c t d5 e5 hd5 (by omega) ⟨e', CmN_next m c t (by omega) _ s3 e' hs3 h1, h2⟩
  iexact H5

set_option maxHeartbeats 12800000 in
/-- The body at a point of case D. -/
theorem sound_D (c : Dev nD) (t : Fin cfg0.N) (hz : t.val = 56) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_pos m c _ _ (by omega) (by omega)]
  iintro ⟨⟨⟨HS0, HS1, HS2, ⟨%s3, %hs3, HS3⟩⟩, Hg⟩, Ho, ⟨%d0, H0⟩, ⟨%d1, H1⟩, ⟨%d2, H2⟩, ⟨%d3, H3⟩, ⟨%d4, %hd4, H4⟩, ⟨%d5, %hd5, H5⟩⟩
  iapply (run_D c (grid0.coords t) _ _ _ _ _ _ _ _ _ _ _ _ _ _ _ _ _ _ _ _ (fun h => absurd ((hcond0_0 t).mp h) (by omega)) ((hcond0_1 t).mpr (by omega)) (fun h => absurd ((hcond0_2 t).mp h) (by omega)) ((hcond0_3 t).mpr (by omega)) (fun h => absurd ((hcond0_4 t).mp h) (by omega)) (iblk m c 0 t) (iblk m c 1 t) (iblk m c 2 t) (iblk m c 3 t) d4 d5 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexists _; iexact HS3
  iintro ⟨H0, H1, H2, H3, ⟨%e4, %g4, H4⟩, H5, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_first m c t (by omega) e he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists d5; isplitr; · ipureintro; exact col_keep m c t d5 hd5 (by omega)
  iexact H5

set_option maxHeartbeats 12800000 in
/-- The body at a point of case E. -/
theorem sound_E (c : Dev nD) (t : Fin cfg0.N) (hz : 56 < t.val ∧ t.val < 111) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_pos m c _ _ (by omega) (by omega)]
  iintro ⟨⟨⟨HS0, HS1, HS2, ⟨%s3, %hs3, HS3⟩⟩, Hg⟩, Ho, ⟨%d0, H0⟩, ⟨%d1, H1⟩, ⟨%d2, H2⟩, ⟨%d3, H3⟩, ⟨%d4, %hd4, H4⟩, ⟨%d5, %hd5, H5⟩⟩
  iapply (run_E c (grid0.coords t) _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 1 t) (iblk m c 2 t) (iblk m c 3 t) d4 d5 s3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, ⟨%e4, %g4, H4⟩, H5, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_next m c t (by omega) _ s3 e hs3 he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists d5; isplitr; · ipureintro; exact col_keep m c t d5 hd5 (by omega)
  iexact H5

set_option maxHeartbeats 12800000 in
/-- The body at a point of case F. -/
theorem sound_F (c : Dev nD) (t : Fin cfg0.N) (hz : t.val = 111) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 112 := lt_of_lt_of_eq t.isLt (show cfg0.N = 112 from N_0)
  rw [PhiS_castSucc m c t, PhiS_pos m c _ _ (by omega) (by omega)]
  iintro ⟨⟨⟨HS0, HS1, HS2, ⟨%s3, %hs3, HS3⟩⟩, Hg⟩, Ho, ⟨%d0, H0⟩, ⟨%d1, H1⟩, ⟨%d2, H2⟩, ⟨%d3, H3⟩, ⟨%d4, %hd4, H4⟩, ⟨%d5, %hd5, H5⟩⟩
  iapply (run_F c (grid0.coords t) _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) (fun h => absurd ((hcond0_5 t).mp h) (by omega)) ((hcond0_6 t).mpr (by omega)) (iblk m c 0 t) (iblk m c 1 t) (iblk m c 2 t) (iblk m c 3 t) d4 d5 s3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, ⟨%e4, %g4, H4⟩, ⟨%e5, %g5, H5⟩, HS0, HS1, HS2, ⟨%e, %he, HS3⟩⟩
  isplitl [HS0 HS1 HS2 HS3 Hg]
  · isplitl [HS0 HS1 HS2 HS3]
    · isplitl [HS0]; · iexact HS0
      isplitl [HS1]; · iexact HS1
      isplitl [HS2]; · iexact HS2
      iexists e; isplitr
      · ipureintro
        exact CmN_next m c t (by omega) _ s3 e hs3 he
      iexact HS3
    iexact Hg
  isplitl [Ho]; · iexact Ho
  isplitl [H0]; · iexact H0
  isplitl [H1]; · iexact H1
  isplitl [H2]; · iexact H2
  isplitl [H3]; · iexact H3
  isplitl [H4]
  · iexists e4; isplitr; · ipureintro; exact row_step m c t d4 e4 hd4 (by omega) g4
    iexact H4
  iexists e5; isplitr
  · ipureintro
    obtain ⟨e', h1, h2⟩ := g5
    exact col_step m c t d5 e5 hd5 (by omega) ⟨e', CmN_next m c t (by omega) _ s3 e' hs3 h1, h2⟩
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 112 := lt_of_lt_of_eq t.isLt (show cfg0.N = 112 from N_0)
  by_cases hA : t.val = 0
  · exact sound_A m c t hA
  by_cases hB : t.val < 55
  · exact sound_B m c t ⟨hA, hB⟩
  by_cases hC : t.val = 55
  · exact sound_C m c t hC
  by_cases hD : t.val = 56
  · exact sound_D m c t hD
  by_cases hE : t.val < 111
  · exact sound_E m c t ⟨by omega, hE⟩
  exact sound_F m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht (by have := t.isLt; omega), PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    icases HS3 with ⟨%e, -, HS3⟩
    iexists e; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (rdat m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.StatsIdeal.Hand

end
-- ==== Proof.Stats.Blocks.lean ====
/- The blocks a point of the statistics' grid reads, as the arguments hold them. -/
module

public import proofs.«01_k».proof.Proof.Stats.Frame
public import Idealize.ShloMosaic.Lib.Pipeline.ValueKit.Geometry
public import Idealize.ShloMosaic.Lib.Pointwise

@[expose] public section

set_option maxRecDepth 16384

noncomputable section

namespace Cert.StatsIdeal.Hand

open Idealize.ShloMosaic Idealize.ShloMosaic.TcCoe
open Cert.StatsIdeal.Gen
open Cert.StatsIdeal.Run (iblk V V_main_arg0 V_main_arg1 V_main_arg2 V_main_arg3)

theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![t.val / 56, t.val % 56, 0] := (by decide +kernel : ∀ t : Fin grid0.N, win0_2.index t = ![t.val / 56, t.val % 56, 0])
theorem index_3 : ∀ t : Fin cfg0.N, win0_3.index t = ![t.val / 56, t.val % 56, 0] := (by decide +kernel : ∀ t : Fin grid0.N, win0_3.index t = ![t.val / 56, t.val % 56, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])

variable {F : FTy → Type} [FloatOps F] [Named F]
variable (m : (ℓ : Loc nD τ sig) → Buf (Elt F) ℓ) (c : Dev nD) (t : Fin cfg0.N)

theorem blk0 : (iblk m c 0 t : Vec F S2x7168 .f32) = (m ((c : Thread nD τ).loc main_arg0) : Vec F S2x7168 .f32) := by
  funext y
  rw [← V_main_arg0 m c]
  have h7 := index_0 t
  blk_ext [iblk, h7]

theorem blk1 : (iblk m c 1 t : Vec F S2x8192 .f32) = (m ((c : Thread nD τ).loc main_arg1) : Vec F S2x8192 .f32) := by
  funext y
  rw [← V_main_arg1 m c]
  have h7 := index_1 t
  blk_ext [iblk, h7]

theorem blk2 (b : Fin 2) (hb : b.val = t.val / 56) (p : Fin 128) (r : Fin 7168) (col : Fin 8192) (hr : r.val = 128 * (grid0.coords t 1).val + p.val) :
    (iblk m c 2 t : Vec F S1x128x8192 .bf16) (ix3 0 p col) = (m ((c : Thread nD τ).loc main_arg2) : Vec F S2x7168x8192 .bf16) (ix3 b r col) := by
  rw [i1_eq] at hr
  rw [← V_main_arg2 m c]
  have h7 := index_2 t
  blk_ext [iblk, h7]

theorem blk3 (b : Fin 2) (hb : b.val = t.val / 56) (p : Fin 128) (r : Fin 7168) (col : Fin 4096) (hr : r.val = 128 * (grid0.coords t 1).val + p.val) :
    (iblk m c 3 t : Vec F S1x128x4096 .i8) (ix3 0 p col) = (m ((c : Thread nD τ).loc main_arg3) : Vec F S2x7168x4096 .i8) (ix3 b r col) := by
  rw [i1_eq] at hr
  rw [← V_main_arg3 m c]
  have h7 := index_3 t
  blk_ext [iblk, h7]

end Cert.StatsIdeal.Hand

end
-- ==== Proof.Update.Trip.lean ====
/- One trip of the update kernel's counted loop, in closed form: what each of its four stores puts where, as a
   function of the vectors the trip reads; and what the thirty-two trips together leave in each buffer. -/
module

public import proofs.«01_k».proof.Proof.Gen.UpdateIdeal.Loops
public import Idealize.ShloMosaic.Lib.WritesUnit
public import Idealize.ShloMosaic.Lib.Pipeline.FrameBody
public import Idealize.ShloMosaic.Lib.Pipeline.Value

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen

variable {F : FTy → Type} [FloatOps F] [Named F]

theorem zero2 : (![0, 0] : Fin 2 → ℕ) = fun _ => 0 := by funext a; fin_cases a <;> rfl

/-! ## The vectors of one trip -/

section Values

variable (i : grid0.Coords) (arg0 : BitVec 32) (v41 v42 : Elt F .f32)
  (x4 : Vec F S2x8192 .f32) (x6 : Vec F S2x8192 .f32) (x7 : Vec F S1x56x8192 .f32) (x8 : Vec F S1x128x8192 .bf16)
  (x9 : Vec F S1x128x8192 .bf16) (x10 : Vec F S1x128x4096 .i8) (x11 : Vec F S1x128x4096 .i8)
  (x16 : Vec F S256x256 .bf16) (x17 : Vec F S256x128 .bf16) (x18 x19 : Vec F S128x128 .f32) (k : Fin k0_t1_loop.trips)

/-- The two rows of the column statistic `x4`, at trip `k`'s 256 columns, and the batch's one of them normed. -/
def colV : FVec F S1x256 .f32 :=
  k0_pay3 arg0 (View.ld x4 (Rect.unit (k0_off3 k) S1x256.size (k0_off3_inb k)))
    (View.ld x4 (Rect.unit (k0_off4 k) S1x256.size (k0_off4_inb k)))

/-- The second moment's codes of trip `k`, unpacked. -/
def codeV : FVec F S128x256 .f32 :=
  k0_pay4 (View.ld x11 (Rect.unit (k0_off5 k) S1x128x128.size (k0_off5_inb k))) x16

/-- The gradient's columns of trip `k`. -/
def gradV : FVec F S128x256 .f32 :=
  k0_pay5 (View.ld x9 (Rect.unit (k0_off6 k) S1x128x256.size (k0_off6_inb k)))

/-- The (scaled) second moment of trip `k`. -/
def momV : FVec F S128x256 .f32 :=
  k0_pay6 (colV arg0 x4 k) (codeV x11 x16 k) (gradV x9 k) x18

/-- The (scaled) first moment of trip `k`. -/
def momM : FVec F S128x256 .f32 :=
  k0_pay7 (gradV x9 k) (View.ld x10 (Rect.unit (k0_off5 k) S1x128x128.size (k0_off5_inb k))) x16
    (View.ld x7 (Rect.unit (k0_off7 i k) S1x1x256.size (k0_off7_inb i k)))

/-- What trip `k` stores into the weight step's block. -/
def outDw : FVec F S1x128x256 .f32 :=
  k0_pay10 (k0_pay8 v41 v42 (colV arg0 x4 k) (codeV x11 x16 k) (gradV x9 k) x18
      (View.ld x10 (Rect.unit (k0_off5 k) S1x128x128.size (k0_off5_inb k))) x16
      (View.ld x7 (Rect.unit (k0_off7 i k) S1x1x256.size (k0_off7_inb i k))))
    (k0_pay9 (View.ld x8 (Rect.unit (k0_off6 k) S1x128x256.size (k0_off6_inb k))))

/-- What trip `k` stores into the first moment's scale block. -/
def outMs : FVec F S1x1x256 .f32 := k0_pay12 (momM i x7 x9 x10 x16 k)

/-- What trip `k` stores into the first moment's code block. -/
def outMc : IVec S1x128x128 8 := k0_pay14 (k0_pay13 (momM i x7 x9 x10 x16 k) x17)

/-- What trip `k` stores into the second moment's code block. -/
def outVc : IVec S1x128x128 8 :=
  k0_pay2 (k0_pay15 arg0 (momV arg0 x4 x9 x11 x16 x18 k) x19
    (View.ld x6 (Rect.unit (k0_off3 k) S1x256.size (k0_off3_inb k)))
    (View.ld x6 (Rect.unit (k0_off4 k) S1x256.size (k0_off4_inb k))) x17)

end Values

/-! ## The places of one trip -/

theorem trips_eq : k0_t1_loop.trips = 32 := by decide

theorem trip_lt (k : Fin k0_t1_loop.trips) : k.val < 32 := lt_of_lt_of_eq k.isLt trips_eq

theorem word128 : ∀ n : Fin 32, (Scalar.indexCast (Scalar.muli (Scf.iv 0#32 1#32 n.val) 128#32)).toNat = 128 * n.val := by
  decide

theorem word256 : ∀ n : Fin 32, (Scalar.indexCast (Scalar.muli (Scf.iv 0#32 1#32 n.val) 256#32)).toNat = 256 * n.val := by
  decide

/-- A trip's packed columns start at 128 times its number. -/
theorem off5_eq (k : Fin k0_t1_loop.trips) : k0_off5 k = ![0, 0, 128 * k.val] :=
  congrArg (fun n => (![0, 0, n] : Fin 3 → ℕ)) (word128 ⟨k.val, trip_lt k⟩)

/-- A trip's columns start at 256 times its number. -/
theorem off6_eq (k : Fin k0_t1_loop.trips) : k0_off6 k = ![0, 0, 256 * k.val] :=
  congrArg (fun n => (![0, 0, n] : Fin 3 → ℕ)) (word256 ⟨k.val, trip_lt k⟩)

theorem off3_eq (k : Fin k0_t1_loop.trips) : k0_off3 k = ![0, 256 * k.val] :=
  congrArg (fun n => (![0, n] : Fin 2 → ℕ)) (word256 ⟨k.val, trip_lt k⟩)

theorem off4_eq (k : Fin k0_t1_loop.trips) : k0_off4 k = ![1, 256 * k.val] :=
  congrArg (fun n => (![1, n] : Fin 2 → ℕ)) (word256 ⟨k.val, trip_lt k⟩)

/-- A trip's place in a block of rows one per grid column: the row is the grid column. -/
theorem off7_eq (i : grid0.Coords) (k : Fin k0_t1_loop.trips) : k0_off7 i k = ![0, (i 1).val, 256 * k.val] := by
  have hi : (BitVec.ofNat 32 (i 1).val).toNat = (i 1).val := by
    have : (i 1).val < 56 := (i 1).isLt
    rw [BitVec.toNat_ofNat]; exact Nat.mod_eq_of_lt (by omega)
  have h6 := word256 ⟨k.val, trip_lt k⟩
  exact congrArg₂ (fun r n => (![0, r, n] : Fin 3 → ℕ)) hi h6

/-! ## A list of stores, one slab of columns per trip -/

/-- Stores of equal slabs, slab `k` of `N` starting at column `C * k` of the last axis and written by trip `k`: after `n`
    trips every place of a slab before the `n`-th holds what its trip stored, and every place outside the slabs' rows is as it was. -/
theorem read_slabs {sig : RefSig} {κ : Kind} {sp : Space} {d : Fin 3 → ℕ} {e : EltTy} {Val : EltTy → Type}
    (v : View sig κ sp (⟨3, d⟩ : Shape) e) (f : v.ty.Contents Val) {N : ℕ} (L : ℕ → List (View.Piece Val (⟨3, d⟩ : Shape) e))
    (size : Fin 3 → ℕ) (off : Fin N → Fin 3 → ℕ) (inb : ∀ k, ∀ a : Fin 3, off k a + size a ≤ d a)
    (w : (k : Fin N) → (Rect.unit (s := ⟨3, d⟩) (off k) size (inb k)).shape.Idx → Val e) (r : ℕ)
    (hoff : ∀ k, off k = ![0, r, size 2 * k.val]) (h0 : L 0 = [])
    (hs : ∀ k : Fin N, L (k.val + 1) = (⟨Rect.unit (s := ⟨3, d⟩) (off k) size (inb k), w k⟩ : View.Piece Val _ e) :: L k.val) :
    ∀ n ≤ N, (∀ k : Fin N, k.val < n → ∀ (x : (Rect.unit (s := ⟨3, d⟩) (off k) size (inb k)).shape.Idx) (y : (⟨3, d⟩ : Shape).Idx),
        (∀ a : Fin 3, (y a).val = (![0, r, size 2 * k.val] : Fin 3 → ℕ) a + (x a).val) → v.read Val (v.writes Val f (L n)) y = w k x)
      ∧ (∀ y : (⟨3, d⟩ : Shape).Idx, ((y 1).val < r ∨ r + size 1 ≤ (y 1).val) → v.read Val (v.writes Val f (L n)) y = v.read Val f y) := by
  intro n
  induction n with
  | zero =>
    intro _
    rw [h0]
    exact ⟨fun k hk => absurd hk (Nat.not_lt_zero _), fun y _ => rfl⟩
  | succ n ih =>
    intro hn
    obtain ⟨ih1, ih2⟩ := ih (by omega)
    have hL := hs ⟨n, by omega⟩
    simp only at hL
    rw [hL]
    refine ⟨fun k hk x y hy => ?_, fun y hy => ?_⟩
    · by_cases hkn : k.val = n
      · subst hkn
        exact View.read_writes_cons_unit_of_mem v f _ _ _ y x (hoff _) hy
      · rw [View.read_writes_cons_unit_of_not_mem v f _ _ _ y (hoff _) (2 : Fin 3) ?_]
        · exact ih1 k (by omega) x y hy
        · left
          have h2 := hy 2
          have hx : (x 2).val < size 2 := (x 2).isLt
          have : size 2 * (k.val + 1) ≤ size 2 * n := Nat.mul_le_mul_left _ (by omega)
          rw [Nat.mul_succ] at this
          simp only [Matrix.cons_val] at h2 ⊢
          omega
    · rw [View.read_writes_cons_unit_of_not_mem v f _ _ _ y (hoff _) (1 : Fin 3) (by simpa using hy)]
      exact ih2 y hy

/-! ## The trip's stores -/

section Trip

variable (𝒱 : Variants) (c : Dev nD) (bd : Option 𝒱.V) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (arg0 : BitVec 32) (arg1 : BitVec 32) (v41 : Elt F .f32) (v42 : Elt F .f32) (X_arg4 : BufTy.Contents (Elt F) arg4.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty)

theorem trip_12 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k).1 =
      [⟨Rect.unit (k0_off6 k) S1x128x256.size (k0_off6_inb k), outDw i arg0 v41 v42 (arg4.view.read (Elt F) X_arg4) (arg7.view.read (Elt F) X_arg7) (arg8.view.read (Elt F) X_arg8) (arg9.view.read (Elt F) X_arg9) (arg10.view.read (Elt F) X_arg10) (arg11.view.read (Elt F) X_arg11) (arg16.view.read (Elt F) X_arg16) (arg18.view.read (Elt F) X_arg18) k⟩] := by
  unfold trip_k0_t1
  dsimp only
  sl_unfold_words
  simp only [View.readAt_eq_ld]
  simp only [View.ld_unit_zero (S := S256x256) zero2, View.ld_unit_zero (S := S256x128) zero2, View.ld_unit_zero (S := S128x128) zero2]
  rfl

theorem trip_13 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k).2.1 =
      [⟨Rect.unit (k0_off5 k) S1x128x128.size (k0_off5_inb k), outMc i (arg7.view.read (Elt F) X_arg7) (arg9.view.read (Elt F) X_arg9) (arg10.view.read (Elt F) X_arg10) (arg16.view.read (Elt F) X_arg16) (arg17.view.read (Elt F) X_arg17) k⟩] := by
  unfold trip_k0_t1
  dsimp only
  sl_unfold_words
  simp only [View.readAt_eq_ld]
  simp only [View.ld_unit_zero (S := S256x256) zero2, View.ld_unit_zero (S := S256x128) zero2, View.ld_unit_zero (S := S128x128) zero2]
  rfl

theorem trip_14 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k).2.2.1 =
      [⟨Rect.unit (k0_off7 i k) S1x1x256.size (k0_off7_inb i k), outMs i (arg7.view.read (Elt F) X_arg7) (arg9.view.read (Elt F) X_arg9) (arg10.view.read (Elt F) X_arg10) (arg16.view.read (Elt F) X_arg16) k⟩] := by
  unfold trip_k0_t1
  dsimp only
  sl_unfold_words
  simp only [View.readAt_eq_ld]
  simp only [View.ld_unit_zero (S := S256x256) zero2, View.ld_unit_zero (S := S256x128) zero2, View.ld_unit_zero (S := S128x128) zero2]
  rfl

theorem trip_15 (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k).2.2.2.1 =
      [⟨Rect.unit (k0_off5 k) S1x128x128.size (k0_off5_inb k), outVc arg0 (arg4.view.read (Elt F) X_arg4) (arg6.view.read (Elt F) X_arg6) (arg9.view.read (Elt F) X_arg9) (arg11.view.read (Elt F) X_arg11) (arg16.view.read (Elt F) X_arg16) (arg17.view.read (Elt F) X_arg17) (arg18.view.read (Elt F) X_arg18) (arg19.view.read (Elt F) X_arg19) k⟩] := by
  unfold trip_k0_t1
  dsimp only
  sl_unfold_words
  simp only [View.readAt_eq_ld]
  simp only [View.ld_unit_zero (S := S256x256) zero2, View.ld_unit_zero (S := S256x128) zero2, View.ld_unit_zero (S := S128x128) zero2]
  rfl

/-- What all the trips leave in `arg12`. -/
theorem loop_12 (f : BufTy.Contents (Elt F) arg12.view.ty) :
    (∀ (k : Fin k0_t1_loop.trips) (x : S1x128x256.Idx) y,
      (∀ a : Fin 3, (y a).val = (![0, 0, S1x128x256.size (2 : Fin 3) * k.val] : Fin 3 → ℕ) a + (x a).val) →
      arg12.view.read (Elt F) (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).1) y =
        outDw i arg0 v41 v42 (arg4.view.read (Elt F) X_arg4) (arg7.view.read (Elt F) X_arg7) (arg8.view.read (Elt F) X_arg8) (arg9.view.read (Elt F) X_arg9) (arg10.view.read (Elt F) X_arg10) (arg11.view.read (Elt F) X_arg11) (arg16.view.read (Elt F) X_arg16) (arg18.view.read (Elt F) X_arg18) k x)
    ∧ (∀ y, ((y 1).val < 0 ∨ 0 + S1x128x256.size (1 : Fin 3) ≤ (y 1).val) →
      arg12.view.read (Elt F) (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).1) y =
        arg12.view.read (Elt F) f y) := by
  have h := read_slabs arg12.view f (N := k0_t1_loop.trips)
    (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 n).1) S1x128x256.size (fun k => k0_off6 k) (fun k => (k0_off6_inb k))
    (fun k => outDw i arg0 v41 v42 (arg4.view.read (Elt F) X_arg4) (arg7.view.read (Elt F) X_arg7) (arg8.view.read (Elt F) X_arg8) (arg9.view.read (Elt F) X_arg9) (arg10.view.read (Elt F) X_arg10) (arg11.view.read (Elt F) X_arg11) (arg16.view.read (Elt F) X_arg16) (arg18.view.read (Elt F) X_arg18) k) 0 (fun k => off6_eq k) rfl
    (fun k => by
      dsimp only
      rw [pb_k0_t1_succ]
      exact congrArg (· ++ _) (trip_12 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k))
    k0_t1_loop.trips le_rfl
  exact ⟨fun k x y hy => h.1 k k.isLt x y hy, h.2⟩

/-- What all the trips leave in `arg13`. -/
theorem loop_13 (f : BufTy.Contents (Elt F) arg13.view.ty) :
    (∀ (k : Fin k0_t1_loop.trips) (x : S1x128x128.Idx) y,
      (∀ a : Fin 3, (y a).val = (![0, 0, S1x128x128.size (2 : Fin 3) * k.val] : Fin 3 → ℕ) a + (x a).val) →
      arg13.view.read (Elt F) (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.1) y =
        outMc i (arg7.view.read (Elt F) X_arg7) (arg9.view.read (Elt F) X_arg9) (arg10.view.read (Elt F) X_arg10) (arg16.view.read (Elt F) X_arg16) (arg17.view.read (Elt F) X_arg17) k x)
    ∧ (∀ y, ((y 1).val < 0 ∨ 0 + S1x128x128.size (1 : Fin 3) ≤ (y 1).val) →
      arg13.view.read (Elt F) (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.1) y =
        arg13.view.read (Elt F) f y) := by
  have h := read_slabs arg13.view f (N := k0_t1_loop.trips)
    (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 n).2.1) S1x128x128.size (fun k => k0_off5 k) (fun k => (k0_off5_inb k))
    (fun k => outMc i (arg7.view.read (Elt F) X_arg7) (arg9.view.read (Elt F) X_arg9) (arg10.view.read (Elt F) X_arg10) (arg16.view.read (Elt F) X_arg16) (arg17.view.read (Elt F) X_arg17) k) 0 (fun k => off5_eq k) rfl
    (fun k => by
      dsimp only
      rw [pb_k0_t1_succ]
      exact congrArg (· ++ _) (trip_13 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k))
    k0_t1_loop.trips le_rfl
  exact ⟨fun k x y hy => h.1 k k.isLt x y hy, h.2⟩

/-- What all the trips leave in `arg14`. -/
theorem loop_14 (f : BufTy.Contents (Elt F) arg14.view.ty) :
    (∀ (k : Fin k0_t1_loop.trips) (x : S1x1x256.Idx) y,
      (∀ a : Fin 3, (y a).val = (![0, (i 1).val, S1x1x256.size (2 : Fin 3) * k.val] : Fin 3 → ℕ) a + (x a).val) →
      arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.2.1) y =
        outMs i (arg7.view.read (Elt F) X_arg7) (arg9.view.read (Elt F) X_arg9) (arg10.view.read (Elt F) X_arg10) (arg16.view.read (Elt F) X_arg16) k x)
    ∧ (∀ y, ((y 1).val < (i 1).val ∨ (i 1).val + S1x1x256.size (1 : Fin 3) ≤ (y 1).val) →
      arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.2.1) y =
        arg14.view.read (Elt F) f y) := by
  have h := read_slabs arg14.view f (N := k0_t1_loop.trips)
    (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 n).2.2.1) S1x1x256.size (fun k => k0_off7 i k) (fun k => (k0_off7_inb i k))
    (fun k => outMs i (arg7.view.read (Elt F) X_arg7) (arg9.view.read (Elt F) X_arg9) (arg10.view.read (Elt F) X_arg10) (arg16.view.read (Elt F) X_arg16) k) (i 1).val (fun k => off7_eq i k) rfl
    (fun k => by
      dsimp only
      rw [pb_k0_t1_succ]
      exact congrArg (· ++ _) (trip_14 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k))
    k0_t1_loop.trips le_rfl
  exact ⟨fun k x y hy => h.1 k k.isLt x y hy, h.2⟩

/-- What all the trips leave in `arg15`. -/
theorem loop_15 (f : BufTy.Contents (Elt F) arg15.view.ty) :
    (∀ (k : Fin k0_t1_loop.trips) (x : S1x128x128.Idx) y,
      (∀ a : Fin 3, (y a).val = (![0, 0, S1x128x128.size (2 : Fin 3) * k.val] : Fin 3 → ℕ) a + (x a).val) →
      arg15.view.read (Elt F) (arg15.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.2.2) y =
        outVc arg0 (arg4.view.read (Elt F) X_arg4) (arg6.view.read (Elt F) X_arg6) (arg9.view.read (Elt F) X_arg9) (arg11.view.read (Elt F) X_arg11) (arg16.view.read (Elt F) X_arg16) (arg17.view.read (Elt F) X_arg17) (arg18.view.read (Elt F) X_arg18) (arg19.view.read (Elt F) X_arg19) k x)
    ∧ (∀ y, ((y 1).val < 0 ∨ 0 + S1x128x128.size (1 : Fin 3) ≤ (y 1).val) →
      arg15.view.read (Elt F) (arg15.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k0_t1_loop.trips).2.2.2) y =
        arg15.view.read (Elt F) f y) := by
  have h := read_slabs arg15.view f (N := k0_t1_loop.trips)
    (fun n => (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 n).2.2.2) S1x128x128.size (fun k => k0_off5 k) (fun k => (k0_off5_inb k))
    (fun k => outVc arg0 (arg4.view.read (Elt F) X_arg4) (arg6.view.read (Elt F) X_arg6) (arg9.view.read (Elt F) X_arg9) (arg11.view.read (Elt F) X_arg11) (arg16.view.read (Elt F) X_arg16) (arg17.view.read (Elt F) X_arg17) (arg18.view.read (Elt F) X_arg18) (arg19.view.read (Elt F) X_arg19) k) 0 (fun k => off5_eq k) rfl
    (fun k => by
      dsimp only
      rw [pb_k0_t1_succ]
      exact congrArg (· ++ _) (trip_15 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v41 v42 X_arg4 X_arg6 X_arg7 X_arg8 X_arg9 X_arg10 X_arg11 X_arg16 X_arg17 X_arg18 X_arg19 k))
    k0_t1_loop.trips le_rfl
  exact ⟨fun k x y hy => h.1 k k.isLt x y hy, h.2⟩

end Trip

end Cert.UpdateIdeal.Hand

end

end
-- ==== Proof.Update.Words.lean ====
/- Four-bit fields of bytes, four bytes to a word: the update kernel's masks and shifts on words, byte by byte. -/
module

public import Idealize.ShloMosaic.Lib.BitcastFour
public import Idealize.ShloMosaic.Lib.PackedFields

@[expose] public section

namespace Cert.Nibble

open Idealize.ShloMosaic

/-- Four bits of a byte: the lower four for an even place, the upper four for an odd one. -/
def nib (b : BitVec 8) (h : ℕ) : ℕ := if h % 2 = 0 then b.toNat % 16 else b.toNat / 16

theorem nib_lt (b : BitVec 8) (h : ℕ) : nib b h < 16 := by
  unfold nib; have := b.isLt; split <;> omega

/-- Four bits read in two's complement. -/
def sgn (n : ℕ) : ℤ := if 8 ≤ n then (n : ℤ) - 16 else n

/-- A byte of the bytes' reading of a word: bit `b` of byte row `p` is bit `8 (p % 4) + b` of word row `p / 4`. -/
theorem bytes_getLsbD (y : (⟨2, ![32, 128]⟩ : Shape).Idx → BitVec 32)
    (h : (⟨2, ![32, 128]⟩ : Shape).Bitcasts 32 ⟨2, ![128, 128]⟩ 8) (p : Fin 128) (l : Fin 128) (b : ℕ) (hb : b < 8)
    (a : Fin 32) (ha : a.val = p.val / 4) :
    (bitcast ⟨2, ![128, 128]⟩ 8 y h (ValueIdx.ix2 p l)).getLsbD b = (y (ValueIdx.ix2 a l)).getLsbD (8 * (p.val % 4) + b) := by
  rw [bitcast_getLsbD y h _ b hb (by decide)]
  have hr : Shape.row ⟨2, ![128, 128]⟩ (ValueIdx.ix2 p l) = p.val := rfl
  have e2 : (p.val * 8 + b) % 32 = 8 * (p.val % 4) + b := by omega
  have e1 : (p.val * 8 + b) / 32 = a.val := by omega
  rw [show (Shape.row ⟨2, ![128, 128]⟩ (ValueIdx.ix2 p l) * 8 + b) % 32 = 8 * (p.val % 4) + b from e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The same through one operation `f` on words that acts byte by byte as `g`: bytes to words, `f`, words to bytes. -/
theorem bytewise (x : (⟨2, ![128, 128]⟩ : Shape).Idx → BitVec 8)
    (h : (⟨2, ![128, 128]⟩ : Shape).Bitcasts 8 ⟨2, ![32, 128]⟩ 32)
    (h' : (⟨2, ![32, 128]⟩ : Shape).Bitcasts 32 ⟨2, ![128, 128]⟩ 8)
    (f : BitVec 32 → BitVec 32) (g : BitVec 8 → BitVec 8)
    (hfg : ∀ (w : BitVec 32) (c : BitVec 8) (j : ℕ), j < 4 → (∀ b < 8, c.getLsbD b = w.getLsbD (8 * j + b)) →
      ∀ b < 8, (g c).getLsbD b = (f w).getLsbD (8 * j + b)) (p l : Fin 128) :
    bitcast ⟨2, ![128, 128]⟩ 8 (fun i => f (bitcast ⟨2, ![32, 128]⟩ 32 x h i)) h' (ValueIdx.ix2 p l)
      = g (x (ValueIdx.ix2 p l)) := by
  apply BitVec.eq_of_getLsbD_eq
  intro b hb
  have hp := p.isLt
  rw [bytes_getLsbD _ h' p l b hb ⟨p.val / 4, by omega⟩ rfl]
  refine (hfg _ _ (p.val % 4) (by omega) (fun b' hb' => ?_) b hb).symm
  rw [bitcast_8_32_getLsbD_ix2 x h ⟨p.val / 4, by omega⟩ l (8 * (p.val % 4) + b') (by omega) p (by show p.val = _; simp only; omega)]
  rw [show (8 * (p.val % 4) + b') % 8 = b' by omega]

/-- The byte's place in the word, as a number. -/
theorem byte_eq (w : BitVec 32) (c : BitVec 8) (j : ℕ) (h : ∀ b < 8, c.getLsbD b = w.getLsbD (8 * j + b)) :
    c.toNat = PackedFields.field 8 j w.toNat := by
  apply Nat.eq_of_testBit_eq
  intro b
  rw [PackedFields.testBit_field]
  by_cases hb : b < 8
  · have := h b hb
    simp only [BitVec.getLsbD] at this
    simp [hb, this]
  · simp [hb, Nat.testBit_lt_two_pow (lt_of_lt_of_le c.isLt (Nat.pow_le_pow_right (by decide) (by omega : 8 ≤ b)))]

theorem getLsbD_of_field (w : BitVec 32) (c : BitVec 8) (j : ℕ) (h : c.toNat = PackedFields.field 8 j w.toNat) :
    ∀ b < 8, c.getLsbD b = w.getLsbD (8 * j + b) := by
  intro b hb
  simp only [BitVec.getLsbD, h, PackedFields.testBit_field]
  simp [hb]

theorem field_lo (j a : ℕ) : PackedFields.field 4 (2 * j) a = PackedFields.field 8 j a % 16 := by
  rw [PackedFields.field_eq_div, PackedFields.field_eq_div, show 4 * (2 * j) = 8 * j by omega]
  omega

theorem field_hi (j a : ℕ) : PackedFields.field 4 (2 * j + 1) a = PackedFields.field 8 j a / 16 := by
  rw [PackedFields.field_eq_div, PackedFields.field_eq_div, show 4 * (2 * j + 1) = 8 * j + 4 by omega, Nat.pow_add,
    ← Nat.div_div_eq_div_mul]
  omega

theorem ones_field : ∀ j < 4, PackedFields.field 8 j (16843009#32 : BitVec 32).toNat = 1 := by decide

/-- The lower four bits plus one. -/
theorem word_lo (w : BitVec 32) (c : BitVec 8) (j : ℕ) (hj : j < 4) (h : ∀ b < 8, c.getLsbD b = w.getLsbD (8 * j + b)) :
    ∀ b < 8, (BitVec.ofNat 8 (c.toNat % 16 + 1)).getLsbD b = (IntOp.addi (IntOp.andi w 252645135#32) 16843009#32).getLsbD (8 * j + b) := by
  have he (i : ℕ) : PackedFields.field 8 i (IntOp.andi w 252645135#32).toNat = PackedFields.field 8 i w.toNat % 16 :=
    (PackedFields.field_andi_even (m := 252645135#32) PackedFields.isEvenMask_4 i w).trans (field_lo i _)
  apply getLsbD_of_field
  rw [PackedFields.field_addi (n := 4) rfl _ _ (fun k hk => by rw [he, ones_field k hk]; omega) j hj, he, ones_field j hj,
    ← byte_eq w c j h, BitVec.toNat_ofNat]
  omega

/-- The upper four bits plus one. -/
theorem word_hi (w : BitVec 32) (c : BitVec 8) (j : ℕ) (hj : j < 4) (h : ∀ b < 8, c.getLsbD b = w.getLsbD (8 * j + b)) :
    ∀ b < 8, (BitVec.ofNat 8 (c.toNat / 16 + 1)).getLsbD b
      = (IntOp.addi (IntOp.andi (IntOp.shrui .vector w 4#32) 252645135#32) 16843009#32).getLsbD (8 * j + b) := by
  have he (i : ℕ) : PackedFields.field 8 i (IntOp.andi (IntOp.shrui .vector w 4#32) 252645135#32).toNat = PackedFields.field 8 i w.toNat / 16 :=
    (PackedFields.field_shrui_andi_odd (m := 252645135#32) PackedFields.isEvenMask_4 (by decide) i w).trans (field_hi i _)
  have hc := c.isLt
  have hlt (i : ℕ) : PackedFields.field 8 i w.toNat < 256 := by
    rw [PackedFields.field_eq_div]; exact Nat.mod_lt _ (by decide)
  apply getLsbD_of_field
  rw [PackedFields.field_addi (n := 4) rfl _ _ (fun k hk => by rw [he, ones_field k hk]; have := hlt k; omega) j hj, he, ones_field j hj,
    ← byte_eq w c j h, BitVec.toNat_ofNat]
  omega

theorem shl_mask_bit : ∀ j < 4, ∀ b < 8, (4042322160#32 : BitVec 32).getLsbD (8 * j + b) = decide (4 ≤ b) := by decide
theorem flip_mask_bit : ∀ j < 4, ∀ b < 8, (2290649224#32 : BitVec 32).getLsbD (8 * j + b) = (0x88#8 : BitVec 8).getLsbD b := by decide
theorem high_mask_bit : ∀ b < 8, (0xF0#8 : BitVec 8).getLsbD b = decide (4 ≤ b) := by decide

/-- The lower four bits moved up. -/
theorem word_shl (w : BitVec 32) (c : BitVec 8) (j : ℕ) (hj : j < 4) (h : ∀ b < 8, c.getLsbD b = w.getLsbD (8 * j + b)) :
    ∀ b < 8, (c <<< 4).getLsbD b = (IntOp.andi (IntOp.shli .vector w 4#32) 4042322160#32).getLsbD (8 * j + b) := by
  intro b hb
  have h32 : 8 * j + b < 32 := by omega
  have hs : IntOp.shli .vector w 4#32 = w <<< 4 := rfl
  rw [IntOp.andi, hs, BitVec.getLsbD_and, shl_mask_bit j hj b hb, BitVec.getLsbD_shiftLeft, BitVec.getLsbD_shiftLeft]
  by_cases h4 : 4 ≤ b
  · have e1 : ¬ (b < 4) := by omega
    have e2 : ¬ (8 * j + b < 4) := by omega
    simp only [hb, h32, h4, e1, e2, decide_true, decide_false, Bool.not_false, Bool.and_true, Bool.true_and]
    rw [h (b - 4) (by omega)]
    congr 1; omega
  · have e1 : b < 4 := by omega
    simp [h4, e1]

/-- The upper four bits in place. -/
theorem word_high (w : BitVec 32) (c : BitVec 8) (j : ℕ) (hj : j < 4) (h : ∀ b < 8, c.getLsbD b = w.getLsbD (8 * j + b)) :
    ∀ b < 8, (c &&& 0xF0#8).getLsbD b = (IntOp.andi w 4042322160#32).getLsbD (8 * j + b) := by
  intro b hb
  rw [IntOp.andi, BitVec.getLsbD_and, BitVec.getLsbD_and, shl_mask_bit j hj b hb, high_mask_bit b hb, h b hb]

/-- Two bits of the byte flipped. -/
theorem word_flip (w : BitVec 32) (c : BitVec 8) (j : ℕ) (hj : j < 4) (h : ∀ b < 8, c.getLsbD b = w.getLsbD (8 * j + b)) :
    ∀ b < 8, (c ^^^ 0x88#8).getLsbD b = (IntOp.xori w 2290649224#32).getLsbD (8 * j + b) := by
  intro b hb
  rw [IntOp.xori, BitVec.getLsbD_xor, BitVec.getLsbD_xor, flip_mask_bit j hj b hb, h b hb]

theorem lo_toNat (c : BitVec 8) : (BitVec.ofNat 8 (c.toNat % 16 + 1)).toNat = nib c 0 + 1 := by
  rw [BitVec.toNat_ofNat]; unfold nib; rw [if_pos rfl]; omega

theorem hi_toNat (c : BitVec 8) : (BitVec.ofNat 8 (c.toNat / 16 + 1)).toNat = nib c 1 + 1 := by
  have := c.isLt
  rw [BitVec.toNat_ofNat]; unfold nib; rw [if_neg (by decide)]; omega

theorem all_shl : ∀ n : Fin 256, ((BitVec.ofNat 8 n.val) <<< 4).toInt = 16 * sgn (nib (BitVec.ofNat 8 n.val) 0) := by decide
theorem all_high : ∀ n : Fin 256, ((BitVec.ofNat 8 n.val) &&& 0xF0#8).toInt = 16 * sgn (nib (BitVec.ofNat 8 n.val) 1) := by decide

theorem shl_toInt (c : BitVec 8) : (c <<< 4).toInt = 16 * sgn (nib c 0) := by
  have := all_shl ⟨c.toNat, c.isLt⟩; simpa using this

theorem high_toInt (c : BitVec 8) : (c &&& 0xF0#8).toInt = 16 * sgn (nib c 1) := by
  have := all_high ⟨c.toNat, c.isLt⟩; simpa using this

end Cert.Nibble

end
-- ==== Proof.Update.PayA.lean ====
/- What the payloads of one trip hold at a place: the codes read out, and the two moments. -/
module

public import proofs.«01_k».proof.Proof.Update.Trip
public import proofs.«01_k».proof.Proof.Update.Words
public import Idealize.ShloMosaic.Lib.Pointwise
public import Idealize.ShloMosaic.Lib.IdealHost

@[expose] public section

set_option maxRecDepth 16384

noncomputable section

namespace Cert.UpdateIdeal.Hand

open Idealize.ShloMosaic
open Cert.UpdateIdeal.Gen
open Cert.Nibble

/-! ## The matrix that brings the lower and the upper halves of the bytes beside each other -/

theorem cmpi_eq_ofNat (a b : ℕ) (ha : a < 2 ^ 32) (hb : b < 2 ^ 32) {α : Type} (x y : α) :
    Scalar.select (IntOp.cmpi .eq (BitVec.ofNat 32 a) (BitVec.ofNat 32 b)) x y = if a = b then x else y := by
  by_cases h : a = b
  · subst h; simp [IntOp.cmpi, Scalar.select]
  · have : (BitVec.ofNat 32 a == BitVec.ofNat 32 b) = false := by
      rw [beq_eq_false_iff_ne]
      intro e
      have := congrArg BitVec.toNat e
      rw [BitVec.toNat_ofNat, BitVec.toNat_ofNat, Nat.mod_eq_of_lt ha, Nat.mod_eq_of_lt hb] at this
      exact h this
    rw [if_neg h, IntOp.cmpi, this]
    rfl

theorem lane_word : ∀ k : Fin 256, IntOp.addi (IntOp.muli 2#32 (IntOp.andi (BitVec.ofNat 32 k.val) 127#32)) (IntOp.shrsi .vector (BitVec.ofNat 32 k.val) 7#32)
    = BitVec.ofNat 32 (2 * (k.val % 128) + k.val / 128) := by decide

theorem spread_apply (k q : Fin 256) :
    k0_pay16 (F := Ideal) (ix2 k q) = if q.val = 2 * (k.val % 128) + k.val / 128 then 1 else 0 := by
  have hk := k.isLt
  have hq := q.isLt
  pointwise [k0_pay16]
  rw [lane_word, cmpi_eq_ofNat _ _ (by omega) (by omega)]

theorem spread_sum (lo hi : Fin 128 → EReal) (q : Fin 256) (a : Fin 128) (ha : a.val = q.val / 2) :
    ((∑ x : Fin 128, lo x * k0_pay16 (F := Ideal) (ix2 ⟨x.val, by omega⟩ q)) + ∑ x : Fin 128, hi x * k0_pay16 (F := Ideal) (ix2 ⟨128 + x.val, by omega⟩ q) : EReal)
      = if q.val % 2 = 0 then lo a else hi a := by
  simp only [spread_apply]
  by_cases h : q.val % 2 = 0
  · rw [if_pos h, Finset.sum_eq_single a, Finset.sum_eq_zero, if_pos (by have := a.isLt; omega), mul_one, add_zero]
    · intro x _; rw [if_neg (by have := x.isLt; omega), mul_zero]
    · intro x _ hx
      rw [if_neg (by have := x.isLt; have : x.val ≠ a.val := fun e => hx (Fin.ext e); omega), mul_zero]
    · intro hx; exact absurd (Finset.mem_univ a) hx
  · rw [if_neg h, Finset.sum_eq_zero, zero_add, Finset.sum_eq_single a, if_pos (by have := a.isLt; omega), mul_one]
    · intro x _ hx
      rw [if_neg (by have := x.isLt; have : x.val ≠ a.val := fun e => hx (Fin.ext e); omega), mul_zero]
    · intro hx; exact absurd (Finset.mem_univ a) hx
    · intro x _; rw [if_neg (by have := x.isLt; omega), mul_zero]

/-! ## The codes' two halves, read byte by byte -/

theorem bytes_lo (Y : IVec S128x128 8) (p l : Fin 128) :
    bitcast S128x128 8 (addi (andi (bitcast S32x128 32 Y bitcasts_S128x128_w8_S32x128_w32) (broadcast S32x128 252645135#32)) (broadcast S32x128 16843009#32))
      bitcasts_S32x128_w32_S128x128_w8 (ix2 p l) = BitVec.ofNat 8 ((Y (ix2 p l)).toNat % 16 + 1) := by
  rw [ix2_eq_valueIdx]
  exact bytewise Y _ _ (fun w => IntOp.addi (IntOp.andi w 252645135#32) 16843009#32) (fun c => BitVec.ofNat 8 (c.toNat % 16 + 1)) word_lo p l

theorem bytes_hi (Y : IVec S128x128 8) (p l : Fin 128) :
    bitcast S128x128 8 (addi (andi (shrui (bitcast S32x128 32 Y bitcasts_S128x128_w8_S32x128_w32) (broadcast S32x128 4#32)) (broadcast S32x128 252645135#32)) (broadcast S32x128 16843009#32))
      bitcasts_S32x128_w32_S128x128_w8 (ix2 p l) = BitVec.ofNat 8 ((Y (ix2 p l)).toNat / 16 + 1) := by
  rw [ix2_eq_valueIdx]
  exact bytewise Y _ _ (fun w => IntOp.addi (IntOp.andi (IntOp.shrui .vector w 4#32) 252645135#32) 16843009#32) (fun c => BitVec.ofNat 8 (c.toNat / 16 + 1)) word_hi p l

theorem bytes_shl (Y : IVec S128x128 8) (p l : Fin 128) :
    bitcast S128x128 8 (andi (shli (bitcast S32x128 32 Y bitcasts_S128x128_w8_S32x128_w32) (broadcast S32x128 4#32)) (broadcast S32x128 4042322160#32))
      bitcasts_S32x128_w32_S128x128_w8 (ix2 p l) = (Y (ix2 p l)) <<< 4 := by
  rw [ix2_eq_valueIdx]
  exact bytewise Y _ _ (fun w => IntOp.andi (IntOp.shli .vector w 4#32) 4042322160#32) (fun c => c <<< 4) word_shl p l

theorem bytes_high (Y : IVec S128x128 8) (p l : Fin 128) :
    bitcast S128x128 8 (andi (bitcast S32x128 32 Y bitcasts_S128x128_w8_S32x128_w32) (broadcast S32x128 4042322160#32))
      bitcasts_S32x128_w32_S128x128_w8 (ix2 p l) = (Y (ix2 p l)) &&& 0xF0#8 := by
  rw [ix2_eq_valueIdx]
  exact bytewise Y _ _ (fun w => IntOp.andi w 4042322160#32) (fun c => c &&& 0xF0#8) word_high p l

theorem cast_codes (v : Vec Ideal S1x128x128 .i8) (p l : Fin 128) :
    (shapeCast S128x128 v shapeCasts_S1x128x128_S128x128 : IVec S128x128 8) (ix2 p l) = v (ix3 0 p l) := by
  pointwise

theorem nib_even (b : BitVec 8) (q : ℕ) (h : q % 2 = 0) : nib b q = nib b 0 := by unfold nib; rw [if_pos h, if_pos rfl]
theorem nib_odd (b : BitVec 8) (q : ℕ) (h : ¬ q % 2 = 0) : nib b q = nib b 1 := by unfold nib; rw [if_neg h, if_neg (by decide)]

/-- The second moment's code at a column, plus one. -/
theorem pay4_apply (v59 : Vec Ideal S1x128x128 .i8) (p : Fin 128) (q : Fin 256) (a : Fin 128) (ha : a.val = q.val / 2) :
    k0_pay4 v59 (k0_pay16 (F := Ideal)) (ix2 p q) = (((nib (v59 (ix3 0 p a)) q.val + 1 : ℕ) : ℝ) : EReal) := by
  pointwise [k0_pay4]
  simp only [bytes_lo, bytes_hi, cast_codes]
  refine (spread_sum _ _ q a ha).trans ?_
  by_cases h : q.val % 2 = 0
  · rw [if_pos h, nib_even _ _ h, ← lo_toNat]; rfl
  · rw [if_neg h, nib_odd _ _ h, ← hi_toNat]; rfl

theorem named_m_c : (Named.named κ "m_c" 0x3F100000#32 : Ideal .f32) = ((9 / 16 : ℝ) : EReal) := rfl
theorem named_norm_c : (Named.named κ "norm_c" 0x4279C000#32 : Ideal .f32) = ((999 / 16 : ℝ) : EReal) := rfl

/-- The first moment, ten times over. -/
theorem pay7_apply (v82 : FVec Ideal S128x256 .f32) (v91 : Vec Ideal S1x128x128 .i8) (v109 : Vec Ideal S1x1x256 .f32) (p : Fin 128) (q : Fin 256)
    (a : Fin 128) (ha : a.val = q.val / 2) :
    k0_pay7 v82 v91 (k0_pay16 (F := Ideal)) v109 (ix2 p q)
      = v82 (ix2 p q) + (((16 * sgn (nib (v91 (ix3 0 p a)) q.val) : ℤ) : ℝ) : EReal) * (v109 (ix3 0 0 q) * ((9 / 16 : ℝ) : EReal)) := by
  pointwise [k0_pay7]
  simp only [bytes_shl, bytes_high, cast_codes]
  rw [named_m_c]
  refine congrArg (fun z : EReal => v82 (ix2 p q) + z * (v109 (ix3 0 0 q) * ((9 / 16 : ℝ) : EReal))) ((spread_sum _ _ q a ha).trans ?_)
  by_cases h : q.val % 2 = 0
  · rw [if_pos h, nib_even _ _ h, ← shl_toInt]; rfl
  · rw [if_neg h, nib_odd _ _ h, ← high_toInt]; rfl

theorem pay3_apply (b : BitVec 32) (v50 v52 : Vec Ideal S1x256 .f32) (q : Fin 256) :
    k0_pay3 b v50 v52 (ix2 0 q) = max (Scalar.select (Scalar.cmpi .eq b 0#32) (v50 (ix2 0 q)) (v52 (ix2 0 q)) * ((999 / 16 : ℝ) : EReal)) (Ideal.ofBits .f32 0x00800000#32) := by
  pointwise [k0_pay3]
  rw [named_norm_c]

theorem pay18_apply (i : grid0.Coords) (v9 v11 : Vec Ideal S1x128 .f32) (p q : Fin 128) :
    k0_pay18 i v9 v11 (ix2 p q) = max (Scalar.select (Scalar.cmpi .eq (BitVec.ofNat 32 (i 0).val) 0#32) (v9 (ix2 0 p)) (v11 (ix2 0 p)) * ((999 / 16 : ℝ) : EReal)) (Ideal.ofBits .f32 0x00800000#32) := by
  pointwise [k0_pay18]
  rw [named_norm_c]

theorem pay5_apply (v : Vec Ideal S1x128x256 .bf16) (p : Fin 128) (q : Fin 256) : k0_pay5 v (ix2 p q) = v (ix3 0 p q) := by
  pointwise [k0_pay5]

/-- The second moment, a thousand times over. -/
theorem pay6_apply (v57 : FVec Ideal S1x256 .f32) (v78 v82 : FVec Ideal S128x256 .f32) (v83 : Vec Ideal S128x128 .f32) (p : Fin 128) (q : Fin 256)
    (l : Fin 128) (hv : ∀ l', v83 (ix2 p l') = v83 (ix2 p l)) :
    k0_pay6 v57 v78 v82 v83 (ix2 p q) = v82 (ix2 p q) * v82 (ix2 p q) + v78 (ix2 p q) * min (v83 (ix2 p l)) (v57 (ix2 0 q)) := by
  pointwise [k0_pay6]
  split <;> rw [hv]

end Cert.UpdateIdeal.Hand

end
-- ==== Proof.Stats.Pay.lean ====
/- What the payloads of one trip hold at a place: the codes read out, the second moment, and the running maxima. -/
module

public import proofs.«01_k».proof.Proof.Stats.Trip
public import proofs.«01_k».proof.Proof.Update.PayA
public import Idealize.ShloMosaic.Lib.Pointwise
public import Idealize.ShloMosaic.Lib.IdealHost

@[expose] public section

set_option maxRecDepth 16384

noncomputable section

namespace Cert.StatsIdeal.Hand

open Idealize.ShloMosaic
open Cert.StatsIdeal.Gen
open Cert.Nibble
open Cert.UpdateIdeal.Hand (cmpi_eq_ofNat lane_word bytes_lo bytes_hi cast_codes nib_even nib_odd)

/-! ## The matrix that brings the lower and the upper halves of the bytes beside each other -/

theorem spread_apply (k q : Fin 256) :
    k0_pay9 (F := Ideal) (ix2 k q) = if q.val = 2 * (k.val % 128) + k.val / 128 then 1 else 0 := by
  have hk := k.isLt
  have hq := q.isLt
  pointwise [k0_pay9]
  rw [lane_word, cmpi_eq_ofNat _ _ (by omega) (by omega)]

theorem spread_sum (lo hi : Fin 128 → EReal) (q : Fin 256) (a : Fin 128) (ha : a.val = q.val / 2) :
    ((∑ x : Fin 128, lo x * k0_pay9 (F := Ideal) (ix2 ⟨x.val, by omega⟩ q)) + ∑ x : Fin 128, hi x * k0_pay9 (F := Ideal) (ix2 ⟨128 + x.val, by omega⟩ q) : EReal)
      = if q.val % 2 = 0 then lo a else hi a := by
  simp only [spread_apply]
  by_cases h : q.val % 2 = 0
  · rw [if_pos h, Finset.sum_eq_single a, Finset.sum_eq_zero, if_pos (by have := a.isLt; omega), mul_one, add_zero]
    · intro x _; rw [if_neg (by have := x.isLt; omega), mul_zero]
    · intro x _ hx
      rw [if_neg (by have := x.isLt; have : x.val ≠ a.val := fun e => hx (Fin.ext e); omega), mul_zero]
    · intro hx; exact absurd (Finset.mem_univ a) hx
  · rw [if_neg h, Finset.sum_eq_zero, zero_add, Finset.sum_eq_single a, if_pos (by have := a.isLt; omega), mul_one]
    · intro x _ hx
      rw [if_neg (by have := x.isLt; have : x.val ≠ a.val := fun e => hx (Fin.ext e); omega), mul_zero]
    · intro hx; exact absurd (Finset.mem_univ a) hx
    · intro x _; rw [if_neg (by have := x.isLt; omega), mul_zero]

/-! ## The codes' two halves, read byte by byte -/

/-- The second moment's code at a column, plus one. -/
theorem pay4_apply (v59 : Vec Ideal S1x128x128 .i8) (p : Fin 128) (q : Fin 256) (a : Fin 128) (ha : a.val = q.val / 2) :
    k0_pay4 v59 (k0_pay9 (F := Ideal)) (ix2 p q) = (((nib (v59 (ix3 0 p a)) q.val + 1 : ℕ) : ℝ) : EReal) := by
  pointwise [k0_pay4]
  simp only [bytes_lo, bytes_hi, cast_codes]
  refine (spread_sum _ _ q a ha).trans ?_
  by_cases h : q.val % 2 = 0
  · rw [if_pos h, nib_even _ _ h, ← lo_toNat]; rfl
  · rw [if_neg h, nib_odd _ _ h, ← hi_toNat]; rfl

theorem named_norm_c : (Named.named κ "norm_c" 0x4279C000#32 : Ideal .f32) = ((999 / 16 : ℝ) : EReal) := rfl

theorem pay3_apply (b : BitVec 32) (v50 v52 : Vec Ideal S1x256 .f32) (q : Fin 256) :
    k0_pay3 b v50 v52 (ix2 0 q) = max (Scalar.select (Scalar.cmpi .eq b 0#32) (v50 (ix2 0 q)) (v52 (ix2 0 q)) * ((999 / 16 : ℝ) : EReal)) (Ideal.ofBits .f32 0x00800000#32) := by
  pointwise [k0_pay3]
  rw [named_norm_c]

theorem pay11_apply (i : grid0.Coords) (v9 v11 : Vec Ideal S1x128 .f32) (p q : Fin 128) :
    k0_pay11 i v9 v11 (ix2 p q) = max (Scalar.select (Scalar.cmpi .eq (BitVec.ofNat 32 (i 0).val) 0#32) (v9 (ix2 0 p)) (v11 (ix2 0 p)) * ((999 / 16 : ℝ) : EReal)) (Ideal.ofBits .f32 0x00800000#32) := by
  pointwise [k0_pay11]
  rw [named_norm_c]

theorem pay5_apply (v : Vec Ideal S1x128x256 .bf16) (p : Fin 128) (q : Fin 256) : k0_pay5 v (ix2 p q) = v (ix3 0 p q) := by
  pointwise [k0_pay5]

/-- The second moment, a thousand times over. -/
theorem pay6_apply (v57 : FVec Ideal S1x256 .f32) (v78 v82 : FVec Ideal S128x256 .f32) (v83 : Vec Ideal S128x128 .f32) (p : Fin 128) (q : Fin 256)
    (l : Fin 128) (hv : ∀ l', v83 (ix2 p l') = v83 (ix2 p l)) :
    k0_pay6 v57 v78 v82 v83 (ix2 p q) = v82 (ix2 p q) * v82 (ix2 p q) + v78 (ix2 p q) * min (v83 (ix2 p l)) (v57 (ix2 0 q)) := by
  pointwise [k0_pay6]
  split <;> rw [hv]

theorem named_g2 : (Named.named κ "g2" 0x3A83126F#32 : Ideal .f32) = ((1 / 1000 : ℝ) : EReal) := rfl

theorem zeros_row (y : S128x128.Idx) : k0_pay12 (F := Ideal) y = (0 : EReal) := by
  obtain ⟨p, l, rfl⟩ : ∃ p l, y = ix2 p l := ⟨y 0, y 1, by funext a; fin_cases a <;> rfl⟩
  pointwise [k0_pay12]

theorem zeros_col (y : S8x8192.Idx) : k0_pay10 (F := Ideal) y = (0 : EReal) := by
  obtain ⟨p, l, rfl⟩ : ∃ p l, y = ix2 p l := ⟨y 0, y 1, by funext a; fin_cases a <;> rfl⟩
  pointwise [k0_pay10]

theorem neg_inf : Ideal.ofBits .f32 4286578688#32 = ⊥ := by simp [Ideal.ofBits, Ideal.ieee, -EReal.coe_mul]

theorem via {α : Type} {a b : α} (h : ∀ z, b = z → a = z) : a = b := h b rfl

/-- The row maxima of a point from the running ones of its lanes. -/
theorem pay1_apply (v : Vec Ideal S128x128 .f32) (p : Fin 128) :
    k0_pay1 v (ix2 0 p) = (Finset.fold max (⊥ : EReal) (fun l : Fin 128 => v (ix2 p l)) Finset.univ * ((1 / 1000 : ℝ) : EReal) : EReal) := by
  pointwise [k0_pay1]
  rw [neg_inf, named_g2]

/-- The column maxima of a grid row from the running ones of its sublanes. -/
theorem pay2_apply (v : Vec Ideal S8x8192 .f32) (q : Fin 8192) :
    k0_pay2 v (ix2 0 q) = (Finset.fold max (⊥ : EReal) (fun l : Fin 8 => v (ix2 l q)) Finset.univ * ((1 / 1000 : ℝ) : EReal) : EReal) := by
  pointwise [k0_pay2]
  rw [neg_inf, named_g2]

/-- The running row maxima: both halves of the trip's columns join them. -/
theorem pay7_apply (v59 : FVec Ideal S1x256 .f32) (v80 v84 : FVec Ideal S128x256 .f32) (v85 v92 : Vec Ideal S128x128 .f32) (p l : Fin 128) :
    k0_pay7 v59 v80 v84 v85 v92 (ix2 p l) = (max (v92 (ix2 p l)) (max (k0_pay6 v59 v80 v84 v85 (ix2 p ⟨l.val, by omega⟩)) (k0_pay6 v59 v80 v84 v85 (ix2 p ⟨128 + l.val, by omega⟩))) : EReal) := by
  unfold k0_pay7
  generalize k0_pay6 v59 v80 v84 v85 = M
  pointwise

/-- The running column maxima: the trip's rows, sixteen to a sublane, join them. -/
theorem pay8_le (v59 : FVec Ideal S1x256 .f32) (v80 v84 : FVec Ideal S128x256 .f32) (v85 : Vec Ideal S128x128 .f32) (v132 : Vec Ideal S8x256 .f32) (s : Fin 8) (q : Fin 256) (u : EReal) :
    (k0_pay13 (k0_pay8 v59 v80 v84 v85 v132) (ix2 s q) : EReal) ≤ u ↔ (v132 (ix2 s q) : EReal) ≤ u ∧ ∀ g : Fin 16, (k0_pay6 v59 v80 v84 v85 (ix2 ⟨8 * g.val + s.val, by omega⟩ q) : EReal) ≤ u := by
  unfold k0_pay13 k0_pay8
  generalize k0_pay6 v59 v80 v84 v85 = M
  pointwise
  simp only [max_le_iff]
  refine and_congr Iff.rfl ⟨fun h g => ?_, fun h => ?_⟩
  · obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
    obtain ⟨g, hg⟩ := g
    interval_cases g
    · exact (le_of_eq (congrArg (fun z => (M (ix2 z q) : EReal)) (Fin.ext (by simp)))).trans h0
    · exact h1
    · exact h2
    · exact h3
    · exact h4
    · exact h5
    · exact h6
    · exact h7
    · exact h8
    · exact h9
    · exact h10
    · exact h11
    · exact h12
    · exact h13
    · exact h14
    · exact h15
  · have h' : ∀ (n : ℕ) (hn : n < 128), n % 8 = s.val → (M (ix2 ⟨n, hn⟩ q) : EReal) ≤ u := fun n hn e =>
      (le_of_eq (congrArg (fun z => (M (ix2 z q) : EReal)) (Fin.ext (by simp only; omega)))).trans (h ⟨n / 8, by omega⟩)
    have hs := s.isLt
    repeat' apply And.intro
    all_goals exact h' _ _ (by omega)

end Cert.StatsIdeal.Hand

end
-- ==== Proof.Update.Points.lean ====
/- The update kernel's grid points: at the first one the conditional of the body is taken, at the others not; and the
   names of the staging memrefs and scratch buffers its body runs on at a point. -/
module

public import proofs.«01_k».proof.Proof.Update.Trip
public import proofs.«01_k».proof.Proof.Gen.UpdateIdeal.Frame
public import Idealize.ShloMosaic.Lib.Ring
public import Idealize.ShloMosaic.Lib.WordCmp

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 112 = 0)

/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x56x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x4096 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x4096 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x8192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x4096 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x56x8192 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x4096 .i8 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x256 .bf16 := Memref.whole cc0_scratch0
abbrev scM0_1 : Memref sig .tc .vmem S256x128 .bf16 := Memref.whole cc0_scratch1
abbrev scM0_2 : Memref sig .tc .vmem S128x128 .f32 := Memref.whole cc0_scratch2
abbrev scM0_3 : Memref sig .tc .vmem S128x128 .f32 := Memref.whole cc0_scratch3
/-- The scratch `arg16` the kernel carries between points, as a view: what it holds is stated through it. -/
abbrev VS0_0 : View sig .tc .vmem S256x256 .bf16 := scM0_0.view
/-- The scratch `arg17` the kernel carries between points, as a view: what it holds is stated through it. -/
abbrev VS0_1 : View sig .tc .vmem S256x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.UpdateIdeal.Hand

end
-- ==== Proof.Update.Body.lean ====
/- What the update kernel's body leaves in its four output blocks at a grid point, as predicates of the block's contents
   over the input blocks: the loop's stores at their places, and for the block of scales the rows of other grid
   columns as they were. -/
module

public import proofs.«01_k».proof.Proof.Update.Points
public import Idealize.ShloMosaic.Lib.VecWindow

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen

variable {F : FTy → Type} [FloatOps F] [Named F]

section Body

variable (i : grid0.Coords) (x0 : Vec F S2 .f32) (x1 : Vec F S2x7168 .f32) (x2 : Vec F S2x8192 .f32) (x3 : Vec F S2x7168 .f32)
  (x4 : Vec F S2x8192 .f32) (x5 : Vec F S1x56x8192 .f32) (x6 : Vec F S1x128x8192 .bf16) (x7 : Vec F S1x128x8192 .bf16)
  (x8 : Vec F S1x128x4096 .i8) (x9 : Vec F S1x128x4096 .i8)

/-- The grid row of the point, as a word. -/
abbrev gb : BitVec 32 := BitVec.ofNat 32 (i 0).val

/-- The normed row statistic of the point's 128 rows, spread over 128 lanes. -/
def rowV : FVec F S128x128 .f32 :=
  k0_pay18 i (View.ld x1 (Rect.unit (k0_off1 i) S1x128.size (k0_off1_inb i)))
    (View.ld x1 (Rect.unit (k0_off2 i) S1x128.size (k0_off2_inb i)))

/-- The inverse new row statistic of the point's 128 rows, spread over 128 lanes. -/
def rowI : FVec F S128x128 .f32 :=
  k0_pay1 (k0_pay19 i (View.ld x3 (Rect.unit (k0_off1 i) S1x128.size (k0_off1_inb i)))
    (View.ld x3 (Rect.unit (k0_off2 i) S1x128.size (k0_off2_inb i))))

/-- The two words of the coefficient block. -/
def coef0 : Elt F .f32 := x0 (fun a => ⟨0, by fin_cases a; decide⟩)

def coef1 : Elt F .f32 := x0 (fun a => ⟨1, by fin_cases a; decide⟩)

/-- The weight step's block after the body. -/
def IsDw (d : Vec F S1x128x8192 .f32) : Prop :=
  ∀ (k : Fin k0_t1_loop.trips) (x : S1x128x256.Idx) y, (∀ a : Fin 3, (y a).val = (![0, 0, 256 * k.val] : Fin 3 → ℕ) a + (x a).val) →
    d y = outDw i (gb i) (coef0 x0) (coef1 x0) x2 x5 x6 x7 x8 x9 k0_pay16 (rowV i x1) k x

/-- The first moment's code block after the body. -/
def IsMc (d : Vec F S1x128x4096 .i8) : Prop :=
  ∀ (k : Fin k0_t1_loop.trips) (x : S1x128x128.Idx) y, (∀ a : Fin 3, (y a).val = (![0, 0, 128 * k.val] : Fin 3 → ℕ) a + (x a).val) →
    d y = outMc i x5 x7 x8 k0_pay16 k0_pay17 k x

/-- The first moment's scale block after the body, `y14` before it. -/
def IsMs (y14 d : Vec F S1x56x8192 .f32) : Prop :=
  (∀ (k : Fin k0_t1_loop.trips) (x : S1x1x256.Idx) y, (∀ a : Fin 3, (y a).val = (![0, (i 1).val, 256 * k.val] : Fin 3 → ℕ) a + (x a).val) →
    d y = outMs i x5 x7 x8 k0_pay16 k x)
  ∧ ∀ y : S1x56x8192.Idx, (y 1).val ≠ (i 1).val → d y = y14 y

/-- The second moment's code block after the body. -/
def IsVc (d : Vec F S1x128x4096 .i8) : Prop :=
  ∀ (k : Fin k0_t1_loop.trips) (x : S1x128x128.Idx) y, (∀ a : Fin 3, (y a).val = (![0, 0, 128 * k.val] : Fin 3 → ℕ) a + (x a).val) →
    d y = outVc (gb i) x2 x4 x7 x9 k0_pay16 k0_pay17 (rowV i x1) (rowI i x3) k x

end Body

theorem rowV_read (i : grid0.Coords) (arg3 : Memref sig .tc .vmem S2x7168 .f32) (harg3 : arg3.IsWhole) (x1 : Vec F S2x7168 .f32) :
    k0_pay18 i (View.readAt (Elt F) arg3.view (Rect.unit (s := S2x7168) (k0_off1 i) S1x128.size (k0_off1_inb i)).toLoadRect (harg3.unread x1))
      (View.readAt (Elt F) arg3.view (Rect.unit (s := S2x7168) (k0_off2 i) S1x128.size (k0_off2_inb i)).toLoadRect (harg3.unread x1)) = rowV i x1 := by
  rw [View.readAt_eq_ld, View.readAt_eq_ld, harg3.read_unread]; rfl

theorem rowI_read (i : grid0.Coords) (arg5 : Memref sig .tc .vmem S2x7168 .f32) (harg5 : arg5.IsWhole) (x3 : Vec F S2x7168 .f32) :
    k0_pay1 (k0_pay19 i (View.readAt (Elt F) arg5.view (Rect.unit (s := S2x7168) (k0_off1 i) S1x128.size (k0_off1_inb i)).toLoadRect (harg5.unread x3))
      (View.readAt (Elt F) arg5.view (Rect.unit (s := S2x7168) (k0_off2 i) S1x128.size (k0_off2_inb i)).toLoadRect (harg5.unread x3))) = rowI i x3 := by
  rw [View.readAt_eq_ld, View.readAt_eq_ld, harg5.read_unread]; rfl

theorem coef0_read (arg2 : Memref sig .tc .smem S2 .f32) (harg2 : arg2.IsWhole) (x0 : Vec F S2 .f32) (h) :
    View.readAt (Elt F) arg2.view (Rect.unit ![0] ![1] inb_S2_S1_0).toLoadRect (harg2.unread x0) (Shape.Idx.first h) = coef0 x0 := by
  rw [View.readAt_eq_ld, harg2.read_unread]
  exact congrArg x0 (funext fun a => by fin_cases a; rfl)

theorem coef1_read (arg2 : Memref sig .tc .smem S2 .f32) (harg2 : arg2.IsWhole) (x0 : Vec F S2 .f32) (h) :
    View.readAt (Elt F) arg2.view (Rect.unit ![1] ![1] inb_S2_S1_1).toLoadRect (harg2.unread x0) (Shape.Idx.first h) = coef1 x0 := by
  rw [View.readAt_eq_ld, harg2.read_unread]
  exact congrArg x0 (funext fun a => by fin_cases a; rfl)

section Loop

variable {c : Dev nD} {i : grid0.Coords} {arg2 : Memref sig .tc .smem S2 .f32} {harg2 : arg2.IsWhole} {arg3 : Memref sig .tc .vmem S2x7168 .f32} {harg3 : arg3.IsWhole} {arg4 : Memref sig .tc .vmem S2x8192 .f32} {harg4 : arg4.IsWhole} {arg5 : Memref sig .tc .vmem S2x7168 .f32} {harg5 : arg5.IsWhole} {arg6 : Memref sig .tc .vmem S2x8192 .f32} {harg6 : arg6.IsWhole} {arg7 : Memref sig .tc .vmem S1x56x8192 .f32} {harg7 : arg7.IsWhole} {arg8 : Memref sig .tc .vmem S1x128x8192 .bf16} {harg8 : arg8.IsWhole} {arg9 : Memref sig .tc .vmem S1x128x8192 .bf16} {harg9 : arg9.IsWhole} {arg10 : Memref sig .tc .vmem S1x128x4096 .i8} {harg10 : arg10.IsWhole} {arg11 : Memref sig .tc .vmem S1x128x4096 .i8} {harg11 : arg11.IsWhole} {arg12 : Memref sig .tc .vmem S1x128x8192 .f32} {harg12 : arg12.IsWhole} {arg13 : Memref sig .tc .vmem S1x128x4096 .i8} {harg13 : arg13.IsWhole} {arg14 : Memref sig .tc .vmem S1x56x8192 .f32} {harg14 : arg14.IsWhole} {arg15 : Memref sig .tc .vmem S1x128x4096 .i8} {harg15 : arg15.IsWhole} {arg16 : Memref sig .tc .vmem S256x256 .bf16} {harg16 : arg16.IsWhole} {arg17 : Memref sig .tc .vmem S256x128 .bf16} {harg17 : arg17.IsWhole} {arg18 : Memref sig .tc .vmem S128x128 .f32} {harg18 : arg18.IsWhole} {arg19 : Memref sig .tc .vmem S128x128 .f32} {harg19 : arg19.IsWhole} {v41 v42 : Elt F .f32} {X_arg4 : BufTy.Contents (Elt F) arg4.view.ty} {X_arg6 : BufTy.Contents (Elt F) arg6.view.ty} {X_arg7 : BufTy.Contents (Elt F) arg7.view.ty} {X_arg8 : BufTy.Contents (Elt F) arg8.view.ty} {X_arg9 : BufTy.Contents (Elt F) arg9.view.ty} {X_arg10 : BufTy.Contents (Elt F) arg10.view.ty} {X_arg11 : BufTy.Contents (Elt F) arg11.view.ty} {X_arg16 : BufTy.Contents (Elt F) arg16.view.ty} {X_arg17 : BufTy.Contents (Elt F) arg17.view.ty} {X_arg18 : BufTy.Contents (Elt F) arg18.view.ty} {X_arg19 : BufTy.Contents (Elt F) arg19.view.ty}
  {x0 : Vec F S2 .f32} {x1 : Vec F S2x7168 .f32} {x2 : Vec F S2x8192 .f32} {x3 : Vec F S2x7168 .f32} {x4 : Vec F S2x8192 .f32} {x5 : Vec F S1x56x8192 .f32} {x6 : Vec F S1x128x8192 .bf16} {x7 : Vec F S1x128x8192 .bf16} {x8 : Vec F S1x128x4096 .i8} {x9 : Vec F S1x128x4096 .i8}

theorem isDw_of (h4 : arg4.view.read (Elt F) X_arg4 = x2) (h7 : arg7.view.read (Elt F) X_arg7 = x5) (h8 : arg8.view.read (Elt F) X_arg8 = x6) (h9 : arg9.view.read (Elt F) X_arg9 = x7) (h10 : arg10.view.read (Elt F) X_arg10 = x8) (h11 : arg11.view.read (Elt F) X_arg11 = x9) (h16 : arg16.view.read (Elt F) X_arg16 = k0_pay16) (h18 : arg18.view.read (Elt F) X_arg18 = rowV i x1) (h41 : v41 = coef0 x0) (h42 : v42 = coef1 x0) {f : BufTy.Contents (Elt F) arg12.view.ty} :
    IsDw i x0 x1 x2 x5 x6 x7 x8 x9 (arg12.view.read (Elt F) (arg12.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 (Scf.trips k0_t1_loop.lb k0_t1_loop.ub k0_t1_loop.st)).1)) := by
  subst h41; subst h42
  have hl := loop_12 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) (coef0 x0) (coef1 x0) X_arg4 X_arg6 X_arg7 X_arg8 X_arg9 X_arg10 X_arg11 X_arg16 X_arg17 X_arg18 X_arg19 f
  rw [h4, h7, h8, h9, h10, h11, h16, h18] at hl
  exact hl.1

theorem isMc_of (h7 : arg7.view.read (Elt F) X_arg7 = x5) (h9 : arg9.view.read (Elt F) X_arg9 = x7) (h10 : arg10.view.read (Elt F) X_arg10 = x8) (h16 : arg16.view.read (Elt F) X_arg16 = k0_pay16) (h17 : arg17.view.read (Elt F) X_arg17 = k0_pay17) {f : BufTy.Contents (Elt F) arg13.view.ty} :
    IsMc i x5 x7 x8 (arg13.view.read (Elt F) (arg13.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 (Scf.trips k0_t1_loop.lb k0_t1_loop.ub k0_t1_loop.st)).2.1)) := by

  have hl := loop_13 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 f
  rw [h7, h9, h10, h16, h17] at hl
  exact hl.1

theorem isMs_of (h7 : arg7.view.read (Elt F) X_arg7 = x5) (h9 : arg9.view.read (Elt F) X_arg9 = x7) (h10 : arg10.view.read (Elt F) X_arg10 = x8) (h16 : arg16.view.read (Elt F) X_arg16 = k0_pay16) {f : BufTy.Contents (Elt F) arg14.view.ty} {y14 : Vec F S1x56x8192 .f32} (hf : arg14.view.read (Elt F) f = y14) :
    IsMs i x5 x7 x8 y14 (arg14.view.read (Elt F) (arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 (Scf.trips k0_t1_loop.lb k0_t1_loop.ub k0_t1_loop.st)).2.2.1)) := by

  have hl := loop_14 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 f
  rw [h7, h9, h10, h16] at hl
  refine ⟨hl.1, fun y hy => (hl.2 y ?_).trans (congrFun hf y)⟩
  show (y 1).val < (i 1).val ∨ (i 1).val + 1 ≤ (y 1).val
  omega

theorem isVc_of (h4 : arg4.view.read (Elt F) X_arg4 = x2) (h6 : arg6.view.read (Elt F) X_arg6 = x4) (h9 : arg9.view.read (Elt F) X_arg9 = x7) (h11 : arg11.view.read (Elt F) X_arg11 = x9) (h16 : arg16.view.read (Elt F) X_arg16 = k0_pay16) (h17 : arg17.view.read (Elt F) X_arg17 = k0_pay17) (h18 : arg18.view.read (Elt F) X_arg18 = rowV i x1) (h19 : arg19.view.read (Elt F) X_arg19 = rowI i x3) {f : BufTy.Contents (Elt F) arg15.view.ty} :
    IsVc i x1 x2 x3 x4 x7 x9 (arg15.view.read (Elt F) (arg15.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 (Scf.trips k0_t1_loop.lb k0_t1_loop.ub k0_t1_loop.st)).2.2.2)) := by

  have hl := loop_15 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (BitVec.ofNat 32 (i 1).val) v41 v42 X_arg4 X_arg6 X_arg7 X_arg8 X_arg9 X_arg10 X_arg11 X_arg16 X_arg17 X_arg18 X_arg19 f
  rw [h4, h6, h9, h11, h16, h17, h18, h19] at hl
  exact hl.1

end Loop

end Cert.UpdateIdeal.Hand

end

end
-- ==== Proof.Update.PayB.lean ====
/- What the payloads of one trip hold at a place: the scale and the codes to be packed. -/
module

public import proofs.«01_k».proof.Proof.Update.Trip
public import proofs.«01_k».proof.Proof.Update.Words
public import proofs.«01_k».proof.Proof.Update.PayA
public import Idealize.ShloMosaic.Lib.Pointwise
public import Idealize.ShloMosaic.Lib.IdealHost

@[expose] public section

set_option maxRecDepth 16384

noncomputable section

namespace Cert.UpdateIdeal.Hand

open Idealize.ShloMosaic
open Cert.UpdateIdeal.Gen
open Cert.Nibble

/-! ## The matrix that puts two codes together into one byte -/

theorem named_g1q : (Named.named κ "g1q" 1013583521#32 : Ideal .f32) = ((1 / 70 : ℝ) : EReal) := rfl
theorem named_v16g2 : (Named.named κ "v16g2" 1015222895#32 : Ideal .f32) = ((2 / 125 : ℝ) : EReal) := rfl
theorem ofBits_neg2176 : Ideal.ofBits .f32 3305635840#32 = ((-2176 : ℝ) : EReal) := by
  simp [Ideal.ofBits, Ideal.ieee, -EReal.coe_mul]; norm_num

theorem ofBits_16 : Ideal.ofBits .f32 1098907648#32 = ((16 : ℝ) : EReal) := by
  simp [Ideal.ofBits, Ideal.ieee, -EReal.coe_mul]; norm_num

theorem ofBits_7 : Ideal.ofBits .f32 1088421888#32 = ((7 : ℝ) : EReal) := by
  simp [Ideal.ofBits, Ideal.ieee, -EReal.coe_mul]; norm_num

theorem ofBits_neg7 : Ideal.ofBits .f32 3235905536#32 = ((-7 : ℝ) : EReal) := by
  simp [Ideal.ofBits, Ideal.ieee, -EReal.coe_mul]; norm_num

theorem ofBits_negInf : Ideal.ofBits .f32 4286578688#32 = ⊥ := by
  simp [Ideal.ofBits, Ideal.ieee, -EReal.coe_mul]

theorem half_word : ∀ k : Fin 256, IntOp.shrsi .vector (BitVec.ofNat 32 k.val) 1#32 = BitVec.ofNat 32 (k.val / 2) := by decide
theorem odd_word : ∀ k : Fin 256, IntOp.andi (BitVec.ofNat 32 k.val) 1#32 = BitVec.ofNat 32 (k.val % 2) := by decide

theorem gather_apply (k : Fin 256) (n : Fin 128) :
    k0_pay17 (F := Ideal) (ix2 k n) = if k.val / 2 = n.val then (if k.val % 2 = 0 then 1 else ((16 : ℝ) : EReal)) else 0 := by
  have hk := k.isLt
  have hn := n.isLt
  pointwise [k0_pay17]
  rw [half_word, odd_word, cmpi_eq_ofNat _ _ (by omega) (by omega), ofBits_16, show (0#32 : BitVec 32) = BitVec.ofNat 32 0 from rfl,
    cmpi_eq_ofNat _ _ (by omega) (by omega)]

theorem gather_sum (u : Fin 256 → EReal) (n : Fin 128) (e o : Fin 256) (he : e.val = 2 * n.val) (ho : o.val = 2 * n.val + 1) :
    (∑ x : Fin 256, u x * k0_pay17 (F := Ideal) (ix2 x n) : EReal) = u e + u o * ((16 : ℝ) : EReal) := by
  have hne : e ≠ o := fun h => by have := congrArg Fin.val h; omega
  simp only [gather_apply]
  rw [Finset.sum_eq_add e o hne]
  · rw [if_pos (by omega), if_pos (by omega), if_pos (by omega), if_neg (by omega), mul_one]
  · intro x _ ⟨h1, h2⟩
    have h1' : x.val ≠ e.val := fun h => h1 (Fin.ext h)
    have h2' : x.val ≠ o.val := fun h => h2 (Fin.ext h)
    rw [if_neg (by omega), mul_zero]
  · intro h; exact absurd (Finset.mem_univ _) h
  · intro h; exact absurd (Finset.mem_univ _) h

/-! ## The first moment's scale and codes -/

/-- The largest absolute value down a column of a block of 128 rows. -/
def colMax (M : FVec Ideal S128x256 .f32) (q : Fin 256) : EReal :=
  Finset.fold max (⊥ : EReal) (fun x : Fin 128 => max (M (ix2 x q) : EReal) (-(M (ix2 x q)))) Finset.univ

theorem pay11_apply (M : FVec Ideal S128x256 .f32) (q : Fin 256) : k0_pay11 M (ix2 0 q) = colMax M q := by
  pointwise [k0_pay11]
  rw [ofBits_negInf]
  rfl

theorem pay12_apply (M : FVec Ideal S128x256 .f32) (q : Fin 256) :
    k0_pay12 M (ix3 0 0 q) = if colMax M q = 0 then (1 : EReal) else colMax M q * ((1 / 70 : ℝ) : EReal) := by
  pointwise [k0_pay12]
  rw [pay11_apply, named_g1q]

/-- A column's first moment over its scale, clipped to the code's range. -/
def clipM (M : FVec Ideal S128x256 .f32) : FVec Ideal S128x256 .f32 :=
  minimumf (broadcast S128x256 (Scalar.ofBits .f32 0x40E00000#32)) (maximumf (broadcast S128x256 (Scalar.ofBits .f32 0xC0E00000#32))
    (mulf M (broadcastTo S128x256 (select (cmpf .oeq (k0_pay11 M) (broadcast S1x256 (Scalar.ofBits .f32 0x00000000#32)))
      (broadcast S1x256 (Scalar.ofBits .f32 0x3F800000#32)) (divf (broadcast S1x256 (Scalar.ofBits .f32 0x40E00000#32)) (k0_pay11 M))) broadcasts_S1x256_S128x256)))

/-- The float of the lower sixteen bits of a whole number moved up by `b`. -/
def codeWord (X : FVec Ideal S128x256 .f32) (b : BitVec 32) : FVec Ideal S128x256 .bf16 :=
  bitcastToFloat .bf16 (trunci 16 (addi (fptosi 32 (roundeven X)) (broadcast S128x256 b)) natLt_16_32)

theorem clipM_apply (M : FVec Ideal S128x256 .f32) (p : Fin 128) (q : Fin 256) :
    clipM M (ix2 p q) = min ((7 : ℝ) : EReal) (max (((-7 : ℝ)) : EReal) (M (ix2 p q) * if colMax M q = 0 then (1 : EReal) else Ideal.div ((7 : ℝ) : EReal) (colMax M q))) := by
  pointwise [clipM]
  rw [pay11_apply, ofBits_7, ofBits_neg7]

theorem codeWord_apply (X : FVec Ideal S128x256 .f32) (b : BitVec 32) (p : Fin 128) (q : Fin 256) :
    codeWord X b (ix2 p q) = Ideal.ofBits .bf16 (BitVec.setWidth 16 (Ideal.fptosi 32 (Ideal.liftRound Ideal.roundHalfEven (X (ix2 p q))) + b)) := rfl

/-- A second moment over the smaller statistic, less one. -/
def slotV (V : FVec Ideal S128x256 .f32) (x19 : FVec Ideal S128x128 .f32) (R : FVec Ideal S1x256 .f32) : FVec Ideal S128x256 .f32 :=
  subf (mulf V (maximumf (concatenate S128x256 1 [⟨S128x128, x19⟩, ⟨S128x128, x19⟩] concatenates_S128x128_S128x128_S128x256_d1)
    (broadcastTo S128x256 (select (cmpf .oeq R (broadcast S1x256 (Scalar.ofBits .f32 0x00000000#32)))
      (broadcast S1x256 (Scalar.ofBits .f32 0x00000000#32))
      (divf (broadcast S1x256 (Named.named κ "v16g2" 0x3C83126F#32)) R)) broadcasts_S1x256_S128x256)))
    (broadcast S128x256 (Scalar.ofBits .f32 0x3F800000#32))

/-- Both ends of the code's range, set before the codes are put together. -/
def clipV (Y : FVec Ideal S128x256 .f32) : FVec Ideal S128x256 .bf16 :=
  minimumf (broadcast S128x256 (Scalar.ofBits .bf16 0x430F#16)) (maximumf (broadcast S128x256 (Scalar.ofBits .bf16 0x4300#16)) (codeWord Y 1258308352#32))

theorem gather_matmul (U : FVec Ideal S128x256 .bf16) (G : FVec Ideal S256x128 .bf16) (p n : Fin 128) :
    matmul dot_S128x256_S256x128_S128x128_1_0_0_1_n_n none U G (constant S128x128 .f32 0x00000000#32) (ix2 p n)
      = (∑ x : Fin 256, U (ix2 p x) * G (ix2 x n) : EReal) := by
  pointwise

theorem pay13_eq (M : FVec Ideal S128x256 .f32) (G : FVec Ideal S256x128 .bf16) :
    k0_pay13 M G = addf (matmul dot_S128x256_S256x128_S128x128_1_0_0_1_n_n none (codeWord (clipM M) 1258308360#32) G (constant S128x128 .f32 0x00000000#32))
      (broadcast S128x128 (Scalar.ofBits .f32 0xC5080000#32)) := rfl

theorem pay15_eq (b : BitVec 32) (V : FVec Ideal S128x256 .f32) (x19 : FVec Ideal S128x128 .f32) (v184 v186 : FVec Ideal S1x256 .f32) (G : FVec Ideal S256x128 .bf16) :
    k0_pay15 b V x19 v184 v186 G = matmul dot_S128x256_S256x128_S128x128_1_0_0_1_n_n none
      (clipV (slotV V x19 (Scalar.select (Scalar.cmpi .eq b 0#32) v184 v186))) G (constant S128x128 .f32 0x00000000#32) := rfl

theorem slotV_apply (V : FVec Ideal S128x256 .f32) (x19 : FVec Ideal S128x128 .f32) (R : FVec Ideal S1x256 .f32) (p : Fin 128) (q : Fin 256)
    (l : Fin 128) (hv : ∀ l', x19 (ix2 p l') = x19 (ix2 p l)) :
    slotV V x19 R (ix2 p q) = (V (ix2 p q) * max (x19 (ix2 p l)) (if (R (ix2 0 q) : EReal) = 0 then 0 else Ideal.div ((2 / 125 : ℝ) : EReal) (R (ix2 0 q))) - 1 : EReal) := by
  pointwise [slotV]
  rw [named_v16g2]
  split <;> rw [hv]

theorem minmax_apply {s : Shape} (a b c : FVec Ideal s .bf16) (i : s.Idx) :
    minimumf a (maximumf b c) i = (min (a i) (max (b i) (c i)) : EReal) := rfl

theorem ofBits_hi : (Scalar.ofBits (F := Ideal) .bf16 0x430F#16 : EReal) = ((143 : ℝ) : EReal) := by
  simp [Scalar.ofBits, FloatOps.ofBits, Ideal.ofBits, Ideal.ieee, -EReal.coe_mul]

theorem ofBits_lo : (Scalar.ofBits (F := Ideal) .bf16 0x4300#16 : EReal) = ((128 : ℝ) : EReal) := by
  simp [Scalar.ofBits, FloatOps.ofBits, Ideal.ofBits, Ideal.ieee, -EReal.coe_mul]

theorem clipV_apply (Y : FVec Ideal S128x256 .f32) (p : Fin 128) (q : Fin 256) :
    clipV Y (ix2 p q) = (min ((143 : ℝ) : EReal) (max ((128 : ℝ) : EReal) (codeWord Y 1258308352#32 (ix2 p q))) : EReal) := by
  rw [clipV, minmax_apply, ← ofBits_hi, ← ofBits_lo]
  rfl

end Cert.UpdateIdeal.Hand

end
-- ==== Proof.Update.PayC.lean ====
/- What the payloads of one trip hold at a place: the weight step and the packed bytes. -/
module

public import proofs.«01_k».proof.Proof.Update.Trip
public import proofs.«01_k».proof.Proof.Update.Words
public import proofs.«01_k».proof.Proof.Update.PayB
public import Idealize.ShloMosaic.Lib.Pointwise
public import Idealize.ShloMosaic.Lib.IdealHost

@[expose] public section

set_option maxRecDepth 16384

noncomputable section

namespace Cert.UpdateIdeal.Hand

open Idealize.ShloMosaic
open Cert.UpdateIdeal.Gen
open Cert.Nibble

theorem pay8_apply (v41 v42 : Elt Ideal .f32) (v57 : FVec Ideal S1x256 .f32) (v78 v82 : FVec Ideal S128x256 .f32) (v83 : Vec Ideal S128x128 .f32)
    (v91 : Vec Ideal S1x128x128 .i8) (v105 : Vec Ideal S256x256 .bf16) (v109 : Vec Ideal S1x1x256 .f32) (p : Fin 128) (q : Fin 256) :
    k0_pay8 v41 v42 v57 v78 v82 v83 v91 v105 v109 (ix2 p q)
      = Ideal.div (k0_pay7 v82 v91 v105 v109 (ix2 p q))
          (k0_pay6 v57 v78 v82 v83 (ix2 p q) * Ideal.rsqrt (k0_pay6 v57 v78 v82 v83 (ix2 p q)) * v41 + v42) := by
  pointwise [k0_pay8]

theorem pay10_apply (v122 v128 : FVec Ideal S128x256 .f32) (p : Fin 128) (q : Fin 256) :
    k0_pay10 v122 v128 (ix3 0 p q) = (v122 (ix2 p q) + v128 (ix2 p q) : EReal) := by
  pointwise [k0_pay10]

theorem named_lrwd : (Named.named κ "lrwd" 0x37FBA882#32 : Ideal .f32) = ((3 / 100000 : ℝ) : EReal) := rfl

theorem pay9_apply (v : Vec Ideal S1x128x256 .bf16) (p : Fin 128) (q : Fin 256) :
    k0_pay9 v (ix2 p q) = (v (ix3 0 p q) * ((3 / 100000 : ℝ) : EReal) : EReal) := by
  pointwise [k0_pay9]
  rw [named_lrwd]

theorem pay1_apply (i : grid0.Coords) (v9 v11 : Vec Ideal S1x128 .f32) (p q : Fin 128) :
    k0_pay1 (k0_pay19 i v9 v11) (ix2 p q)
      = (if Scalar.select (Scalar.cmpi .eq (BitVec.ofNat 32 (i 0).val) 0#32) (v9 (ix2 0 p)) (v11 (ix2 0 p)) = (0 : EReal) then (0 : EReal)
        else Ideal.div ((2 / 125 : ℝ) : EReal) (Scalar.select (Scalar.cmpi .eq (BitVec.ofNat 32 (i 0).val) 0#32) (v9 (ix2 0 p)) (v11 (ix2 0 p))) : EReal) := by
  pointwise [k0_pay1, k0_pay19]
  rw [named_v16g2]

theorem bytes_flip (Y : IVec S128x128 8) (p l : Fin 128) :
    bitcast S128x128 8 (xori (bitcast S32x128 32 Y bitcasts_S128x128_w8_S32x128_w32) (broadcast S32x128 2290649224#32))
      bitcasts_S32x128_w32_S128x128_w8 (ix2 p l) = (Y (ix2 p l)) ^^^ 0x88#8 := by
  rw [ix2_eq_valueIdx]
  exact bytewise Y _ _ (fun w => IntOp.xori w 2290649224#32) (fun c => c ^^^ 0x88#8) word_flip p l

theorem pay14_apply (v : FVec Ideal S128x128 .f32) (p q : Fin 128) :
    k0_pay14 v (ix3 0 p q) = BitVec.setWidth 8 (Ideal.fptosi 32 (v (ix2 p q))) ^^^ 0x88#8 := by
  pointwise [k0_pay14]
  exact bytes_flip _ p q

theorem pay2_apply (v : FVec Ideal S128x128 .f32) (p q : Fin 128) :
    k0_pay2 v (ix3 0 p q) = BitVec.setWidth 8 (Ideal.fptosi 32 (v (ix2 p q) + ((-2176 : ℝ) : EReal))) := by
  pointwise [k0_pay2]
  rw [ofBits_neg2176]
  rfl

end Cert.UpdateIdeal.Hand

end
-- ==== Proof.Update.Elems.lean ====
/- One trip's arrays at an element, over the blocks of a point. -/
module

public import proofs.«01_k».proof.Proof.Update.Body
public import proofs.«01_k».proof.Proof.Update.PayC
public import Idealize.ShloMosaic.Lib.Pipeline.ValueKit.Tiles

@[expose] public section

set_option maxRecDepth 16384

noncomputable section

namespace Cert.UpdateIdeal.Hand

open Idealize.ShloMosaic
open Cert.UpdateIdeal.Gen
open Cert.Nibble

/-- The new column statistic that a trip reads. -/
def colN (b : BitVec 32) (x : Vec Ideal S2x8192 .f32) (k : Fin k0_t1_loop.trips) : FVec Ideal S1x256 .f32 :=
  Scalar.select (Scalar.cmpi .eq b 0#32) (View.ld x (Rect.unit (k0_off3 k) S1x256.size (k0_off3_inb k)))
    (View.ld x (Rect.unit (k0_off4 k) S1x256.size (k0_off4_inb k)))

theorem off1_eq (i : grid0.Coords) : k0_off1 i = ![0, 128 * (i 1).val] := by
  have h : (i 1).val < 56 := (i 1).isLt
  have hw : (Scalar.muli (BitVec.ofNat 32 (i 1).val) 128#32).toNat = 128 * (i 1).val := by
    show (BitVec.ofNat 32 (i 1).val * 128#32).toNat = _
    rw [BitVec.toNat_mul, BitVec.toNat_ofNat]
    simp only [BitVec.toNat_ofNat]
    omega
  exact congrArg (fun n => (![0, n] : Fin 2 → ℕ)) hw

theorem off2_eq (i : grid0.Coords) : k0_off2 i = ![1, 128 * (i 1).val] := by
  have h : (i 1).val < 56 := (i 1).isLt
  have hw : (Scalar.muli (BitVec.ofNat 32 (i 1).val) 128#32).toNat = 128 * (i 1).val := by
    show (BitVec.ofNat 32 (i 1).val * 128#32).toNat = _
    rw [BitVec.toNat_mul, BitVec.toNat_ofNat]
    simp only [BitVec.toNat_ofNat]
    omega
  exact congrArg (fun n => (![1, n] : Fin 2 → ℕ)) hw

/-- A load read at an index, the offsets known. -/
theorem ld_at {S : Shape} {e : EltTy} (X : S.Idx → Elt Ideal e) {off off' : Fin S.rank → ℕ} (size : Fin S.rank → ℕ) (h : off = off') (inb)
    (x : (Rect.unit off size inb).shape.Idx) (i : S.Idx) (hi : ∀ a, (i a : ℕ) = off' a + x a) : View.ld X (Rect.unit off size inb) x = X i := by
  subst h; exact View.ld_unit_apply_of X _ _ _ x i hi

/-- The choice of a row of two by the number of the row. -/
theorem sel_row {α : Type} (i : grid0.Coords) (b : Fin 2) (hb : (i 0).val = b.val) (x : Fin 2 → α) :
    Scalar.select (Scalar.cmpi .eq (BitVec.ofNat 32 (i 0).val) 0#32) (x 0) (x 1) = x b := by
  rw [hb]
  fin_cases b <;> rfl

/-- A half-byte depends on the parity of its place. -/
theorem nib_par (w : BitVec 8) (m n : ℕ) (h : m % 2 = n % 2) : nib w m = nib w n := by
  unfold nib; rw [h]

section
variable (i : grid0.Coords) (b : Fin 2) (hb : (i 0).val = b.val) (k : Fin k0_t1_loop.trips)

theorem ld3 (x : Vec Ideal S2x8192 .f32) (q : Fin 256) (col : Fin 8192) (hc : col.val = 256 * k.val + q.val) :
    View.ld x (Rect.unit (k0_off3 k) S1x256.size (k0_off3_inb k)) (ix2 0 q) = x (ix2 0 col) :=
  ld_at x _ (off3_eq k) _ _ _ (by intro a; fin_cases a <;> simp [hc])

theorem ld4 (x : Vec Ideal S2x8192 .f32) (q : Fin 256) (col : Fin 8192) (hc : col.val = 256 * k.val + q.val) :
    View.ld x (Rect.unit (k0_off4 k) S1x256.size (k0_off4_inb k)) (ix2 0 q) = x (ix2 1 col) :=
  ld_at x _ (off4_eq k) _ _ _ (by intro a; fin_cases a <;> simp [hc])

theorem ld5 (x : Vec Ideal S1x128x4096 .i8) (p a' : Fin 128) (a : Fin 4096) (hc : a.val = 128 * k.val + a'.val) :
    View.ld x (Rect.unit (k0_off5 k) S1x128x128.size (k0_off5_inb k)) (ix3 0 p a') = x (ix3 0 p a) :=
  ld_at x _ (off5_eq k) _ _ _ (by intro a; fin_cases a <;> simp [hc])

theorem ld6 (x : Vec Ideal S1x128x8192 .bf16) (p : Fin 128) (q : Fin 256) (col : Fin 8192) (hc : col.val = 256 * k.val + q.val) :
    View.ld x (Rect.unit (k0_off6 k) S1x128x256.size (k0_off6_inb k)) (ix3 0 p q) = x (ix3 0 p col) :=
  ld_at x _ (off6_eq k) _ _ _ (by intro a; fin_cases a <;> simp [hc])

theorem ld7 (x : Vec Ideal S1x56x8192 .f32) (q : Fin 256) (r : Fin 56) (hr : r.val = (i 1).val) (col : Fin 8192) (hc : col.val = 256 * k.val + q.val) :
    View.ld x (Rect.unit (k0_off7 i k) S1x1x256.size (k0_off7_inb i k)) (ix3 0 0 q) = x (ix3 0 r col) :=
  ld_at x _ (off7_eq i k) _ _ _ (by intro a; fin_cases a <;> simp [hc, hr])

theorem ld1 (x : Vec Ideal S2x7168 .f32) (p : Fin 128) (r : Fin 7168) (hr : r.val = 128 * (i 1).val + p.val) :
    View.ld x (Rect.unit (k0_off1 i) S1x128.size (k0_off1_inb i)) (ix2 0 p) = x (ix2 0 r) :=
  ld_at x _ (off1_eq i) _ _ _ (by intro a; fin_cases a <;> simp [hr])

theorem ld2 (x : Vec Ideal S2x7168 .f32) (p : Fin 128) (r : Fin 7168) (hr : r.val = 128 * (i 1).val + p.val) :
    View.ld x (Rect.unit (k0_off2 i) S1x128.size (k0_off2_inb i)) (ix2 0 p) = x (ix2 1 r) :=
  ld_at x _ (off2_eq i) _ _ _ (by intro a; fin_cases a <;> simp [hr])

include hb

theorem rowV_apply (x : Vec Ideal S2x7168 .f32) (p l : Fin 128) (r : Fin 7168) (hr : r.val = 128 * (i 1).val + p.val) :
    rowV i x (ix2 p l) = max (x (ix2 b r) * ((999 / 16 : ℝ) : EReal)) (Ideal.ofBits .f32 0x00800000#32) := by
  rw [rowV, pay18_apply, ld1 i x p r hr, ld2 i x p r hr, sel_row i b hb (fun j => x (ix2 j r))]

theorem rowI_apply (x : Vec Ideal S2x7168 .f32) (p l : Fin 128) (r : Fin 7168) (hr : r.val = 128 * (i 1).val + p.val) :
    rowI i x (ix2 p l) = (if x (ix2 b r) = (0 : EReal) then (0 : EReal) else Ideal.div ((2 / 125 : ℝ) : EReal) (x (ix2 b r)) : EReal) := by
  rw [rowI, pay1_apply, ld1 i x p r hr, ld2 i x p r hr, sel_row i b hb (fun j => x (ix2 j r))]

theorem colV_apply (x : Vec Ideal S2x8192 .f32) (q : Fin 256) (col : Fin 8192) (hc : col.val = 256 * k.val + q.val) :
    colV (gb i) x k (ix2 0 q) = max (x (ix2 b col) * ((999 / 16 : ℝ) : EReal)) (Ideal.ofBits .f32 0x00800000#32) := by
  rw [colV, pay3_apply, ld3 k x q col hc, ld4 k x q col hc, sel_row i b hb (fun j => x (ix2 j col))]

theorem colI_apply (x : Vec Ideal S2x8192 .f32) (q : Fin 256) (col : Fin 8192) (hc : col.val = 256 * k.val + q.val) :
    colN (gb i) x k (ix2 0 q) = x (ix2 b col) := by
  have h := sel_row (α := FVec Ideal S1x256 .f32) i b hb (fun j => if j = 0 then View.ld x (Rect.unit (k0_off3 k) S1x256.size (k0_off3_inb k)) else View.ld x (Rect.unit (k0_off4 k) S1x256.size (k0_off4_inb k)))
  simp only [if_true, if_false, if_neg (show ¬ (1 : Fin 2) = 0 by decide)] at h
  refine (congrFun h (ix2 0 q)).trans ?_
  fin_cases b
  · exact ld3 k x q col hc
  · exact ld4 k x q col hc

omit hb

theorem codeV_apply (x : Vec Ideal S1x128x4096 .i8) (p : Fin 128) (q : Fin 256) (col : Fin 8192) (hc : col.val = 256 * k.val + q.val)
    (a : Fin 4096) (ha : a.val = col.val / 2) :
    codeV x (k0_pay16 (F := Ideal)) k (ix2 p q) = (((nib (x (ix3 0 p a)) col.val + 1 : ℕ) : ℝ) : EReal) := by
  rw [codeV, pay4_apply _ p q ⟨q.val / 2, by omega⟩ rfl, ld5 k x p _ a (by dsimp only; omega), nib_par _ q.val col.val (by omega)]

theorem gradV_apply (x : Vec Ideal S1x128x8192 .bf16) (p : Fin 128) (q : Fin 256) (col : Fin 8192) (hc : col.val = 256 * k.val + q.val) :
    gradV x k (ix2 p q) = x (ix3 0 p col) := by
  rw [gradV, pay5_apply, ld6 k x p q col hc]

theorem momM_apply (xs : Vec Ideal S1x56x8192 .f32) (xg : Vec Ideal S1x128x8192 .bf16) (xc : Vec Ideal S1x128x4096 .i8) (p : Fin 128) (q : Fin 256)
    (col : Fin 8192) (hc : col.val = 256 * k.val + q.val) (a : Fin 4096) (ha : a.val = col.val / 2) (r : Fin 56) (hr : r.val = (i 1).val) :
    momM i xs xg xc (k0_pay16 (F := Ideal)) k (ix2 p q)
      = (xg (ix3 0 p col) + ((16 * (sgn (nib (xc (ix3 0 p a)) col.val) : ℝ) : ℝ) : EReal) * (xs (ix3 0 r col) * ((9 / 16 : ℝ) : EReal)) : EReal) := by
  rw [momM, pay7_apply _ _ _ p q ⟨q.val / 2, by omega⟩ rfl, gradV_apply k xg p q col hc, ld5 k xc p _ a (by dsimp only; omega),
    ld7 i k xs q r hr col hc, nib_par _ q.val col.val (by omega)]
  push_cast
  rfl

include hb

theorem momV_apply (x1 : Vec Ideal S2x7168 .f32) (x2 : Vec Ideal S2x8192 .f32) (xg : Vec Ideal S1x128x8192 .bf16) (xd : Vec Ideal S1x128x4096 .i8) (p : Fin 128) (q : Fin 256)
    (r : Fin 7168) (hr : r.val = 128 * (i 1).val + p.val)
    (col : Fin 8192) (hc : col.val = 256 * k.val + q.val) (a : Fin 4096) (ha : a.val = col.val / 2) :
    momV (gb i) x2 xg xd (k0_pay16 (F := Ideal)) (rowV i x1) k (ix2 p q)
      = (xg (ix3 0 p col) * xg (ix3 0 p col) + (((nib (xd (ix3 0 p a)) col.val + 1 : ℕ) : ℝ) : EReal)
        * min (max (x1 (ix2 b r) * ((999 / 16 : ℝ) : EReal)) (Ideal.ofBits .f32 0x00800000#32))
            (max (x2 (ix2 b col) * ((999 / 16 : ℝ) : EReal)) (Ideal.ofBits .f32 0x00800000#32)) : EReal) := by
  rw [momV, pay6_apply _ _ _ _ p q 0 (fun l' => by rw [rowV_apply i b hb x1 p l' r hr, rowV_apply i b hb x1 p 0 r hr]), gradV_apply k xg p q col hc,
    codeV_apply k xd p q col hc a ha, rowV_apply i b hb x1 p 0 r hr, colV_apply i b hb k x2 q col hc]

end

end Cert.UpdateIdeal.Hand

end
-- ==== Proof.Stats.Elems.lean ====
/- One trip's arrays at an element, over the blocks of a point. -/
module

public import proofs.«01_k».proof.Proof.Stats.Body
public import proofs.«01_k».proof.Proof.Stats.Pay
public import proofs.«01_k».proof.Proof.Update.Elems
public import Idealize.ShloMosaic.Lib.Pipeline.ValueKit.Tiles

@[expose] public section

set_option maxRecDepth 16384

noncomputable section

namespace Cert.StatsIdeal.Hand

open Idealize.ShloMosaic
open Cert.StatsIdeal.Gen
open Cert.Nibble
open Cert.UpdateIdeal.Hand (ld_at sel_row nib_par)

section
variable (i : grid0.Coords) (b : Fin 2) (hb : (i 0).val = b.val) (k : Fin k0_t1_loop.trips)

theorem ld3 (x : Vec Ideal S2x8192 .f32) (q : Fin 256) (col : Fin 8192) (hc : col.val = 256 * k.val + q.val) :
    View.ld x (Rect.unit (k0_off3 k) S1x256.size (k0_off3_inb k)) (ix2 0 q) = x (ix2 0 col) :=
  ld_at x _ (off3_eq k) _ _ _ (by intro a; fin_cases a <;> simp [hc])

theorem ld4 (x : Vec Ideal S2x8192 .f32) (q : Fin 256) (col : Fin 8192) (hc : col.val = 256 * k.val + q.val) :
    View.ld x (Rect.unit (k0_off4 k) S1x256.size (k0_off4_inb k)) (ix2 0 q) = x (ix2 1 col) :=
  ld_at x _ (off4_eq k) _ _ _ (by intro a; fin_cases a <;> simp [hc])

theorem ld5 (x : Vec Ideal S1x128x4096 .i8) (p a' : Fin 128) (a : Fin 4096) (hc : a.val = 128 * k.val + a'.val) :
    View.ld x (Rect.unit (k0_off5 k) S1x128x128.size (k0_off5_inb k)) (ix3 0 p a') = x (ix3 0 p a) :=
  ld_at x _ (off5_eq k) _ _ _ (by intro a; fin_cases a <;> simp [hc])

theorem ld6 (x : Vec Ideal S1x128x8192 .bf16) (p : Fin 128) (q : Fin 256) (col : Fin 8192) (hc : col.val = 256 * k.val + q.val) :
    View.ld x (Rect.unit (k0_off6 k) S1x128x256.size (k0_off6_inb k)) (ix3 0 p q) = x (ix3 0 p col) :=
  ld_at x _ (off6_eq k) _ _ _ (by intro a; fin_cases a <;> simp [hc])

theorem ld1 (x : Vec Ideal S2x7168 .f32) (p : Fin 128) (r : Fin 7168) (hr : r.val = 128 * (i 1).val + p.val) :
    View.ld x (Rect.unit (k0_off1 i) S1x128.size (k0_off1_inb i)) (ix2 0 p) = x (ix2 0 r) :=
  ld_at x _ (off1_eq i) _ _ _ (by intro a; fin_cases a <;> simp [hr])

theorem ld2 (x : Vec Ideal S2x7168 .f32) (p : Fin 128) (r : Fin 7168) (hr : r.val = 128 * (i 1).val + p.val) :
    View.ld x (Rect.unit (k0_off2 i) S1x128.size (k0_off2_inb i)) (ix2 0 p) = x (ix2 1 r) :=
  ld_at x _ (off2_eq i) _ _ _ (by intro a; fin_cases a <;> simp [hr])

include hb

theorem rowV_apply (x : Vec Ideal S2x7168 .f32) (p l : Fin 128) (r : Fin 7168) (hr : r.val = 128 * (i 1).val + p.val) :
    rowV i x (ix2 p l) = max (x (ix2 b r) * ((999 / 16 : ℝ) : EReal)) (Ideal.ofBits .f32 0x00800000#32) := by
  rw [rowV, pay11_apply, ld1 i x p r hr, ld2 i x p r hr, sel_row i b hb (fun j => x (ix2 j r))]

theorem colV_apply (x : Vec Ideal S2x8192 .f32) (q : Fin 256) (col : Fin 8192) (hc : col.val = 256 * k.val + q.val) :
    colV (gb i) x k (ix2 0 q) = max (x (ix2 b col) * ((999 / 16 : ℝ) : EReal)) (Ideal.ofBits .f32 0x00800000#32) := by
  rw [colV, pay3_apply, ld3 k x q col hc, ld4 k x q col hc, sel_row i b hb (fun j => x (ix2 j col))]

omit hb

theorem codeV_apply (x : Vec Ideal S1x128x4096 .i8) (p : Fin 128) (q : Fin 256) (col : Fin 8192) (hc : col.val = 256 * k.val + q.val)
    (a : Fin 4096) (ha : a.val = col.val / 2) :
    codeV x (k0_pay9 (F := Ideal)) k (ix2 p q) = (((nib (x (ix3 0 p a)) col.val + 1 : ℕ) : ℝ) : EReal) := by
  rw [codeV, pay4_apply _ p q ⟨q.val / 2, by omega⟩ rfl, ld5 k x p _ a (by dsimp only; omega), nib_par _ q.val col.val (by omega)]

theorem gradV_apply (x : Vec Ideal S1x128x8192 .bf16) (p : Fin 128) (q : Fin 256) (col : Fin 8192) (hc : col.val = 256 * k.val + q.val) :
    gradV x k (ix2 p q) = x (ix3 0 p col) := by
  rw [gradV, pay5_apply, ld6 k x p q col hc]

include hb

theorem momV_apply (x1 : Vec Ideal S2x7168 .f32) (x2 : Vec Ideal S2x8192 .f32) (xg : Vec Ideal S1x128x8192 .bf16) (xd : Vec Ideal S1x128x4096 .i8) (p : Fin 128) (q : Fin 256)
    (r : Fin 7168) (hr : r.val = 128 * (i 1).val + p.val)
    (col : Fin 8192) (hc : col.val = 256 * k.val + q.val) (a : Fin 4096) (ha : a.val = col.val / 2) :
    momV (gb i) x2 xg xd (k0_pay9 (F := Ideal)) (rowV i x1) k (ix2 p q)
      = (xg (ix3 0 p col) * xg (ix3 0 p col) + (((nib (xd (ix3 0 p a)) col.val + 1 : ℕ) : ℝ) : EReal)
        * min (max (x1 (ix2 b r) * ((999 / 16 : ℝ) : EReal)) (Ideal.ofBits .f32 0x00800000#32))
            (max (x2 (ix2 b col) * ((999 / 16 : ℝ) : EReal)) (Ideal.ofBits .f32 0x00800000#32)) : EReal) := by
  rw [momV, pay6_apply _ _ _ _ p q 0 (fun l' => by rw [rowV_apply i b hb x1 p l' r hr, rowV_apply i b hb x1 p 0 r hr]), gradV_apply k xg p q col hc,
    codeV_apply k xd p q col hc a ha, rowV_apply i b hb x1 p 0 r hr, colV_apply i b hb k x2 q col hc]

end

end Cert.StatsIdeal.Hand

end
-- ==== Proof.Stats.Maxima.lean ====
/- The running maxima of a point, over the second moment of the point's rows. -/
module

public import proofs.«01_k».proof.Proof.Stats.Elems

@[expose] public section

set_option maxRecDepth 16384

noncomputable section

namespace Cert.StatsIdeal.Hand

open Idealize.ShloMosaic
open Cert.StatsIdeal.Gen
open Cert.Nibble
open Cert.UpdateIdeal.Hand (ld_at)

variable (G : FVec Ideal S2x7168x8192 .bf16) (D : IVec S2x7168x4096 8) (x0 : FVec Ideal S2x7168 .f32) (x1 : FVec Ideal S2x8192 .f32)

/-- The second moment, a thousand times over. -/
def sec (b : Fin 2) (r : Fin 7168) (col : Fin 8192) : EReal :=
  G (ix3 b r col) * G (ix3 b r col) + (((nib (D (ix3 b r ⟨col.val / 2, by omega⟩)) col.val + 1 : ℕ) : ℝ) : EReal)
    * min (max (x0 (ix2 b r) * ((999 / 16 : ℝ) : EReal)) (Ideal.ofBits .f32 0x00800000#32))
        (max (x1 (ix2 b col) * ((999 / 16 : ℝ) : EReal)) (Ideal.ofBits .f32 0x00800000#32))

/-- A trip of the point, by its number. -/
def tripOf (n : ℕ) (h : n < 32) : Fin k0_t1_loop.trips := ⟨n, by rw [trips_eq]; exact h⟩

variable (i : grid0.Coords) (b : Fin 2) (hb : (i 0).val = b.val)
  (xg : Vec Ideal S1x128x8192 .bf16) (xd : Vec Ideal S1x128x4096 .i8)
  (hg : ∀ (p : Fin 128) (r : Fin 7168) (col : Fin 8192), r.val = 128 * (i 1).val + p.val → xg (ix3 0 p col) = G (ix3 b r col))
  (hd : ∀ (p : Fin 128) (r : Fin 7168) (a : Fin 4096), r.val = 128 * (i 1).val + p.val → xd (ix3 0 p a) = D (ix3 b r a))

include hb hg hd

theorem mom_at (k : Fin k0_t1_loop.trips) (p : Fin 128) (q : Fin 256) (r : Fin 7168) (hr : r.val = 128 * (i 1).val + p.val) (col : Fin 8192) (hc : col.val = 256 * k.val + q.val) :
    momV (gb i) x1 xg xd (k0_pay9 (F := Ideal)) (rowV (F := Ideal) i x0) k (ix2 p q) = sec G D x0 x1 b r col := by
  rw [momV_apply i b hb k x0 x1 xg xd p q r hr col hc ⟨col.val / 2, by omega⟩ rfl, hg p r col hr, hd p r _ hr]
  rfl

/-- The running row maxima after `n` trips. -/
theorem row_le (p l : Fin 128) (r : Fin 7168) (hr : r.val = 128 * (i 1).val + p.val) (u : EReal) : ∀ n ≤ 32,
    ((rowAcc (gb i) x1 xg xd (k0_pay9 (F := Ideal)) (rowV (F := Ideal) i x0) n (ix2 p l) : EReal) ≤ u
      ↔ 0 ≤ u ∧ ∀ k : Fin 32, k.val < n → sec G D x0 x1 b r ⟨256 * k.val + l.val, by omega⟩ ≤ u ∧ sec G D x0 x1 b r ⟨256 * k.val + (128 + l.val), by omega⟩ ≤ u) := by
  intro n
  induction n with
  | zero =>
    intro _
    show (k0_pay12 (F := Ideal) (ix2 p l) : EReal) ≤ u ↔ _
    rw [zeros_row]
    exact ⟨fun h => ⟨h, fun k hk => absurd hk (Nat.not_lt_zero _)⟩, fun h => h.1⟩
  | succ n ih =>
    intro hn
    have hn' : n < k0_t1_loop.trips := by rw [trips_eq]; omega
    have e : rowAcc (gb i) x1 xg xd (k0_pay9 (F := Ideal)) (rowV (F := Ideal) i x0) (n + 1) (ix2 p l)
        = (max (rowAcc (gb i) x1 xg xd (k0_pay9 (F := Ideal)) (rowV (F := Ideal) i x0) n (ix2 p l))
          (max (sec G D x0 x1 b r ⟨256 * n + l.val, by omega⟩) (sec G D x0 x1 b r ⟨256 * n + (128 + l.val), by omega⟩)) : EReal) := by
      rw [← mom_at G D x0 x1 i b hb xg xd hg hd ⟨n, hn'⟩ p ⟨l.val, by omega⟩ r hr ⟨256 * n + l.val, by omega⟩ rfl,
        ← mom_at G D x0 x1 i b hb xg xd hg hd ⟨n, hn'⟩ p ⟨128 + l.val, by omega⟩ r hr ⟨256 * n + (128 + l.val), by omega⟩ rfl]
      rw [rowAcc, dif_pos hn', rowStep, pay7_apply]
      rfl
    rw [e, max_le_iff, max_le_iff, ih (by omega)]
    constructor
    · rintro ⟨⟨h0, h1⟩, h2⟩
      refine ⟨h0, fun k hk => ?_⟩
      rcases Nat.lt_or_eq_of_le (Nat.le_of_lt_succ hk) with h | h
      · exact h1 k h
      · subst h; exact h2
    · rintro ⟨h0, h1⟩
      exact ⟨⟨h0, fun k hk => h1 k (Nat.lt_succ_of_lt hk)⟩, h1 ⟨n, by omega⟩ (Nat.lt_succ_self n)⟩

/-- The row maxima a point stores. -/
theorem ptRow_ref (h0 : ∀ r col, 0 ≤ sec G D x0 x1 b r col) (p : Fin 128) (r : Fin 7168) (hr : r.val = 128 * (i 1).val + p.val) :
    k0_pay1 (ptRow i x0 x1 xg xd) (ix2 0 p) = (Finset.fold max (⊥ : EReal) (fun col : Fin 8192 => sec G D x0 x1 b r col) Finset.univ * ((1 / 1000 : ℝ) : EReal) : EReal) := by
  rw [pay1_apply]
  refine congrArg (fun z : EReal => z * ((1 / 1000 : ℝ) : EReal)) (eq_of_forall_ge_iff fun u => ?_)
  rw [Finset.fold_max_le, Finset.fold_max_le]
  have hl := fun l : Fin 128 => row_le G D x0 x1 i b hb xg xd hg hd p l r hr u 32 le_rfl
  have ht : k0_t1_loop.trips = 32 := trips_eq
  unfold ptRow
  rw [ht]
  simp only [hl, Finset.mem_univ, true_implies]
  refine and_congr Iff.rfl ⟨fun h col => ?_, fun h l => ⟨(h0 r 0).trans (h 0), fun k _ => ⟨h _, h _⟩⟩⟩
  by_cases hc : col.val % 256 < 128
  · have e := ((h ⟨col.val % 256, hc⟩).2 ⟨col.val / 256, by omega⟩ (by simp only; omega)).1
    rwa [show (⟨256 * (col.val / 256) + col.val % 256, by omega⟩ : Fin 8192) = col from Fin.ext (by simp only; omega)] at e
  · have e := ((h ⟨col.val % 256 - 128, by omega⟩).2 ⟨col.val / 256, by omega⟩ (by simp only; omega)).2
    rwa [show (⟨256 * (col.val / 256) + (128 + (col.val % 256 - 128)), by omega⟩ : Fin 8192) = col from Fin.ext (by simp only; omega)] at e

/-- The running column maxima after a point. -/
theorem ptCol_le (d e : Vec Ideal S8x8192 .f32) (h : PtCol i x0 x1 xg xd d e) (s : Fin 8) (col : Fin 8192) (u : EReal) (hi : (i 1).val < 56) :
    (e (ix2 s col) : EReal) ≤ u ↔ (d (ix2 s col) : EReal) ≤ u ∧ ∀ g : Fin 16, sec G D x0 x1 b ⟨128 * (i 1).val + (8 * g.val + s.val), by omega⟩ col ≤ u := by
  have hq : col.val = 256 * (tripOf (col.val / 256) (by omega)).val + (⟨col.val % 256, by omega⟩ : Fin 256).val := by
    show col.val = 256 * (col.val / 256) + col.val % 256
    omega
  have e1 := h (tripOf (col.val / 256) (by omega)) (ix2 s ⟨col.val % 256, by omega⟩) (ix2 s col) (by
    intro a; fin_cases a
    · show s.val = 0 + s.val
      omega
    · exact hq)
  rw [e1, colStep, pay8_le, ld_at d _ (off7_eq _) _ _ (ix2 s col) (by
    intro a; fin_cases a
    · show s.val = 0 + s.val
      omega
    · exact hq)]
  refine and_congr Iff.rfl (forall_congr' fun g => ?_)
  rw [← mom_at G D x0 x1 i b hb xg xd hg hd (tripOf (col.val / 256) (by omega)) ⟨8 * g.val + s.val, by omega⟩ ⟨col.val % 256, by omega⟩ ⟨128 * (i 1).val + (8 * g.val + s.val), by omega⟩ rfl col hq]
  exact Iff.rfl

end Cert.StatsIdeal.Hand

end
-- ==== Proof.Update.Ref.lean ====
/- The reference's arrays, each a function of the arguments, named where the proof reads them. -/
module

public import proofs.«01_k».proof.Proof.Gen.UpdateRefIdeal.Run

@[expose] public section

set_option maxRecDepth 16384

noncomputable section

namespace Cert.UpdateRefIdeal.Ref

open Cert.UpdateRefIdeal Cert.UpdateRefIdeal.Gen Idealize.ShloMosaic Idealize.ShloMosaic.TcCoe Idealize.SL.Sem Idealize.ShloMosaic.StableHlo

variable {F : FTy → Type} [FloatOps F]
variable (x0 x1 : FVec F S2x7168x8192 .bf16) (x2 : IVec S_ 32) (x3 x5 : IVec S2x7168x4096 8) (x4 : FVec F S2x56x8192 .f32)
  (x6 x8 : FVec F S2x7168 .f32) (x7 x9 : FVec F S2x8192 .f32)

/-- The codes, two to a byte, one to an element. -/
def unpack : IVec S2x7168x8192 32 :=
  shapeCast _ (concatenate S2x7168x4096x2 3 [⟨S2x7168x4096x1, (broadcastInDim S2x7168x4096x1 ![0, 1, 2] bcast_S2x7168x4096_S2x7168x4096x1_0_1_2 (andi (extui 32 x3 natLt_8_32) (broadcastInDim S2x7168x4096 ![] bcast_S_S2x7168x4096 (constantI S_ 32 15#32))))⟩, ⟨S2x7168x4096x1, (broadcastInDim S2x7168x4096x1 ![0, 1, 2] bcast_S2x7168x4096_S2x7168x4096x1_0_1_2 (Host.shrui (extui 32 x3 natLt_8_32) (broadcastInDim S2x7168x4096 ![] bcast_S_S2x7168x4096 (constantI S_ 32 4#32))))⟩] concatenates_S2x7168x4096x1_S2x7168x4096x1_S2x7168x4096x2_d3) shapeCasts_S2x7168x4096x2_S2x7168x8192

/-- The first moment. -/
def mNew : FVec F S2x7168x8192 .f32 :=
  addf (mulf (broadcastInDim S2x7168x8192 ![] bcast_S_S2x7168x8192 (Host.divf (constant S_ .f32 0x41100000#32) (constant S_ .f32 0x41200000#32))) (shapeCast _ (mulf (shapeCast _ (sitofp .f32 (select (cmpi .sge (unpack x3) (broadcastInDim S2x7168x8192 ![] bcast_S_S2x7168x8192 (constantI S_ 32 8#32))) (subi (unpack x3) (broadcastInDim S2x7168x8192 ![] bcast_S_S2x7168x8192 (constantI S_ 32 16#32))) (unpack x3))) shapeCasts_S2x7168x8192_S2x56x128x8192) (broadcastInDim S2x56x128x8192 ![0, 1, 2, 3] bcast_S2x56x1x8192_S2x56x128x8192_0_1_2_3 (broadcastInDim S2x56x1x8192 ![0, 1, 3] bcast_S2x56x8192_S2x56x1x8192_0_1_3 x4))) shapeCasts_S2x56x128x8192_S2x7168x8192)) (mulf (broadcastInDim S2x7168x8192 ![] bcast_S_S2x7168x8192 (subf (constant S_ .f32 0x3F800000#32) (Host.divf (constant S_ .f32 0x41100000#32) (constant S_ .f32 0x41200000#32)))) (extf .f32 x1 bitsLt_bf16_f32))

/-- The second moment. -/
def vNew : FVec F S2x7168x8192 .f32 :=
  addf (mulf (broadcastInDim S2x7168x8192 ![] bcast_S_S2x7168x8192 (Host.divf (constant S_ .f32 0x4479C000#32) (constant S_ .f32 0x447A0000#32))) (mulf (mulf (addf (sitofp .f32 (unpack x5)) (broadcastInDim S2x7168x8192 ![] bcast_S_S2x7168x8192 (constant S_ .f32 0x3F800000#32))) (broadcastInDim S2x7168x8192 ![] bcast_S_S2x7168x8192 (constant S_ .f32 0x3D800000#32))) (minimumf (broadcastInDim S2x7168x8192 ![0, 1, 2] bcast_S2x7168x1_S2x7168x8192_0_1_2 (broadcastInDim S2x7168x1 ![0, 1] bcast_S2x7168_S2x7168x1_0_1 x6)) (broadcastInDim S2x7168x8192 ![0, 1, 2] bcast_S2x1x8192_S2x7168x8192_0_1_2 (broadcastInDim S2x1x8192 ![0, 2] bcast_S2x8192_S2x1x8192_0_2 x7))))) (mulf (mulf (broadcastInDim S2x7168x8192 ![] bcast_S_S2x7168x8192 (subf (constant S_ .f32 0x3F800000#32) (Host.divf (constant S_ .f32 0x4479C000#32) (constant S_ .f32 0x447A0000#32)))) (extf .f32 x1 bitsLt_bf16_f32)) (extf .f32 x1 bitsLt_bf16_f32))

/-- The largest first moment of each group of 128 rows. -/
def mMax : FVec F S2x56x8192 .f32 :=
  Host.reduce FloatOps.maximumf (Host.absf (shapeCast _ (mNew x1 x3 x4) shapeCasts_S2x7168x8192_S2x56x128x8192)) (constant S_ .f32 0xFF800000#32) reducesTo_S2x56x128x8192_S2x56x8192_d2 h_S_

/-- The scale of a group whose largest entry is `A`'s. -/
def scaleOf (A : FVec F S2x56x8192 .f32) : FVec F S2x56x8192 .f32 :=
  select (cmpf .oeq A (broadcastInDim S2x56x8192 ![] bcast_S_S2x56x8192 (constant S_ .f32 0x00000000#32))) (broadcastInDim S2x56x8192 ![] bcast_S_S2x56x8192 (constant S_ .f32 0x3F800000#32)) (Host.divf A (broadcastInDim S2x56x8192 ![] bcast_S_S2x56x8192 (constant S_ .f32 0x40E00000#32)))

/-- The first moment's scale. -/
def mScale : FVec F S2x56x8192 .f32 := scaleOf (mMax x1 x3 x4)

/-- The codes of an array whose groups' largest entries are `A`'s. -/
def codeOf (M : FVec F S2x7168x8192 .f32) (A : FVec F S2x56x8192 .f32) : IVec S2x7168x8192 32 :=
  shapeCast _ (fptosi 32 (minimumf (broadcastInDim S2x56x128x8192 ![] bcast_S_S2x56x128x8192 (constant S_ .f32 0x40E00000#32)) (maximumf (broadcastInDim S2x56x128x8192 ![] bcast_S_S2x56x128x8192 (constant S_ .f32 0xC0E00000#32)) (Host.roundeven (Host.divf (shapeCast _ M shapeCasts_S2x7168x8192_S2x56x128x8192) (broadcastInDim S2x56x128x8192 ![0, 1, 2, 3] bcast_S2x56x1x8192_S2x56x128x8192_0_1_2_3 (broadcastInDim S2x56x1x8192 ![0, 1, 3] bcast_S2x56x8192_S2x56x1x8192_0_1_3 (scaleOf A)))))))) shapeCasts_S2x56x128x8192_S2x7168x8192

/-- The first moment's codes, one to an element. -/
def mCode : IVec S2x7168x8192 32 := codeOf (mNew x1 x3 x4) (mMax x1 x3 x4)

/-- The second moment's codes, one to an element. -/
def vCode : IVec S2x7168x8192 32 :=
  fptosi 32 (minimumf (broadcastInDim S2x7168x8192 ![] bcast_S_S2x7168x8192 (constant S_ .f32 0x41700000#32)) (maximumf (broadcastInDim S2x7168x8192 ![] bcast_S_S2x7168x8192 (constant S_ .f32 0x00000000#32)) (Host.roundeven (subf (Host.divf (mulf (broadcastInDim S2x7168x8192 ![] bcast_S_S2x7168x8192 (constant S_ .f32 0x41800000#32)) (vNew x1 x5 x6 x7)) (minimumf (broadcastInDim S2x7168x8192 ![0, 1, 2] bcast_S2x7168x1_S2x7168x8192_0_1_2 (broadcastInDim S2x7168x1 ![0, 1] bcast_S2x7168_S2x7168x1_0_1 x8)) (broadcastInDim S2x7168x8192 ![0, 1, 2] bcast_S2x1x8192_S2x7168x8192_0_1_2 (broadcastInDim S2x1x8192 ![0, 2] bcast_S2x8192_S2x1x8192_0_2 x9)))) (broadcastInDim S2x7168x8192 ![] bcast_S_S2x7168x8192 (constant S_ .f32 0x3F800000#32))))))

/-- The codes put together, two to a byte. -/
def pack (k : IVec S2x7168x8192 32) : IVec S2x7168x4096 8 :=
  trunci 8 (ori (shapeCast _ (extractStridedSlice S2x7168x4096x1 ![0, 0, 0, 0] (shapeCast _ (andi k (broadcastInDim S2x7168x8192 ![] bcast_S_S2x7168x8192 (constantI S_ 32 15#32))) shapeCasts_S2x7168x8192_S2x7168x4096x2) slices_S2x7168x4096x2_S2x7168x4096x1_0_0_0_0) shapeCasts_S2x7168x4096x1_S2x7168x4096) (Host.shli (shapeCast _ (extractStridedSlice S2x7168x4096x1 ![0, 0, 0, 1] (shapeCast _ (andi k (broadcastInDim S2x7168x8192 ![] bcast_S_S2x7168x8192 (constantI S_ 32 15#32))) shapeCasts_S2x7168x8192_S2x7168x4096x2) slices_S2x7168x4096x2_S2x7168x4096x1_0_0_0_1) shapeCasts_S2x7168x4096x1_S2x7168x4096) (broadcastInDim S2x7168x4096 ![] bcast_S_S2x7168x4096 (constantI S_ 32 4#32)))) natLt_8_32

/-- The weight step. -/
def dW : FVec F S2x7168x8192 .f32 :=
  mulf (broadcastInDim S2x7168x8192 ![] bcast_S_S2x7168x8192 (Host.divf (constant S_ .f32 0x40400000#32) (constant S_ .f32 0x461C4000#32))) (addf (Host.divf (Host.divf (mNew x1 x3 x4) (broadcastInDim S2x7168x8192 ![] bcast_S_S2x7168x8192 (subf (constant S_ .f32 0x3F800000#32) (Host.powf (constant S_ .f32 0x3F666666#32) (sitofp .f32 x2))))) (addf (Host.sqrt (Host.divf (vNew x1 x5 x6 x7) (broadcastInDim S2x7168x8192 ![] bcast_S_S2x7168x8192 (subf (constant S_ .f32 0x3F800000#32) (Host.powf (constant S_ .f32 0x3F7FBE77#32) (sitofp .f32 x2)))))) (broadcastInDim S2x7168x8192 ![] bcast_S_S2x7168x8192 (Host.divf (constant S_ .f32 0x3F800000#32) (constant S_ .f32 0x4CBEBC20#32))))) (mulf (broadcastInDim S2x7168x8192 ![] bcast_S_S2x7168x8192 (Host.divf (constant S_ .f32 0x3F800000#32) (constant S_ .f32 0x41200000#32))) (extf .f32 x0 bitsLt_bf16_f32)))

end Cert.UpdateRefIdeal.Ref

end
-- ==== Proof.Update.Reals.lean ====
/- The arithmetic of one element: the kernel's first moment is ten times the reference's and its second moment a
   thousand times, and with those the two weight steps, the two scales and the two codes are equal. -/
module

public import Idealize.ShloMosaic.Lib.IdealHost

@[expose] public section

noncomputable section

namespace Cert.Elem

open Idealize.ShloMosaic

theorem div_real (x : EReal) (y : ℝ) (hy : y ≠ 0) : Ideal.div x (y : EReal) = x * ((y⁻¹ : ℝ) : EReal) := by
  rw [Ideal.div, if_neg (by exact_mod_cast hy), EReal.coe_inv]

theorem div_coe (x y : ℝ) (hy : y ≠ 0) : Ideal.div (x : EReal) (y : EReal) = ((x / y : ℝ) : EReal) := by
  rw [div_real _ _ hy, ← EReal.coe_mul, div_eq_mul_inv]

theorem div_top (x : EReal) : Ideal.div x ⊤ = 0 := by
  rw [Ideal.div, if_neg (by decide), EReal.inv_top, mul_zero]

theorem real_mul_add (t : ℝ) (ht : 0 ≤ t) (x y : EReal) : (t : EReal) * (x + y) = t * x + t * y :=
  EReal.left_distrib_of_nonneg_of_ne_top (by exact_mod_cast ht) (EReal.coe_ne_top t) x y

theorem mul_mul_coe (a b c : ℝ) (x : EReal) : (a : EReal) * (b * (x * c)) = ((a * b * c : ℝ) : EReal) * x := by
  rw [EReal.coe_mul, EReal.coe_mul]; ac_rfl

theorem coe_mul_mul (a b : ℝ) (x : EReal) : (a : EReal) * (b * x) = ((a * b : ℝ) : EReal) * x := by
  rw [EReal.coe_mul]; ac_rfl

/-- The first moment. -/
theorem mom_eq (g ms : EReal) (s : ℝ) :
    ((9 / 10 : ℝ) : EReal) * ((s : EReal) * ms) + ((1 / 10 : ℝ) : EReal) * g
      = ((1 / 10 : ℝ) : EReal) * (g + ((16 * s : ℝ) : EReal) * (ms * ((9 / 16 : ℝ) : EReal))) := by
  have e : (9 / 10 : ℝ) * s = 1 / 10 * (16 * s) * (9 / 16) := by ring
  rw [real_mul_add _ (by norm_num), mul_mul_coe, coe_mul_mul, e, add_comm]

/-- The scaled maxima are not raised, and their minimum is the scaled minimum. -/
theorem norm_eq (R C T : EReal) (hT : 0 < T) (hR : T ≤ R) (hC : T ≤ C) :
    min (max (R * ((999 / 16 : ℝ) : EReal)) T) (max (C * ((999 / 16 : ℝ) : EReal)) T) = min R C * ((999 / 16 : ℝ) : EReal) := by
  have hnorm : ∀ x : EReal, T ≤ x → max (x * ((999 / 16 : ℝ) : EReal)) T = x * ((999 / 16 : ℝ) : EReal) := by
    intro x hx
    apply max_eq_left
    have h1 : x * ((1 : ℝ) : EReal) ≤ x * ((999 / 16 : ℝ) : EReal) :=
      mul_le_mul_of_nonneg_left (by exact_mod_cast (by norm_num : (1 : ℝ) ≤ 999 / 16)) (hT.le.trans hx)
    rw [EReal.coe_one, mul_one] at h1
    exact hx.trans h1
  have hmin : min (R * ((999 / 16 : ℝ) : EReal)) (C * ((999 / 16 : ℝ) : EReal)) = min R C * ((999 / 16 : ℝ) : EReal) := by
    have hmono : Monotone fun x : EReal => x * ((999 / 16 : ℝ) : EReal) := fun x y h =>
      mul_le_mul_of_nonneg_right h (by exact_mod_cast (by norm_num : (0 : ℝ) ≤ 999 / 16))
    exact (hmono.map_min).symm
  rw [hnorm R hR, hnorm C hC, hmin]

theorem sq_nonneg (g : EReal) : 0 ≤ g * g := by
  induction g with
  | bot => rw [EReal.bot_mul_bot]; exact le_top
  | top => rw [EReal.top_mul_top]; exact le_top
  | coe r => rw [← EReal.coe_mul]; exact_mod_cast mul_self_nonneg r

/-- The second moment. -/
theorem sec_eq (g R C T : EReal) (n : ℕ) (hT : 0 < T) (hR : T ≤ R) (hC : T ≤ C)
    (hfin : ((999 / 1000 : ℝ) : EReal) * ((((n + 1 : ℕ) * (1 / 16) : ℝ) : EReal) * min R C) + ((1 / 1000 : ℝ) : EReal) * g * g < ⊤) :
    ∃ v : ℝ, 0 < v ∧ ((999 / 1000 : ℝ) : EReal) * ((((n + 1 : ℕ) * (1 / 16) : ℝ) : EReal) * min R C) + ((1 / 1000 : ℝ) : EReal) * g * g = (v : EReal)
      ∧ g * g + (((n + 1 : ℕ) : ℝ) : EReal) * min (max (R * ((999 / 16 : ℝ) : EReal)) T) (max (C * ((999 / 16 : ℝ) : EReal)) T) = ((1000 * v : ℝ) : EReal) := by
  rw [norm_eq R C T hT hR hC]
  have hμ : 0 < min R C := lt_of_lt_of_le hT (le_min hR hC)
  generalize min R C = μ at hfin hμ ⊢
  have hn : (0 : ℝ) < (n + 1 : ℕ) * (1 / 16) := by positivity
  have hg2 : 0 ≤ ((1 / 1000 : ℝ) : EReal) * g * g := by
    rw [mul_assoc]
    exact mul_nonneg (by exact_mod_cast (by norm_num : (0 : ℝ) ≤ 1 / 1000)) (sq_nonneg g)
  have hgr : ∃ γ : ℝ, g = γ := by
    have hpos : ((999 / 1000 : ℝ) : EReal) * ((((n + 1 : ℕ) * (1 / 16) : ℝ) : EReal) * μ) ≠ ⊥ := by
      have : (0 : EReal) ≤ ((999 / 1000 : ℝ) : EReal) * ((((n + 1 : ℕ) * (1 / 16) : ℝ) : EReal) * μ) :=
        mul_nonneg (by exact_mod_cast (by norm_num : (0 : ℝ) ≤ 999 / 1000)) (mul_nonneg (by exact_mod_cast hn.le) hμ.le)
      exact fun h => absurd (h ▸ this) (by simp)
    induction g with
    | bot =>
      exfalso
      rw [mul_assoc, EReal.bot_mul_bot, EReal.coe_mul_top_of_pos (by norm_num), EReal.add_top_of_ne_bot hpos] at hfin
      exact lt_irrefl _ hfin
    | top =>
      exfalso
      rw [mul_assoc, EReal.top_mul_top, EReal.coe_mul_top_of_pos (by norm_num), EReal.add_top_of_ne_bot hpos] at hfin
      exact lt_irrefl _ hfin
    | coe r => exact ⟨r, rfl⟩
  obtain ⟨γ, rfl⟩ := hgr
  have hμr : ∃ u : ℝ, μ = u := by
    induction μ with
    | bot => exact absurd hμ (by simp)
    | top =>
      exfalso
      rw [EReal.coe_mul_top_of_pos hn, EReal.coe_mul_top_of_pos (by norm_num), EReal.top_add_of_ne_bot] at hfin
      · exact lt_irrefl _ hfin
      · exact fun h => absurd (h ▸ hg2) (by simp)
    | coe r => exact ⟨r, rfl⟩
  obtain ⟨u, rfl⟩ := hμr
  have hu : 0 < u := by exact_mod_cast hμ
  refine ⟨999 / 1000 * ((n + 1 : ℕ) * (1 / 16) * u) + 1 / 1000 * γ * γ, ?_, ?_, ?_⟩
  · have : 0 ≤ 1 / 1000 * γ * γ := by rw [mul_assoc]; exact mul_nonneg (by norm_num) (mul_self_nonneg γ)
    have : 0 < 999 / 1000 * (((n + 1 : ℕ) : ℝ) * (1 / 16) * u) := by positivity
    linarith
  · simp only [← EReal.coe_mul, ← EReal.coe_add]
  · simp only [← EReal.coe_mul, ← EReal.coe_add]
    congr 1
    ring

/-- The weight step. -/
theorem step_eq (M w : EReal) (v b1 b2 : ℝ) (hv : 0 < v) (h1 : 0 < b1) (h2 : 0 < b2) :
    Ideal.div M (((1000 * v : ℝ) : EReal) * Ideal.rsqrt ((1000 * v : ℝ) : EReal) * ((b1 * (100000 / 3) * Real.sqrt (1 / 1000 / b2) : ℝ) : EReal)
        + ((b1 * (100000 / 3) * (1 / 100000000) : ℝ) : EReal)) + w * ((3 / 100000 : ℝ) : EReal)
      = ((3 / 10000 : ℝ) : EReal) * (Ideal.div (Ideal.div (((1 / 10 : ℝ) : EReal) * M) (b1 : EReal)) (Ideal.sqrt (Ideal.div (v : EReal) (b2 : EReal)) + ((1 / 100000000 : ℝ) : EReal))
          + ((1 / 10 : ℝ) : EReal) * w) := by
  have hV : 0 < 1000 * v := by positivity
  have hrs : Ideal.rsqrt ((1000 * v : ℝ) : EReal) = (((Real.sqrt (1000 * v))⁻¹ : ℝ) : EReal) := by
    show (if 1000 * v < 0 then (⊥ : EReal) else if 1000 * v = 0 then ⊤ else (((Real.sqrt (1000 * v))⁻¹ : ℝ) : EReal)) = _
    rw [if_neg (not_lt.2 hV.le), if_neg hV.ne']
  have hsq : Ideal.sqrt ((v / b2 : ℝ) : EReal) = ((Real.sqrt (v / b2) : ℝ) : EReal) := by
    show (if v / b2 < 0 then (⊥ : EReal) else ((Real.sqrt (v / b2) : ℝ) : EReal)) = _
    rw [if_neg (not_lt.2 (by positivity))]
  have hx : 1000 * v * (Real.sqrt (1000 * v))⁻¹ = Real.sqrt (1000 * v) := by
    rw [← div_eq_mul_inv, Real.div_sqrt]
  have hk : Real.sqrt (1000 * v) * Real.sqrt (1 / 1000 / b2) = Real.sqrt (v / b2) := by
    rw [← Real.sqrt_mul hV.le]
    congr 1
    field_simp
  have hE : 0 < Real.sqrt (v / b2) + 1 / 100000000 := by positivity
  have hD : (1000 * v * (Real.sqrt (1000 * v))⁻¹ * (b1 * (100000 / 3) * Real.sqrt (1 / 1000 / b2)) + b1 * (100000 / 3) * (1 / 100000000))
      = b1 * (100000 / 3) * (Real.sqrt (v / b2) + 1 / 100000000) := by
    rw [hx, ← hk]; ring
  rw [hrs, div_coe _ _ h2.ne', hsq]
  simp only [← EReal.coe_mul, ← EReal.coe_add]
  rw [hD, div_real _ _ (by positivity), div_real _ _ h1.ne', div_real _ _ hE.ne', real_mul_add _ (by norm_num), coe_mul_mul]
  have e : ((3 / 10000 : ℝ) : EReal) * (((1 / 10 : ℝ) : EReal) * M * ((b1⁻¹ : ℝ) : EReal) * (((Real.sqrt (v / b2) + 1 / 100000000)⁻¹ : ℝ) : EReal))
      = M * (((3 / 10000) * (1 / 10) * b1⁻¹ * (Real.sqrt (v / b2) + 1 / 100000000)⁻¹ : ℝ) : EReal) := by
    simp only [EReal.coe_mul]; ac_rfl
  rw [e, mul_comm w]
  congr 4
  · rw [mul_inv, mul_inv]; ring
  · norm_num

theorem tenth_eq_zero (a : EReal) : ((1 / 10 : ℝ) : EReal) * a = 0 ↔ a = 0 := by
  rw [mul_eq_zero]
  constructor
  · rintro (h | h)
    · exfalso; have : (1 / 10 : ℝ) = 0 := by exact_mod_cast h
      norm_num at this
    · exact h
  · exact Or.inr

/-- The scale. -/
theorem scale_eq (a : EReal) :
    (if a = 0 then (1 : EReal) else a * ((1 / 70 : ℝ) : EReal))
      = if ((1 / 10 : ℝ) : EReal) * a = 0 then (1 : EReal) else Ideal.div (((1 / 10 : ℝ) : EReal) * a) ((7 : ℝ) : EReal) := by
  by_cases h : a = 0
  · rw [if_pos h, if_pos ((tenth_eq_zero a).2 h)]
  · rw [if_neg h, if_neg (fun h' => h ((tenth_eq_zero a).1 h')), div_real _ _ (by norm_num), mul_comm _ a, mul_assoc, ← EReal.coe_mul]
    congr 2
    norm_num

/-- The largest absolute value. -/
theorem max_eq {n : ℕ} (M : Fin n → EReal) :
    Finset.fold max (⊥ : EReal) (fun x => max (((1 / 10 : ℝ) : EReal) * M x) (-(((1 / 10 : ℝ) : EReal) * M x))) Finset.univ
      = ((1 / 10 : ℝ) : EReal) * Finset.fold max (⊥ : EReal) (fun x => max (M x) (-(M x))) Finset.univ := by
  have hmono : Monotone fun x : EReal => ((1 / 10 : ℝ) : EReal) * x := fun x y h =>
    mul_le_mul_of_nonneg_left h (by exact_mod_cast (by norm_num : (0 : ℝ) ≤ 1 / 10))
  have h := Finset.fold_hom (op := max) (op' := max) (s := (Finset.univ : Finset (Fin n))) (f := fun x => max (M x) (-(M x))) (b := (⊥ : EReal))
    (m := fun x : EReal => ((1 / 10 : ℝ) : EReal) * x) (fun x y => hmono.map_max)
  have hb : ((1 / 10 : ℝ) : EReal) * ⊥ = ⊥ := EReal.coe_mul_bot_of_pos (by norm_num)
  refine Eq.trans ?_ h
  simp only [hb]
  congr 1
  funext x
  have h2 := hmono.map_max (a := M x) (b := -(M x))
  simp only [mul_neg] at h2
  exact h2.symm

theorem le_max {n : ℕ} (M : Fin n → EReal) (x : Fin n) :
    max (M x) (-(M x)) ≤ Finset.fold max (⊥ : EReal) (fun x => max (M x) (-(M x))) Finset.univ :=
  Finset.le_fold_max _ |>.2 (Or.inr ⟨x, Finset.mem_univ x, le_rfl⟩)

end Cert.Elem

end
-- ==== Proof.Update.RefRead.lean ====
/- The reference's arrays read at an element. -/
module

public import proofs.«01_k».proof.Proof.Update.Ref
public import proofs.«01_k».proof.Proof.Update.Words
public import proofs.«01_k».proof.Proof.Update.Reals
public import Idealize.ShloMosaic.Lib.Pointwise

@[expose] public section

set_option maxRecDepth 16384

noncomputable section

namespace Cert.UpdateRefIdeal.Ref

open Cert.UpdateRefIdeal Cert.UpdateRefIdeal.Gen Idealize.ShloMosaic
open Cert.Nibble Cert.Elem

variable (x0 x1 : FVec Ideal S2x7168x8192 .bf16) (x2 : IVec S_ 32) (x3 x5 : IVec S2x7168x4096 8) (x4 : FVec Ideal S2x56x8192 .f32)
  (x6 x8 : FVec Ideal S2x7168 .f32) (x7 x9 : FVec Ideal S2x8192 .f32)

/-! ## The constants -/

theorem c9 : Ideal.ofBits .f32 1091567616#32 = ((9 : ℝ) : EReal) := by simp [Ideal.ofBits, Ideal.ieee, -EReal.coe_mul]; norm_num
theorem c10 : Ideal.ofBits .f32 1092616192#32 = ((10 : ℝ) : EReal) := by simp [Ideal.ofBits, Ideal.ieee, -EReal.coe_mul]; norm_num
theorem c999 : Ideal.ofBits .f32 1148829696#32 = ((999 : ℝ) : EReal) := by simp [Ideal.ofBits, Ideal.ieee, -EReal.coe_mul]; norm_num
theorem c1000 : Ideal.ofBits .f32 1148846080#32 = ((1000 : ℝ) : EReal) := by simp [Ideal.ofBits, Ideal.ieee, -EReal.coe_mul]; norm_num
theorem csixteenth : Ideal.ofBits .f32 1031798784#32 = ((1 / 16 : ℝ) : EReal) := by simp [Ideal.ofBits, Ideal.ieee, -EReal.coe_mul]; norm_num
theorem cneg : Ideal.ofBits .f32 4286578688#32 = ⊥ := by simp [Ideal.ofBits, Ideal.ieee, -EReal.coe_mul]
theorem c7 : Ideal.ofBits .f32 1088421888#32 = ((7 : ℝ) : EReal) := by simp [Ideal.ofBits, Ideal.ieee, -EReal.coe_mul]; norm_num
theorem cneg7 : Ideal.ofBits .f32 3235905536#32 = ((-7 : ℝ) : EReal) := by simp [Ideal.ofBits, Ideal.ieee, -EReal.coe_mul]; norm_num
theorem c15 : Ideal.ofBits .f32 1097859072#32 = ((15 : ℝ) : EReal) := by simp [Ideal.ofBits, Ideal.ieee, -EReal.coe_mul]; norm_num
theorem c16 : Ideal.ofBits .f32 1098907648#32 = ((16 : ℝ) : EReal) := by simp [Ideal.ofBits, Ideal.ieee, -EReal.coe_mul]; norm_num
theorem c3 : Ideal.ofBits .f32 1077936128#32 = ((3 : ℝ) : EReal) := by simp [Ideal.ofBits, Ideal.ieee, -EReal.coe_mul]; norm_num
theorem c10000 : Ideal.ofBits .f32 1176256512#32 = ((10000 : ℝ) : EReal) := by simp [Ideal.ofBits, Ideal.ieee, -EReal.coe_mul]; norm_num
theorem c1e8 : Ideal.ofBits .f32 1287568416#32 = ((100000000 : ℝ) : EReal) := by simp [Ideal.ofBits, Ideal.ieee, -EReal.coe_mul]; norm_num

theorem one_sub_coe (x : ℝ) : (1 : EReal) - (x : EReal) = ((1 - x : ℝ) : EReal) := by rw [← EReal.coe_one, ← EReal.coe_sub]

theorem one_div_coe (y : ℝ) (hy : y ≠ 0) : Ideal.div 1 (y : EReal) = ((1 / y : ℝ) : EReal) := by rw [← EReal.coe_one, div_coe _ _ hy]

theorem via {α : Type} {a b : α} (h : ∀ z, b = z → a = z) : a = b := h b rfl

/-! ## The codes -/

theorem unpack_word : ∀ n : Fin 256, IntOp.andi (BitVec.setWidth 32 (BitVec.ofNat 8 n.val)) 15#32 = BitVec.ofNat 32 (nib (BitVec.ofNat 8 n.val) 0)
    ∧ IntOp.shrui ArithUnit.host (BitVec.setWidth 32 (BitVec.ofNat 8 n.val)) 4#32 = BitVec.ofNat 32 (nib (BitVec.ofNat 8 n.val) 1) := by decide

theorem unpack_lo (w : BitVec 8) : IntOp.andi (BitVec.setWidth 32 w) 15#32 = BitVec.ofNat 32 (nib w 0) := by
  have hw := (unpack_word ⟨w.toNat, w.isLt⟩).1
  simp only [BitVec.ofNat_toNat, BitVec.setWidth_eq] at hw
  exact hw

theorem unpack_hi (w : BitVec 8) : IntOp.shrui ArithUnit.host (BitVec.setWidth 32 w) 4#32 = BitVec.ofNat 32 (nib w 1) := by
  have hw := (unpack_word ⟨w.toNat, w.isLt⟩).2
  simp only [BitVec.ofNat_toNat, BitVec.setWidth_eq] at hw
  exact hw

theorem unpack_apply (b : Fin 2) (r : Fin 7168) (c : Fin 8192) (a : Fin 4096) (ha : a.val = c.val / 2) :
    unpack x3 (ix3 b r c) = BitVec.ofNat 32 (nib (x3 (ix3 b r a)) c.val) := by
  obtain rfl : a = ⟨c.val / 2, by clear ha; omega⟩ := Fin.ext ha
  refine via fun z hz => ?_
  pointwise [unpack]
  rw [← hz]
  by_cases h : c.val % 2 < 1
  · have h0 : c.val % 2 = 0 := by omega
    rw [dif_pos h]
    refine (unpack_lo _).trans ?_
    unfold nib; rw [if_pos rfl, if_pos h0]
  · have h0 : ¬ c.val % 2 = 0 := by omega
    rw [dif_neg h]
    refine (unpack_hi _).trans ?_
    unfold nib; rw [if_neg (by decide), if_neg h0]

theorem sgn_word : ∀ n : Fin 16, (Scalar.select (IntOp.cmpi .sge (BitVec.ofNat 32 n.val) 8#32) (IntOp.subi (BitVec.ofNat 32 n.val) 16#32) (BitVec.ofNat 32 n.val) : BitVec 32).toInt
    = sgn n.val := by decide

theorem nat_word : ∀ n : Fin 16, (BitVec.ofNat 32 n.val).toInt = (n.val : ℤ) := by decide

/-! ## The moments -/

theorem mNew_apply (b : Fin 2) (r : Fin 7168) (c : Fin 8192) (a : Fin 4096) (ha : a.val = c.val / 2) (i : Fin 56) (hi : i.val = r.val / 128) :
    mNew x1 x3 x4 (ix3 b r c) = (((9 / 10 : ℝ) : EReal) * (((sgn (nib (x3 (ix3 b r a)) c.val) : ℝ) : EReal) * x4 (ix3 b i c))
      + ((1 / 10 : ℝ) : EReal) * x1 (ix3 b r c) : EReal) := by
  refine via fun z hz => ?_
  pointwise [mNew]
  rw [c9, c10, div_coe _ _ (by norm_num), one_sub_coe, unpack_apply x3 b r c a ha, show (⟨r.val / 128, by omega⟩ : Fin 56) = i from Fin.ext hi.symm,
    show (1 - 9 / 10 : ℝ) = 1 / 10 by norm_num]
  have hs := sgn_word ⟨nib (x3 (ix3 b r a)) c.val, nib_lt _ _⟩
  simp only at hs
  rw [← hs] at hz
  exact hz

theorem vNew_apply (b : Fin 2) (r : Fin 7168) (c : Fin 8192) (a : Fin 4096) (ha : a.val = c.val / 2) :
    vNew x1 x5 x6 x7 (ix3 b r c) = (((999 / 1000 : ℝ) : EReal) * ((((nib (x5 (ix3 b r a)) c.val + 1 : ℕ) * (1 / 16) : ℝ) : EReal) * min (x6 (ix2 b r)) (x7 (ix2 b c)))
      + ((1 / 1000 : ℝ) : EReal) * x1 (ix3 b r c) * x1 (ix3 b r c) : EReal) := by
  refine via fun z hz => ?_
  pointwise [vNew]
  rw [c999, c1000, csixteenth, div_coe _ _ (by norm_num), one_sub_coe, unpack_apply x5 b r c a ha, show (1 - 999 / 1000 : ℝ) = 1 / 1000 by norm_num]
  have e : (FloatOps.sitofp .f32 (BitVec.ofNat 32 (nib (x5 (ix3 b r a)) c.val)) : Ideal .f32) = (((nib (x5 (ix3 b r a)) c.val : ℕ) : ℝ) : EReal) := by
    show ((((BitVec.ofNat 32 (nib (x5 (ix3 b r a)) c.val)).toInt : ℤ) : ℝ) : EReal) = _
    rw [nat_word ⟨nib (x5 (ix3 b r a)) c.val, nib_lt _ _⟩, Int.cast_natCast]
  rw [e]
  have e2 : ((((nib (x5 (ix3 b r a)) c.val : ℕ) : ℝ) : EReal) + 1) * ((1 / 16 : ℝ) : EReal) = (((nib (x5 (ix3 b r a)) c.val + 1 : ℕ) * (1 / 16) : ℝ) : EReal) := by
    rw [← EReal.coe_one, ← EReal.coe_add, ← EReal.coe_mul]; push_cast; rfl
  rw [e2]
  exact hz

theorem mMax_apply (b : Fin 2) (i : Fin 56) (c : Fin 8192) :
    mMax x1 x3 x4 (ix3 b i c) = Finset.fold max (⊥ : EReal)
      (fun x : Fin 128 => max (mNew x1 x3 x4 (ix3 b ⟨i.val * 128 + x.val, by omega⟩ c) : EReal) (-(mNew x1 x3 x4 (ix3 b ⟨i.val * 128 + x.val, by omega⟩ c)))) Finset.univ := by
  refine via fun z hz => ?_
  pointwise [mMax]
  rw [cneg]
  exact hz

theorem scaleOf_apply (A : FVec Ideal S2x56x8192 .f32) (b : Fin 2) (i : Fin 56) (c : Fin 8192) :
    scaleOf A (ix3 b i c) = (if (A (ix3 b i c) : EReal) = 0 then (1 : EReal) else Ideal.div (A (ix3 b i c)) ((7 : ℝ) : EReal) : EReal) := by
  refine via fun z hz => ?_
  pointwise [scaleOf]
  rw [c7]
  exact hz

theorem codeOf_apply (M : FVec Ideal S2x7168x8192 .f32) (A : FVec Ideal S2x56x8192 .f32) (b : Fin 2) (r : Fin 7168) (c : Fin 8192) (i : Fin 56) (hi : i.val = r.val / 128) :
    codeOf M A (ix3 b r c) = Ideal.fptosi 32 (min ((7 : ℝ) : EReal) (max ((-7 : ℝ) : EReal) (Ideal.liftRound Ideal.roundHalfEven (Ideal.div (M (ix3 b r c)) (scaleOf A (ix3 b i c)))))) := by
  obtain rfl : i = ⟨r.val / 128, by clear hi; omega⟩ := Fin.ext hi
  refine via fun z hz => ?_
  pointwise [codeOf]
  rw [c7, cneg7]
  exact hz

theorem mScale_apply (b : Fin 2) (i : Fin 56) (c : Fin 8192) :
    mScale x1 x3 x4 (ix3 b i c) = (if (mMax x1 x3 x4 (ix3 b i c) : EReal) = 0 then (1 : EReal) else Ideal.div (mMax x1 x3 x4 (ix3 b i c)) ((7 : ℝ) : EReal) : EReal) := by
  exact scaleOf_apply (mMax x1 x3 x4) b i c

theorem mCode_apply (b : Fin 2) (r : Fin 7168) (c : Fin 8192) (i : Fin 56) (hi : i.val = r.val / 128) :
    mCode x1 x3 x4 (ix3 b r c) = Ideal.fptosi 32 (min ((7 : ℝ) : EReal) (max ((-7 : ℝ) : EReal) (Ideal.liftRound Ideal.roundHalfEven (Ideal.div (mNew x1 x3 x4 (ix3 b r c)) (mScale x1 x3 x4 (ix3 b i c)))))) := by
  exact codeOf_apply (mNew x1 x3 x4) (mMax x1 x3 x4) b r c i hi

theorem vCode_apply (b : Fin 2) (r : Fin 7168) (c : Fin 8192) :
    vCode x1 x5 x6 x8 x7 x9 (ix3 b r c) = Ideal.fptosi 32 (min ((15 : ℝ) : EReal) (max (0 : EReal) (Ideal.liftRound Ideal.roundHalfEven
      (Ideal.div (((16 : ℝ) : EReal) * vNew x1 x5 x6 x7 (ix3 b r c)) (min (x8 (ix2 b r)) (x9 (ix2 b c))) - 1)))) := by
  refine via fun z hz => ?_
  pointwise [vCode]
  rw [c15, c16]
  exact hz

theorem pack_apply (k : IVec S2x7168x8192 32) (b : Fin 2) (r : Fin 7168) (n : Fin 4096) (e o : Fin 8192) (he : e.val = 2 * n.val) (ho : o.val = 2 * n.val + 1) :
    pack k (ix3 b r n) = BitVec.setWidth 8 (IntOp.ori (IntOp.andi (k (ix3 b r e)) 15#32) (IntOp.shli .host (IntOp.andi (k (ix3 b r o)) 15#32) 4#32)) := by
  refine via fun z hz => ?_
  pointwise [pack]
  rw [show (⟨n.val * 2, by omega⟩ : Fin 8192) = e from Fin.ext (by simp only; omega), show (⟨n.val * 2 + 1, by omega⟩ : Fin 8192) = o from Fin.ext (by simp only; omega)]
  exact hz

/-- One less the decay raised to the step number. -/
def bc (β : BitVec 32) : EReal := 1 - Ideal.pow (Ideal.ofBits .f32 β) (FloatOps.sitofp .f32 (x2 ix0) : Ideal .f32)

theorem dW_apply (b : Fin 2) (r : Fin 7168) (c : Fin 8192) :
    dW x0 x1 x2 x3 x5 x4 x6 x7 (ix3 b r c) = (((3 / 10000 : ℝ) : EReal) * (Ideal.div (Ideal.div (mNew x1 x3 x4 (ix3 b r c)) (bc x2 0x3F666666#32))
      (Ideal.sqrt (Ideal.div (vNew x1 x5 x6 x7 (ix3 b r c)) (bc x2 0x3F7FBE77#32)) + ((1 / 100000000 : ℝ) : EReal)) + ((1 / 10 : ℝ) : EReal) * x0 (ix3 b r c)) : EReal) := by
  refine via fun z hz => ?_
  pointwise [dW]
  rw [c3, c10000, c1e8, c10, div_coe _ _ (by norm_num), one_div_coe _ (by norm_num), one_div_coe _ (by norm_num)]
  exact hz

end Cert.UpdateRefIdeal.Ref

end
-- ==== Proof.Update.Codes.lean ====
/- The codes of one element: the whole number nearest the scaled moment, in the reference's clipping and in the kernel's
   bit patterns; and two codes put together into a byte. -/
module

public import proofs.«01_k».proof.Proof.Update.Reals

@[expose] public section

noncomputable section

namespace Cert.Elem

open Idealize.ShloMosaic

theorem round_le (r : ℝ) (n : ℤ) (h : r ≤ n) : Ideal.roundHalfEven r ≤ n := by
  have hf : ⌊r⌋ ≤ n := by have := (Int.floor_le r).trans h; exact_mod_cast this
  unfold Ideal.roundHalfEven
  rcases lt_or_eq_of_le hf with hlt | heq
  · simp only
    split_ifs <;> omega
  · have h0 : r - (⌊r⌋ : ℝ) < 1 / 2 := by rw [heq]; linarith
    simp only [if_pos h0]
    omega

theorem le_round (r : ℝ) (n : ℤ) (h : (n : ℝ) ≤ r) : n ≤ Ideal.roundHalfEven r := by
  have hf : n ≤ ⌊r⌋ := Int.le_floor.2 h
  unfold Ideal.roundHalfEven
  simp only
  split_ifs <;> omega

theorem fptosi_int (z : ℤ) (h1 : -2147483648 ≤ z) (h2 : z ≤ 2147483647) : Ideal.fptosi 32 (((z : ℝ)) : EReal) = BitVec.ofInt 32 z := by
  unfold Ideal.fptosi
  congr 1
  show max (-((2 ^ 31 : ℕ) : ℤ)) (min (((2 ^ 31 : ℕ) : ℤ) - 1) (if (0 : ℝ) ≤ (z : ℝ) then ⌊(z : ℝ)⌋ else ⌈(z : ℝ)⌉)) = z
  rw [Int.floor_intCast, Int.ceil_intCast, ite_self]
  norm_num
  omega

theorem round_coe (r : ℝ) : Ideal.liftRound Ideal.roundHalfEven (r : EReal) = (((Ideal.roundHalfEven r : ℤ) : ℝ) : EReal) := rfl

theorem min_max_coe (lo hi r : ℝ) : min (hi : EReal) (max (lo : EReal) (r : EReal)) = ((min hi (max lo r) : ℝ) : EReal) := by
  rw [EReal.coe_strictMono.monotone.map_min, EReal.coe_strictMono.monotone.map_max]

theorem round_clip (z : ℝ) (h1 : -7 ≤ z) (h2 : z ≤ 7) :
    -7 ≤ Ideal.roundHalfEven z ∧ Ideal.roundHalfEven z ≤ 7 :=
  ⟨le_round z (-7) (by push_cast; exact h1), round_le z 7 (by push_cast; exact h2)⟩

/-- The first moment's code. -/
theorem mcode_eq (M a : EReal) (h : max M (-M) ≤ a) :
    ∃ k : ℤ, -7 ≤ k ∧ k ≤ 7
      ∧ Ideal.fptosi 32 (Ideal.liftRound Ideal.roundHalfEven (min ((7 : ℝ) : EReal) (max ((-7 : ℝ) : EReal) (M * if a = 0 then (1 : EReal) else Ideal.div ((7 : ℝ) : EReal) a)))) = BitVec.ofInt 32 k
      ∧ Ideal.fptosi 32 (min ((7 : ℝ) : EReal) (max ((-7 : ℝ) : EReal) (Ideal.liftRound Ideal.roundHalfEven (Ideal.div (((1 / 10 : ℝ) : EReal) * M)
          (if ((1 / 10 : ℝ) : EReal) * a = 0 then (1 : EReal) else Ideal.div (((1 / 10 : ℝ) : EReal) * a) ((7 : ℝ) : EReal)))))) = BitVec.ofInt 32 k := by
  -- it is enough that both read the same number between -7 and 7
  have key : ∀ (x y : EReal) (z : ℝ), x = z → y = z → -7 ≤ z → z ≤ 7 →
      ∃ k : ℤ, -7 ≤ k ∧ k ≤ 7
        ∧ Ideal.fptosi 32 (Ideal.liftRound Ideal.roundHalfEven (min ((7 : ℝ) : EReal) (max ((-7 : ℝ) : EReal) x))) = BitVec.ofInt 32 k
        ∧ Ideal.fptosi 32 (min ((7 : ℝ) : EReal) (max ((-7 : ℝ) : EReal) (Ideal.liftRound Ideal.roundHalfEven y))) = BitVec.ofInt 32 k := by
    intro x y z hx hy h1 h2
    obtain ⟨k1, k2⟩ := round_clip z h1 h2
    refine ⟨Ideal.roundHalfEven z, k1, k2, ?_, ?_⟩
    · rw [hx, min_max_coe, max_eq_right h1, min_eq_right h2, round_coe, fptosi_int _ (by omega) (by omega)]
    · have k1' : (-7 : ℝ) ≤ (Ideal.roundHalfEven z : ℤ) := by exact_mod_cast k1
      have k2' : ((Ideal.roundHalfEven z : ℤ) : ℝ) ≤ 7 := by exact_mod_cast k2
      rw [hy, round_coe, min_max_coe, max_eq_right k1', min_eq_right k2', fptosi_int _ (by omega) (by omega)]
  have hM1 : M ≤ a := (le_max_left _ _).trans h
  have hM2 : -M ≤ a := (le_max_right _ _).trans h
  induction a with
  | bot =>
    rw [le_bot_iff] at hM1 hM2
    rw [hM1, EReal.neg_bot] at hM2
    exact absurd hM2 (by simp)
  | top =>
    refine key _ _ 0 ?_ ?_ (by norm_num) (by norm_num)
    · rw [if_neg (by simp), div_top, mul_zero, EReal.coe_zero]
    · rw [EReal.coe_mul_top_of_pos (by norm_num), if_neg (by simp), div_real ⊤ 7 (by norm_num), EReal.top_mul_coe_of_pos (by norm_num), div_top, EReal.coe_zero]
  | coe α =>
    induction M with
    | bot => rw [EReal.neg_bot] at hM2; exact absurd (top_le_iff.1 hM2) (EReal.coe_ne_top α)
    | top => exact absurd (top_le_iff.1 hM1) (EReal.coe_ne_top α)
    | coe μ =>
      have h1 : μ ≤ α := by exact_mod_cast hM1
      have h2 : -μ ≤ α := by exact_mod_cast hM2
      by_cases hα : α = 0
      · subst hα
        have hμ : μ = 0 := by linarith
        subst hμ
        refine key _ _ 0 ?_ ?_ (by norm_num) (by norm_num)
        · rw [EReal.coe_zero, zero_mul]
        · rw [EReal.coe_zero, mul_zero, if_pos rfl, ← EReal.coe_one, ← EReal.coe_zero, div_coe _ _ one_ne_zero, zero_div]
      · have hα' : 0 < α := lt_of_le_of_ne (by linarith) (Ne.symm hα)
        have hne : ((α : ℝ) : EReal) ≠ 0 := by exact_mod_cast hα
        have hne' : ((1 / 10 : ℝ) : EReal) * (α : EReal) ≠ 0 := fun h => hne ((tenth_eq_zero _).1 h)
        refine key _ _ (μ * (7 / α)) ?_ ?_ ?_ ?_
        · rw [if_neg hne, div_coe _ _ hα, ← EReal.coe_mul]
        · rw [if_neg hne', ← EReal.coe_mul, ← EReal.coe_mul, div_coe _ _ (by norm_num), div_coe _ _ (by positivity)]
          congr 1
          field_simp
        · rw [mul_div_assoc', le_div_iff₀ hα']; linarith
        · rw [mul_div_assoc', div_le_iff₀ hα']; linarith

/-- A whole number between -7 and 7, as the bit pattern the kernel makes of it. -/
theorem mbits (k : ℤ) (h1 : -7 ≤ k) (h2 : k ≤ 7) :
    Ideal.ofBits .bf16 (BitVec.setWidth 16 (BitVec.ofInt 32 k + 1258308360#32)) = ((136 + k : ℝ) : EReal) := by
  interval_cases k <;> simp [Ideal.ofBits, Ideal.ieee, -EReal.coe_mul, -EReal.coe_add, -EReal.coe_neg] <;> (try congr 1) <;> norm_num

/-- A whole number between -1 and 15, as the bit pattern the kernel makes of it. -/
theorem vbits (k : ℤ) (h1 : -1 ≤ k) (h2 : k ≤ 15) :
    min ((143 : ℝ) : EReal) (max ((128 : ℝ) : EReal) (Ideal.ofBits .bf16 (BitVec.setWidth 16 (BitVec.ofInt 32 k + 1258308352#32))))
      = ((128 + (max 0 k : ℤ) : ℝ) : EReal) := by
  have key : ∀ r : ℝ, (r = 128 + k ∧ 0 ≤ k) ∨ (r = 255 / 2 ∧ k = -1) →
      min ((143 : ℝ) : EReal) (max ((128 : ℝ) : EReal) (r : EReal)) = ((128 + (max 0 k : ℤ) : ℝ) : EReal) := by
    intro r hr
    rw [min_max_coe]
    congr 1
    have h2' : (k : ℝ) ≤ 15 := by exact_mod_cast h2
    rcases hr with ⟨rfl, h0⟩ | ⟨rfl, rfl⟩
    · have h0' : (0 : ℝ) ≤ k := by exact_mod_cast h0
      rw [max_eq_right h0, max_eq_right (by linarith), min_eq_right (by linarith)]
    · norm_num
  by_cases hk : k = -1
  · subst hk
    rw [show Ideal.ofBits .bf16 (BitVec.setWidth 16 (BitVec.ofInt 32 (-1) + 1258308352#32)) = ((255 / 2 : ℝ) : EReal) by
      simp [Ideal.ofBits, Ideal.ieee, -EReal.coe_mul] ; norm_num]
    exact key _ (Or.inr ⟨rfl, rfl⟩)
  · have h0 : 0 ≤ k := by omega
    rw [show Ideal.ofBits .bf16 (BitVec.setWidth 16 (BitVec.ofInt 32 k + 1258308352#32)) = ((128 + k : ℝ) : EReal) by
      clear key hk
      interval_cases k <;> simp [Ideal.ofBits, Ideal.ieee, -EReal.coe_mul, -EReal.coe_add, -EReal.coe_neg] <;> (try congr 1) <;> norm_num]
    exact key _ (Or.inl ⟨rfl, h0⟩)

/-- The second moment's code. -/
theorem vcode_eq (R C : EReal) (v : ℝ) (hv : 0 < v) (hR : (v : EReal) ≤ R) (hC : (v : EReal) ≤ C) :
    ∃ k : ℤ, 0 ≤ k ∧ k ≤ 15
      ∧ min ((143 : ℝ) : EReal) (max ((128 : ℝ) : EReal) (Ideal.ofBits .bf16 (BitVec.setWidth 16 (Ideal.fptosi 32 (Ideal.liftRound Ideal.roundHalfEven
          (((1000 * v : ℝ) : EReal) * max (if R = 0 then (0 : EReal) else Ideal.div ((2 / 125 : ℝ) : EReal) R) (if C = 0 then (0 : EReal) else Ideal.div ((2 / 125 : ℝ) : EReal) C) - 1)) + 1258308352#32))))
        = ((128 + k : ℝ) : EReal)
      ∧ Ideal.fptosi 32 (min ((15 : ℝ) : EReal) (max (0 : EReal) (Ideal.liftRound Ideal.roundHalfEven (Ideal.div (((16 : ℝ) : EReal) * (v : EReal)) (min R C) - 1)))) = BitVec.ofInt 32 k := by
  have key : ∀ (x y : EReal) (z : ℝ), x = z → y = z → -1 ≤ z → z ≤ 15 →
      ∃ k : ℤ, 0 ≤ k ∧ k ≤ 15
        ∧ min ((143 : ℝ) : EReal) (max ((128 : ℝ) : EReal) (Ideal.ofBits .bf16 (BitVec.setWidth 16 (Ideal.fptosi 32 (Ideal.liftRound Ideal.roundHalfEven x) + 1258308352#32))))
          = ((128 + k : ℝ) : EReal)
        ∧ Ideal.fptosi 32 (min ((15 : ℝ) : EReal) (max (0 : EReal) (Ideal.liftRound Ideal.roundHalfEven y))) = BitVec.ofInt 32 k := by
    intro x y z hx hy h1 h2
    have k1 : -1 ≤ Ideal.roundHalfEven z := le_round z (-1) (by push_cast; exact h1)
    have k2 : Ideal.roundHalfEven z ≤ 15 := round_le z 15 (by push_cast; exact h2)
    refine ⟨max 0 (Ideal.roundHalfEven z), by omega, by omega, ?_, ?_⟩
    · rw [hx, round_coe, fptosi_int _ (by omega) (by omega), vbits _ k1 k2]
    · have k2' : ((Ideal.roundHalfEven z : ℤ) : ℝ) ≤ 15 := by exact_mod_cast k2
      rw [hy, round_coe, ← EReal.coe_zero, min_max_coe, min_eq_right (max_le (by norm_num) k2'), ← Int.cast_zero, ← Int.cast_max, fptosi_int _ (by omega) (by omega)]
  -- the inverse of the smaller is the larger of the inverses
  have hinv : ∀ x : EReal, (v : EReal) ≤ x → (if x = 0 then (0 : EReal) else Ideal.div ((2 / 125 : ℝ) : EReal) x) = Ideal.div ((2 / 125 : ℝ) : EReal) x := by
    intro x hx
    rw [if_neg]
    rintro rfl
    have : v ≤ 0 := by exact_mod_cast hx
    linarith
  have hanti : ∀ x y : EReal, (v : EReal) ≤ x → x ≤ y → Ideal.div ((2 / 125 : ℝ) : EReal) y ≤ Ideal.div ((2 / 125 : ℝ) : EReal) x := by
    intro x y hx hxy
    induction x with
    | bot => exact absurd (le_bot_iff.1 hx) (EReal.coe_ne_bot v)
    | top => rw [top_le_iff.1 hxy]
    | coe ξ =>
      have hξ : 0 < ξ := lt_of_lt_of_le hv (by exact_mod_cast hx)
      induction y with
      | bot => exact absurd (le_bot_iff.1 hxy) (EReal.coe_ne_bot ξ)
      | top =>
        rw [div_top, div_coe _ _ hξ.ne']
        exact_mod_cast (by positivity : (0 : ℝ) ≤ 2 / 125 / ξ)
      | coe η =>
        have hxy' : ξ ≤ η := by exact_mod_cast hxy
        rw [div_coe _ _ hξ.ne', div_coe _ _ (hξ.trans_le hxy').ne']
        exact_mod_cast div_le_div_of_nonneg_left (by norm_num) hξ hxy'
  have hmax : max (Ideal.div ((2 / 125 : ℝ) : EReal) R) (Ideal.div ((2 / 125 : ℝ) : EReal) C) = Ideal.div ((2 / 125 : ℝ) : EReal) (min R C) := by
    rcases le_total R C with h | h
    · rw [min_eq_left h, max_eq_left (hanti R C hR h)]
    · rw [min_eq_right h, max_eq_right (hanti C R hC h)]
  rw [hinv R hR, hinv C hC, hmax]
  have hL : (v : EReal) ≤ min R C := le_min hR hC
  generalize min R C = L at hL ⊢
  induction L with
  | bot => exact absurd (le_bot_iff.1 hL) (EReal.coe_ne_bot v)
  | top =>
    refine key _ _ (-1) ?_ ?_ (by norm_num) (by norm_num)
    · rw [div_top, mul_zero, ← EReal.coe_zero, ← EReal.coe_one, ← EReal.coe_sub]; norm_num
    · rw [div_top, ← EReal.coe_zero, ← EReal.coe_one, ← EReal.coe_sub]; norm_num
  | coe l =>
    have hl : v ≤ l := by exact_mod_cast hL
    have hl0 : 0 < l := hv.trans_le hl
    refine key _ _ (16 * v / l - 1) ?_ ?_ ?_ ?_
    · rw [div_coe _ _ hl0.ne', ← EReal.coe_mul, ← EReal.coe_one, ← EReal.coe_sub]
      congr 1
      field_simp
      ring
    · rw [← EReal.coe_mul, div_coe _ _ hl0.ne', ← EReal.coe_one, ← EReal.coe_sub]
    · have : 0 ≤ 16 * v / l := by positivity
      linarith
    · have : 16 * v / l ≤ 16 := by rw [div_le_iff₀ hl0]; linarith
      linarith

/-! ## Two codes in a byte -/

theorem mpack_all : ∀ a b : Fin 15,
    BitVec.setWidth 8 (BitVec.ofInt 32 ((a.val : ℤ) + 1 + 16 * ((b.val : ℤ) + 1))) ^^^ 0x88#8
      = BitVec.setWidth 8 (IntOp.ori (IntOp.andi (BitVec.ofInt 32 ((a.val : ℤ) - 7)) 15#32) (IntOp.shli .host (IntOp.andi (BitVec.ofInt 32 ((b.val : ℤ) - 7)) 15#32) 4#32)) := by
  decide

theorem vpack_all : ∀ a b : Fin 16,
    BitVec.setWidth 8 (BitVec.ofInt 32 ((a.val : ℤ) + 16 * (b.val : ℤ)))
      = BitVec.setWidth 8 (IntOp.ori (IntOp.andi (BitVec.ofInt 32 (a.val : ℤ)) 15#32) (IntOp.shli .host (IntOp.andi (BitVec.ofInt 32 (b.val : ℤ)) 15#32) 4#32)) := by
  decide

theorem sum_coe (x y : ℝ) : (x : EReal) + (y : EReal) * ((16 : ℝ) : EReal) + ((-2176 : ℝ) : EReal) = ((x + y * 16 + -2176 : ℝ) : EReal) := by
  simp only [← EReal.coe_mul, ← EReal.coe_add]

/-- Two of the first moment's codes in a byte. -/
theorem mpack_eq (k0 k1 : ℤ) (h0 : -7 ≤ k0) (h0' : k0 ≤ 7) (h1 : -7 ≤ k1) (h1' : k1 ≤ 7) :
    BitVec.setWidth 8 (Ideal.fptosi 32 (((136 + k0 : ℝ) : EReal) + ((136 + k1 : ℝ) : EReal) * ((16 : ℝ) : EReal) + ((-2176 : ℝ) : EReal))) ^^^ 0x88#8
      = BitVec.setWidth 8 (IntOp.ori (IntOp.andi (BitVec.ofInt 32 k0) 15#32) (IntOp.shli .host (IntOp.andi (BitVec.ofInt 32 k1) 15#32) 4#32)) := by
  have e : (136 + k0 : ℝ) + (136 + k1) * 16 + -2176 = ((k0 + 8 + 16 * (k1 + 8) : ℤ) : ℝ) := by push_cast; ring
  rw [sum_coe, e, fptosi_int _ (by omega) (by omega)]
  have := mpack_all ⟨(k0 + 7).toNat, by omega⟩ ⟨(k1 + 7).toNat, by omega⟩
  have e0 : (((k0 + 7).toNat : ℕ) : ℤ) = k0 + 7 := by omega
  have e1 : (((k1 + 7).toNat : ℕ) : ℤ) = k1 + 7 := by omega
  simp only [e0, e1] at this
  rw [show k0 + 7 + 1 + 16 * (k1 + 7 + 1) = k0 + 8 + 16 * (k1 + 8) by ring, show k0 + 7 - 7 = k0 by ring, show k1 + 7 - 7 = k1 by ring] at this
  exact this

/-- Two of the second moment's codes in a byte. -/
theorem vpack_eq (k0 k1 : ℤ) (h0 : 0 ≤ k0) (h0' : k0 ≤ 15) (h1 : 0 ≤ k1) (h1' : k1 ≤ 15) :
    BitVec.setWidth 8 (Ideal.fptosi 32 (((128 + k0 : ℝ) : EReal) + ((128 + k1 : ℝ) : EReal) * ((16 : ℝ) : EReal) + ((-2176 : ℝ) : EReal)))
      = BitVec.setWidth 8 (IntOp.ori (IntOp.andi (BitVec.ofInt 32 k0) 15#32) (IntOp.shli .host (IntOp.andi (BitVec.ofInt 32 k1) 15#32) 4#32)) := by
  have e : (128 + k0 : ℝ) + (128 + k1) * 16 + -2176 = ((k0 + 16 * k1 : ℤ) : ℝ) := by push_cast; ring
  rw [sum_coe, e, fptosi_int _ (by omega) (by omega)]
  have := vpack_all ⟨k0.toNat, by omega⟩ ⟨k1.toNat, by omega⟩
  have e0 : ((k0.toNat : ℕ) : ℤ) = k0 := by omega
  have e1 : ((k1.toNat : ℕ) : ℤ) = k1 := by omega
  simp only [e0, e1] at this
  exact this

end Cert.Elem

end
-- ==== Proof.Update.Values.lean ====
/- What one trip stores is what the reference holds at the same places. -/
module

public import proofs.«01_k».proof.Proof.Update.Elems
public import proofs.«01_k».proof.Proof.Update.RefRead
public import proofs.«01_k».proof.Proof.Update.Codes

@[expose] public section

set_option maxRecDepth 16384

noncomputable section

namespace Cert.UpdateIdeal.Hand

open Idealize.ShloMosaic
open Cert.UpdateIdeal.Gen
open Cert.Nibble Cert.Elem
open Cert.UpdateRefIdeal.Ref (mNew vNew mMax mScale mCode vCode dW bc mNew_apply vNew_apply mMax_apply mScale_apply mCode_apply vCode_apply dW_apply pack_apply)

variable (x0 x1 : FVec Ideal S2x7168x8192 .bf16) (x2 : IVec S_ 32) (x3 x5 : IVec S2x7168x4096 8) (x4 : FVec Ideal S2x56x8192 .f32)
  (x6 x8 : FVec Ideal S2x7168 .f32) (x7 x9 : FVec Ideal S2x8192 .f32)
variable (i : grid0.Coords) (b : Fin 2) (hb : (i 0).val = b.val) (j : Fin 56) (hj : j.val = (i 1).val)
  (xs : Vec Ideal S1x56x8192 .f32) (xw xg : Vec Ideal S1x128x8192 .bf16) (xc xd : Vec Ideal S1x128x4096 .i8)
  (hw : ∀ (p : Fin 128) (r : Fin 7168) (col : Fin 8192), r.val = 128 * (i 1).val + p.val → xw (ix3 0 p col) = x0 (ix3 b r col))
  (hg : ∀ (p : Fin 128) (r : Fin 7168) (col : Fin 8192), r.val = 128 * (i 1).val + p.val → xg (ix3 0 p col) = x1 (ix3 b r col))
  (hs : ∀ (j : Fin 56) (col : Fin 8192), xs (ix3 0 j col) = x4 (ix3 b j col))
  (hc : ∀ (p : Fin 128) (r : Fin 7168) (a : Fin 4096), r.val = 128 * (i 1).val + p.val → xc (ix3 0 p a) = x3 (ix3 b r a))
  (hd : ∀ (p : Fin 128) (r : Fin 7168) (a : Fin 4096), r.val = 128 * (i 1).val + p.val → xd (ix3 0 p a) = x5 (ix3 b r a))
  (k : Fin k0_t1_loop.trips)

theorem bias_apply (A : FVec Ideal S128x128 .f32) (p n : Fin 128) :
    addf A (broadcast S128x128 (Scalar.ofBits .f32 0xC5080000#32)) (ix2 p n) = (A (ix2 p n) + ((-2176 : ℝ) : EReal) : EReal) := by
  pointwise
  rw [ofBits_neg2176]

section First
include hb hj hg hs hc

/-- The first moment, the kernel's ten times the reference's. -/
theorem mom_ref (p : Fin 128) (r : Fin 7168) (hr : r.val = 128 * (i 1).val + p.val) (q : Fin 256) (col : Fin 8192) (hq : col.val = 256 * k.val + q.val) :
    mNew x1 x3 x4 (ix3 b r col) = (((1 / 10 : ℝ) : EReal) * momM i xs xg xc (k0_pay16 (F := Ideal)) k (ix2 p q) : EReal) := by
  rw [mNew_apply x1 x3 x4 b r col ⟨col.val / 2, by omega⟩ rfl j (by have := p.isLt; omega), mom_eq,
    momM_apply i k xs xg xc p q col hq ⟨col.val / 2, by omega⟩ rfl j hj, hg p r col hr, hc p r _ hr, hs]

theorem max_ref (q : Fin 256) (col : Fin 8192) (hq : col.val = 256 * k.val + q.val) :
    mMax x1 x3 x4 (ix3 b j col) = (((1 / 10 : ℝ) : EReal) * colMax (momM i xs xg xc (k0_pay16 (F := Ideal)) k) q : EReal) := by
  rw [mMax_apply, colMax, ← max_eq]
  congr 1
  funext x
  rw [mom_ref x1 x3 x4 i b hb j hj xs xg xc hg hs hc k x ⟨j.val * 128 + x.val, by omega⟩ (by dsimp only; omega) q col hq]

/-- The scale. -/
theorem outMs_ref (q : Fin 256) (col : Fin 8192) (hq : col.val = 256 * k.val + q.val) :
    outMs i xs xg xc (k0_pay16 (F := Ideal)) k (ix3 0 0 q) = mScale x1 x3 x4 (ix3 b j col) := by
  rw [outMs, pay12_apply, scale_eq, mScale_apply, max_ref x1 x3 x4 i b hb j hj xs xg xc hg hs hc k q col hq]

theorem mcode_ref (p : Fin 128) (r : Fin 7168) (hr : r.val = 128 * (i 1).val + p.val) (q : Fin 256) (col : Fin 8192) (hq : col.val = 256 * k.val + q.val) :
    ∃ z : ℤ, -7 ≤ z ∧ z ≤ 7 ∧ codeWord (clipM (momM i xs xg xc (k0_pay16 (F := Ideal)) k)) 1258308360#32 (ix2 p q) = ((136 + z : ℝ) : EReal)
      ∧ mCode x1 x3 x4 (ix3 b r col) = BitVec.ofInt 32 z := by
  obtain ⟨z, h1, h2, h3, h4⟩ := mcode_eq (momM i xs xg xc (k0_pay16 (F := Ideal)) k (ix2 p q)) (colMax (momM i xs xg xc (k0_pay16 (F := Ideal)) k) q)
    (le_max (fun x : Fin 128 => momM i xs xg xc (k0_pay16 (F := Ideal)) k (ix2 x q)) p)
  refine ⟨z, h1, h2, ?_, ?_⟩
  · rw [codeWord_apply, clipM_apply, h3, mbits z h1 h2]
  · rw [mCode_apply x1 x3 x4 b r col j (by have := p.isLt; omega), mScale_apply, max_ref x1 x3 x4 i b hb j hj xs xg xc hg hs hc k q col hq,
      mom_ref x1 x3 x4 i b hb j hj xs xg xc hg hs hc k p r hr q col hq]
    exact h4

/-- The first moment's codes, put together. -/
theorem outMc_ref (p : Fin 128) (r : Fin 7168) (hr : r.val = 128 * (i 1).val + p.val) (n : Fin 128) (N : Fin 4096) (hN : N.val = 128 * k.val + n.val) :
    outMc i xs xg xc (k0_pay16 (F := Ideal)) (k0_pay17 (F := Ideal)) k (ix3 0 p n) = Cert.UpdateRefIdeal.Ref.pack (mCode x1 x3 x4) (ix3 b r N) := by
  obtain ⟨z0, a1, a2, a3, a4⟩ := mcode_ref x1 x3 x4 i b hb j hj xs xg xc hg hs hc k p r hr ⟨2 * n.val, by omega⟩ ⟨2 * N.val, by omega⟩ (by dsimp only; omega)
  obtain ⟨z1, b1, b2, b3, b4⟩ := mcode_ref x1 x3 x4 i b hb j hj xs xg xc hg hs hc k p r hr ⟨2 * n.val + 1, by omega⟩ ⟨2 * N.val + 1, by omega⟩ (by dsimp only; omega)
  have e : k0_pay13 (momM i xs xg xc (k0_pay16 (F := Ideal)) k) (k0_pay17 (F := Ideal)) (ix2 p n)
      = (((136 + z0 : ℝ) : EReal) + ((136 + z1 : ℝ) : EReal) * ((16 : ℝ) : EReal) + ((-2176 : ℝ) : EReal) : EReal) := by
    rw [pay13_eq, bias_apply, gather_matmul, gather_sum _ n ⟨2 * n.val, by omega⟩ ⟨2 * n.val + 1, by omega⟩ rfl rfl, a3, b3]
  rw [outMc, pay14_apply, e, mpack_eq z0 z1 a1 a2 b1 b2,
    pack_apply (mCode x1 x3 x4) b r N ⟨2 * N.val, by omega⟩ ⟨2 * N.val + 1, by omega⟩ rfl rfl, a4, b4]

end First

section Second
variable (hR : ∀ r, Ideal.ofBits .f32 0x00800000#32 ≤ x6 (ix2 b r)) (hC : ∀ c, Ideal.ofBits .f32 0x00800000#32 ≤ x7 (ix2 b c))
  (hfin : ∀ r c, (vNew x1 x5 x6 x7 (ix3 b r c) : EReal) < ⊤)
  (hle : ∀ r c, (vNew x1 x5 x6 x7 (ix3 b r c) : EReal) ≤ min (x8 (ix2 b r)) (x9 (ix2 b c)))

theorem tiny_pos : (0 : EReal) < Ideal.ofBits .f32 0x00800000#32 := by
  have : Ideal.ofBits .f32 0x00800000#32 = (((2 : ℝ) ^ (-126 : ℤ) : ℝ) : EReal) := by
    simp [Ideal.ofBits, Ideal.ieee, -EReal.coe_mul]; norm_num
  rw [this]
  exact EReal.coe_pos.mpr (by positivity)

include hb hg hd hR hC hfin

/-- The second moment, the kernel's a thousand times the reference's, which is a positive real. -/
theorem sec_ref (p : Fin 128) (r : Fin 7168) (hr : r.val = 128 * (i 1).val + p.val) (q : Fin 256) (col : Fin 8192) (hq : col.val = 256 * k.val + q.val) :
    ∃ v : ℝ, 0 < v ∧ vNew x1 x5 x6 x7 (ix3 b r col) = (v : EReal)
      ∧ momV (gb i) x7 xg xd (k0_pay16 (F := Ideal)) (rowV (F := Ideal) i x6) k (ix2 p q) = ((1000 * v : ℝ) : EReal) := by
  have hv := vNew_apply x1 x5 x6 x7 b r col ⟨col.val / 2, by omega⟩ rfl
  have hf := hfin r col
  rw [hv] at hf
  obtain ⟨v, h0, h1, h2⟩ := sec_eq (x1 (ix3 b r col)) (x6 (ix2 b r)) (x7 (ix2 b col)) _ _ tiny_pos (hR r) (hC col) hf
  refine ⟨v, h0, hv.trans h1, ?_⟩
  rw [momV_apply i b hb k x6 x7 xg xd p q r hr col hq ⟨col.val / 2, by omega⟩ rfl, hg p r col hr, hd p r _ hr]
  exact h2

include hle

theorem vcode_ref (p : Fin 128) (r : Fin 7168) (hr : r.val = 128 * (i 1).val + p.val) (q : Fin 256) (col : Fin 8192) (hq : col.val = 256 * k.val + q.val) :
    ∃ z : ℤ, 0 ≤ z ∧ z ≤ 15 ∧ clipV (slotV (momV (gb i) x7 xg xd (k0_pay16 (F := Ideal)) (rowV (F := Ideal) i x6) k) (rowI (F := Ideal) i x8) (colN (gb i) x9 k)) (ix2 p q) = ((128 + z : ℝ) : EReal)
      ∧ vCode x1 x5 x6 x8 x7 x9 (ix3 b r col) = BitVec.ofInt 32 z := by
  obtain ⟨v, h0, h1, h2⟩ := sec_ref x1 x5 x6 x7 i b hb xg xd hg hd k hR hC hfin p r hr q col hq
  have hl := hle r col
  rw [h1] at hl
  obtain ⟨z, a1, a2, a3, a4⟩ := vcode_eq (x8 (ix2 b r)) (x9 (ix2 b col)) v h0 (hl.trans (min_le_left _ _)) (hl.trans (min_le_right _ _))
  refine ⟨z, a1, a2, ?_, ?_⟩
  · rw [clipV_apply, codeWord_apply, slotV_apply _ _ _ p q 0 (fun l' => by rw [rowI_apply i b hb x8 p l' r hr, rowI_apply i b hb x8 p 0 r hr]), h2,
      rowI_apply i b hb x8 p 0 r hr, colI_apply i b hb k x9 q col hq]
    exact a3
  · rw [vCode_apply, h1]
    exact a4

/-- The second moment's codes, put together. -/
theorem outVc_ref (p : Fin 128) (r : Fin 7168) (hr : r.val = 128 * (i 1).val + p.val) (n : Fin 128) (N : Fin 4096) (hN : N.val = 128 * k.val + n.val) :
    outVc (gb i) x7 x9 xg xd (k0_pay16 (F := Ideal)) (k0_pay17 (F := Ideal)) (rowV (F := Ideal) i x6) (rowI (F := Ideal) i x8) k (ix3 0 p n)
      = Cert.UpdateRefIdeal.Ref.pack (vCode x1 x5 x6 x8 x7 x9) (ix3 b r N) := by
  obtain ⟨z0, a1, a2, a3, a4⟩ := vcode_ref x1 x5 x6 x8 x7 x9 i b hb xg xd hg hd k hR hC hfin hle p r hr ⟨2 * n.val, by omega⟩ ⟨2 * N.val, by omega⟩ (by dsimp only; omega)
  obtain ⟨z1, b1, b2, b3, b4⟩ := vcode_ref x1 x5 x6 x8 x7 x9 i b hb xg xd hg hd k hR hC hfin hle p r hr ⟨2 * n.val + 1, by omega⟩ ⟨2 * N.val + 1, by omega⟩ (by dsimp only; omega)
  unfold colN at a3 b3
  rw [outVc, pay2_apply, pay15_eq, gather_matmul, gather_sum _ n ⟨2 * n.val, by omega⟩ ⟨2 * n.val + 1, by omega⟩ rfl rfl, a3, b3, vpack_eq z0 z1 a1 a2 b1 b2,
    pack_apply (vCode x1 x5 x6 x8 x7 x9) b r N ⟨2 * N.val, by omega⟩ ⟨2 * N.val + 1, by omega⟩ rfl rfl, a4, b4]

end Second

section Weight
variable (hR : ∀ r, Ideal.ofBits .f32 0x00800000#32 ≤ x6 (ix2 b r)) (hC : ∀ c, Ideal.ofBits .f32 0x00800000#32 ≤ x7 (ix2 b c))
  (hfin : ∀ r c, (vNew x1 x5 x6 x7 (ix3 b r c) : EReal) < ⊤)
  (v41 v42 : EReal) (b1 b2 : ℝ) (h1 : 0 < b1) (h2 : 0 < b2) (e1 : bc x2 0x3F666666#32 = (b1 : EReal)) (e2 : bc x2 0x3F7FBE77#32 = (b2 : EReal))
  (e41 : v41 = ((b1 * (100000 / 3) * Real.sqrt (1 / 1000 / b2) : ℝ) : EReal)) (e42 : v42 = ((b1 * (100000 / 3) * (1 / 100000000) : ℝ) : EReal))
include hb hj hw hg hs hc hd hR hC hfin h1 h2 e1 e2 e41 e42

/-- The weight step. -/
theorem outDw_ref (p : Fin 128) (r : Fin 7168) (hr : r.val = 128 * (i 1).val + p.val) (q : Fin 256) (col : Fin 8192) (hq : col.val = 256 * k.val + q.val) :
    outDw i (gb i) v41 v42 x7 xs xw xg xc xd (k0_pay16 (F := Ideal)) (rowV (F := Ideal) i x6) k (ix3 0 p q) = dW x0 x1 x2 x3 x5 x4 x6 x7 (ix3 b r col) := by
  obtain ⟨v, h0, hv, hm⟩ := sec_ref x1 x5 x6 x7 i b hb xg xd hg hd k hR hC hfin p r hr q col hq
  rw [dW_apply, hv, e1, e2, mom_ref x1 x3 x4 i b hb j hj xs xg xc hg hs hc k p r hr q col hq, ← step_eq _ _ v b1 b2 h0 h1 h2]
  rw [outDw, pay10_apply, pay8_apply, pay9_apply, ld6 k xw p q col hq, hw p r col hr, e41, e42]
  have hm' : k0_pay6 (colV (gb i) x7 k) (codeV xd (k0_pay16 (F := Ideal)) k) (gradV xg k) (rowV (F := Ideal) i x6) (ix2 p q) = ((1000 * v : ℝ) : EReal) := hm
  rw [hm']
  rfl

end Weight

end Cert.UpdateIdeal.Hand

end
-- ==== Proof.Stats.Scaled.lean ====
/- The second moment the kernel carries is a thousand times the reference's, whatever the gradient. -/
module

public import proofs.«01_k».proof.Proof.Stats.Maxima
public import proofs.«01_k».proof.Proof.Update.RefRead
public import proofs.«01_k».proof.Proof.Update.Values

@[expose] public section

set_option maxRecDepth 16384

noncomputable section

namespace Cert.StatsIdeal.Hand

open Idealize.ShloMosaic
open Cert.StatsIdeal.Gen
open Cert.Nibble Cert.Elem
open Cert.UpdateRefIdeal.Ref (vNew vNew_apply)
open Cert.UpdateIdeal.Hand (tiny_pos)

theorem sec_scaled (g R C T : EReal) (n : ℕ) (hT : 0 < T) (hR : T ≤ R) (hC : T ≤ C) :
    ((999 / 1000 : ℝ) : EReal) * ((((n : ℕ) * (1 / 16) : ℝ) : EReal) * min R C) + ((1 / 1000 : ℝ) : EReal) * g * g
      = ((1 / 1000 : ℝ) : EReal) * (g * g + (((n : ℕ) : ℝ) : EReal) * min (max (R * ((999 / 16 : ℝ) : EReal)) T) (max (C * ((999 / 16 : ℝ) : EReal)) T)) := by
  have e : (999 / 1000 : ℝ) * ((n : ℝ) * (1 / 16)) = 1 / 1000 * (n : ℝ) * (999 / 16) := by ring
  rw [norm_eq R C T hT hR hC, real_mul_add _ (by norm_num), mul_mul_coe, coe_mul_mul, e, add_comm, mul_assoc]

theorem sec_nonneg (g R C T : EReal) (n : ℕ) (hT : 0 < T) :
    0 ≤ g * g + (((n : ℕ) : ℝ) : EReal) * min (max R T) (max C T) :=
  add_nonneg (Cert.Elem.sq_nonneg g) (mul_nonneg (by exact_mod_cast Nat.zero_le n) (le_min (hT.le.trans (le_max_right _ _)) (hT.le.trans (le_max_right _ _))))

/-- A scaled maximum. -/
theorem fold_scale {n : ℕ} (M : Fin n → EReal) :
    Finset.fold max (⊥ : EReal) (fun x => ((1 / 1000 : ℝ) : EReal) * M x) Finset.univ = Finset.fold max (⊥ : EReal) M Finset.univ * ((1 / 1000 : ℝ) : EReal) := by
  have hmono : Monotone fun x : EReal => ((1 / 1000 : ℝ) : EReal) * x := fun x y h =>
    mul_le_mul_of_nonneg_left h (by exact_mod_cast (by norm_num : (0 : ℝ) ≤ 1 / 1000))
  have h := Finset.fold_hom (op := max) (op' := max) (s := (Finset.univ : Finset (Fin n))) (f := M) (b := (⊥ : EReal))
    (m := fun x : EReal => ((1 / 1000 : ℝ) : EReal) * x) (fun x y => hmono.map_max)
  have hb : ((1 / 1000 : ℝ) : EReal) * ⊥ = ⊥ := EReal.coe_mul_bot_of_pos (by norm_num)
  rw [mul_comm]
  refine Eq.trans ?_ h
  simp only [hb]

variable (G : FVec Ideal S2x7168x8192 .bf16) (D : IVec S2x7168x4096 8) (x0 : FVec Ideal S2x7168 .f32) (x1 : FVec Ideal S2x8192 .f32)

theorem sec_pos (b : Fin 2) (r : Fin 7168) (col : Fin 8192) : 0 ≤ sec G D x0 x1 b r col := sec_nonneg _ _ _ _ _ tiny_pos

theorem vNew_sec (b : Fin 2) (r : Fin 7168) (col : Fin 8192) (hR : Ideal.ofBits .f32 0x00800000#32 ≤ x0 (ix2 b r)) (hC : Ideal.ofBits .f32 0x00800000#32 ≤ x1 (ix2 b col)) :
    (vNew G D x0 x1 (ix3 b r col) : EReal) = ((1 / 1000 : ℝ) : EReal) * sec G D x0 x1 b r col :=
  (vNew_apply G D x0 x1 b r col ⟨col.val / 2, by omega⟩ rfl).trans (sec_scaled _ _ _ _ _ tiny_pos hR hC)

end Cert.StatsIdeal.Hand

end
-- ==== Proof.Stats.Ref.lean ====
/- The two statistics of the reference: the largest second moment of each row and of each column. -/
module

public import proofs.«01_k».proof.Proof.Update.RefRead
public import proofs.«01_k».proof.Proof.Gen.StatsRefIdeal.Run

@[expose] public section

set_option maxRecDepth 16384

noncomputable section

namespace Cert.StatsRefIdeal.Ref

open Idealize.ShloMosaic Idealize.ShloMosaic.TcCoe
open Cert.StatsRefIdeal Cert.StatsRefIdeal.Gen
open Cert.UpdateRefIdeal.Ref (vNew cneg via)

variable (G : FVec Ideal S2x7168x8192 .bf16) (D : IVec S2x7168x4096 8) (x0 : FVec Ideal S2x7168 .f32) (x1 : FVec Ideal S2x8192 .f32)

/-- The row statistic. -/
def rowMax : FVec Ideal S2x7168 .f32 :=
  Host.reduce FloatOps.maximumf (vNew G D x0 x1) (constant S_ .f32 0xFF800000#32) reducesTo_S2x7168x8192_S2x7168_d2 h_S_

/-- The column statistic. -/
def colMax : FVec Ideal S2x8192 .f32 :=
  Host.reduce FloatOps.maximumf (vNew G D x0 x1) (constant S_ .f32 0xFF800000#32) reducesTo_S2x7168x8192_S2x8192_d1 h_S_

theorem rowMax_apply (b : Fin 2) (r : Fin 7168) :
    rowMax G D x0 x1 (ix2 b r) = Finset.fold max (⊥ : EReal) (fun col : Fin 8192 => (vNew G D x0 x1 (ix3 b r col) : EReal)) Finset.univ := by
  unfold rowMax
  generalize vNew G D x0 x1 = V
  refine via fun z hz => ?_
  pointwise []
  rw [cneg]
  exact hz

theorem colMax_apply (b : Fin 2) (col : Fin 8192) :
    colMax G D x0 x1 (ix2 b col) = Finset.fold max (⊥ : EReal) (fun r : Fin 7168 => (vNew G D x0 x1 (ix3 b r col) : EReal)) Finset.univ := by
  unfold colMax
  generalize vNew G D x0 x1 = V
  refine via fun z hz => ?_
  pointwise []
  rw [cneg]
  exact hz

end Cert.StatsRefIdeal.Ref

end
-- ==== Proof.Stats.Arrays.lean ====
/- The two arrays a run of the statistics leaves. -/
module

public import proofs.«01_k».proof.Proof.Stats.Blocks
public import proofs.«01_k».proof.Proof.Stats.Scaled
public import proofs.«01_k».proof.Proof.Stats.Ref

@[expose] public section

set_option maxRecDepth 16384

noncomputable section

namespace Cert.StatsIdeal.Hand

open Idealize.ShloMosaic Idealize.ShloMosaic.TcCoe
open Idealize.SL Idealize.SL.RA
open Cert.StatsIdeal.Gen
open Cert.StatsIdeal.Run (iblk V)
open Idealize.ShloMosaic.Pipeline (Dat Cfg Window)
open Cert.StatsRefIdeal.Ref (rowMax colMax rowMax_apply colMax_apply)

variable (m : (ℓ : Loc nD τ sig) → Buf (Elt Ideal) ℓ) (c : Dev nD)

abbrev A0 : FVec Ideal S2x7168 .f32 := m ((c : Thread nD τ).loc main_arg0)
abbrev A1 : FVec Ideal S2x8192 .f32 := m ((c : Thread nD τ).loc main_arg1)
abbrev A2 : FVec Ideal S2x7168x8192 .bf16 := m ((c : Thread nD τ).loc main_arg2)
abbrev A3 : IVec S2x7168x4096 8 := m ((c : Thread nD τ).loc main_arg3)

/-- The old statistics are normal and positive. -/
structure Good : Prop where
  row : ∀ b r, (Ideal.ofBits .f32 0x00800000#32 : EReal) ≤ A0 m c (ix2 b r)
  col : ∀ b k, (Ideal.ofBits .f32 0x00800000#32 : EReal) ≤ A1 m c (ix2 b k)

/-- The second moment of the arguments. -/
abbrev secA (b : Fin 2) (r : Fin 7168) (col : Fin 8192) : EReal := sec (A2 m c) (A3 m c) (A0 m c) (A1 m c) b r col

theorem rowMax_sec (h : Good m c) (b : Fin 2) (r : Fin 7168) :
    rowMax (A2 m c) (A3 m c) (A0 m c) (A1 m c) (ix2 b r) = (Finset.fold max (⊥ : EReal) (fun col => secA m c b r col) Finset.univ * ((1 / 1000 : ℝ) : EReal) : EReal) := by
  refine (rowMax_apply _ _ _ _ b r).trans (Eq.trans ?_ (fold_scale _))
  exact congrArg (fun f => Finset.fold max (⊥ : EReal) f Finset.univ) (funext fun col => vNew_sec _ _ _ _ b r col (h.row b r) (h.col b col))

theorem colMax_sec (h : Good m c) (b : Fin 2) (col : Fin 8192) :
    colMax (A2 m c) (A3 m c) (A0 m c) (A1 m c) (ix2 b col) = (Finset.fold max (⊥ : EReal) (fun r => secA m c b r col) Finset.univ * ((1 / 1000 : ℝ) : EReal) : EReal) := by
  refine (colMax_apply _ _ _ _ b col).trans (Eq.trans ?_ (fold_scale _))
  exact congrArg (fun f => Finset.fold max (⊥ : EReal) f Finset.univ) (funext fun r => vNew_sec _ _ _ _ b r col (h.row b r) (h.col b col))

theorem lt_N (t : Fin cfg0.N) : t.val < 112 := lt_of_lt_of_eq t.isLt (show cfg0.N = 112 from N_0)

/-- The row statistic's array. -/
theorem row_val (h : Good m c) (t : Fin cfg0.N) (ht : t.val % 112 = 111) (X : Vec Ideal S2x7168 .f32) (hX : RlRow m c t X) (b : Fin 2) (r : Fin 7168) :
    X (ix2 b r) = rowMax (A2 m c) (A3 m c) (A0 m c) (A1 m c) (ix2 b r) := by
  have hN := lt_N t
  have hu : 56 * b.val + r.val / 128 < cfg0.N := lt_of_lt_of_eq (by omega : _ < 112) (show 112 = cfg0.N from N_0.symm)
  rw [rowMax_sec m c h b r, hX ⟨56 * b.val + r.val / 128, hu⟩ (by show 56 * b.val + r.val / 128 ≤ t.val; omega) (ix2 0 ⟨r.val % 128, by omega⟩) (ix2 b r)
    (by show b.val = (56 * b.val + r.val / 128) / 56; omega) (by show r.val = 128 * ((56 * b.val + r.val / 128) % 56) + r.val % 128; omega)]
  generalize hU : (⟨56 * b.val + r.val / 128, hu⟩ : Fin cfg0.N) = u
  have hv : u.val = 56 * b.val + r.val / 128 := by rw [← hU]
  rw [blk0, blk1]
  have hb : b.val = u.val / 56 := by omega
  refine ptRow_ref (A2 m c) (A3 m c) (A0 m c) (A1 m c) (grid0.coords u) b ((i0_eq u).trans hb.symm) _ _
    (fun p r col => blk2 m c u b hb p r col) (fun p r a => blk3 m c u b hb p r a) (fun r col => sec_pos _ _ _ _ b r col) _ r ?_
  rw [i1_eq]
  show r.val = 128 * (u.val % 56) + r.val % 128
  omega

/-- The column maxima after a point, over those before it. -/
theorem ptAt_le (t : Fin cfg0.N) (d e : Vec Ideal S8x8192 .f32) (hp : PtAt m c t d e) (b : Fin 2) (hb : b.val = t.val / 56) (j : Fin 56) (hj : j.val = t.val % 56)
    (s : Fin 8) (col : Fin 8192) (u : EReal) :
    (e (ix2 s col) : EReal) ≤ u ↔ (d (ix2 s col) : EReal) ≤ u ∧ ∀ g : Fin 16, secA m c b ⟨128 * j.val + (8 * g.val + s.val), by omega⟩ col ≤ u := by
  unfold PtAt at hp
  rw [blk0, blk1] at hp
  have hi : (grid0.coords t 1).val = j.val := (i1_eq t).trans hj.symm
  refine (ptCol_le (A2 m c) (A3 m c) (A0 m c) (A1 m c) (grid0.coords t) b ((i0_eq t).trans hb.symm) _ _
    (fun p r col => blk2 m c t b hb p r col) (fun p r a => blk3 m c t b hb p r a) d e hp s col u (by rw [hi]; exact j.isLt)).trans ?_
  simp only [hi]

/-- The column maxima after a point, over the rows of its grid row so far. -/
theorem cm_le : ∀ (n : ℕ) (hn : n < cfg0.N) (e : Vec Ideal S8x8192 .f32), CmN m c n hn e → ∀ (b : Fin 2), b.val = n / 56 → ∀ (s : Fin 8) (col : Fin 8192) (u : EReal),
    ((e (ix2 s col) : EReal) ≤ u ↔ 0 ≤ u ∧ ∀ j : Fin 56, j.val ≤ n % 56 → ∀ g : Fin 16, secA m c b ⟨128 * j.val + (8 * g.val + s.val), by omega⟩ col ≤ u) := by
  have start : ∀ (t : Fin cfg0.N) (e : Vec Ideal S8x8192 .f32), PtAt m c t (k0_pay10 (F := Ideal)) e → t.val % 56 = 0 → ∀ (b : Fin 2), b.val = t.val / 56 → ∀ (s : Fin 8) (col : Fin 8192) (u : EReal),
      ((e (ix2 s col) : EReal) ≤ u ↔ 0 ≤ u ∧ ∀ j : Fin 56, j.val ≤ t.val % 56 → ∀ g : Fin 16, secA m c b ⟨128 * j.val + (8 * g.val + s.val), by omega⟩ col ≤ u) := by
    intro t e hp h0 b hb s col u
    rw [ptAt_le m c t _ e hp b hb ⟨0, Nat.succ_pos 55⟩ h0.symm s col u, zeros_col]
    refine and_congr Iff.rfl ⟨fun h j hj g => ?_, fun h g => h ⟨0, Nat.succ_pos 55⟩ (Nat.zero_le _) g⟩
    obtain rfl : j = ⟨0, Nat.succ_pos 55⟩ := Fin.ext (by show j.val = 0; omega)
    exact h g
  intro n
  induction n with
  | zero =>
    intro hn e he b hb s col u
    exact start ⟨0, hn⟩ e he rfl b hb s col u
  | succ n ih =>
    intro hn e he b hb s col u
    obtain ⟨h1, h2⟩ := he
    by_cases hz : (n + 1) % 56 = 0
    · exact start ⟨n + 1, hn⟩ e (h1 hz) hz b hb s col u
    · obtain ⟨d, hd, hp⟩ := h2 hz
      rw [ptAt_le m c ⟨n + 1, hn⟩ d e hp b hb ⟨(n + 1) % 56, Nat.mod_lt _ (Nat.succ_pos 55)⟩ rfl s col u, ih _ d hd b (by omega) s col u]
      constructor
      · rintro ⟨⟨h0, h1⟩, h2⟩
        refine ⟨h0, fun j hj g => ?_⟩
        rcases Nat.lt_or_eq_of_le hj with h | h
        · exact h1 j (by omega) g
        · obtain rfl : j = ⟨(n + 1) % 56, Nat.mod_lt _ (Nat.succ_pos 55)⟩ := Fin.ext h
          exact h2 g
      · rintro ⟨h0, h1⟩
        exact ⟨⟨h0, fun j hj g => h1 j (by omega) g⟩, fun g => h1 ⟨(n + 1) % 56, Nat.mod_lt _ (Nat.succ_pos 55)⟩ le_rfl g⟩

/-- The column statistic's array. -/
theorem col_val (h : Good m c) (t : Fin cfg0.N) (ht : t.val % 112 = 111) (X : Vec Ideal S2x8192 .f32) (hX : RlCol m c t X) (b : Fin 2) (col : Fin 8192) :
    X (ix2 b col) = colMax (A2 m c) (A3 m c) (A0 m c) (A1 m c) (ix2 b col) := by
  have hN := lt_N t
  have hu : 56 * b.val + 55 < cfg0.N := lt_of_lt_of_eq (by omega : _ < 112) (show 112 = cfg0.N from N_0.symm)
  obtain ⟨e, he, hx⟩ := hX ⟨56 * b.val + 55, hu⟩ (by show 56 * b.val + 55 ≤ t.val; omega) (by show (56 * b.val + 55) % 56 = 55; omega)
  rw [colMax_sec m c h b col, hx (ix2 0 col) (ix2 b col) (by show b.val = (56 * b.val + 55) / 56; omega) rfl, pay2_apply]
  refine congrArg (fun z : EReal => z * ((1 / 1000 : ℝ) : EReal)) (eq_of_forall_ge_iff fun u => ?_)
  rw [Finset.fold_max_le, Finset.fold_max_le]
  have hl := fun s : Fin 8 => cm_le m c _ hu e he b (by omega) s col u
  simp only [hl, Finset.mem_univ, true_implies]
  refine and_congr Iff.rfl ⟨fun h r => ?_, fun h s => ⟨(sec_pos _ _ _ _ b 0 col).trans (h 0), fun j _ g => h _⟩⟩
  have e := (h ⟨r.val % 8, by omega⟩).2 ⟨r.val / 128, by omega⟩ (by show r.val / 128 ≤ (56 * b.val + 55) % 56; omega) ⟨r.val / 8 % 16, by omega⟩
  rwa [show (⟨128 * (r.val / 128) + (8 * (r.val / 8 % 16) + r.val % 8), by omega⟩ : Fin 7168) = r from Fin.ext (by show 128 * (r.val / 128) + (8 * (r.val / 8 % 16) + r.val % 8) = r.val; omega)] at e

variable (dat : Dat τ (Elt Ideal) Unit ℕ (UR sig nD τ) ℕ cfg0 c)

theorem row_array (h : Good m c) (hL : ∀ t : Fin cfg0.N, t.val % 112 = 111 → RlRow m c t (dat.after 4 t)) :
    dat.arrAt 4 cfg0.N = (rowMax (A2 m c) (A3 m c) (A0 m c) (A1 m c) : FVec Ideal S2x7168 .f32) := by
  refine dat.arrAt_eq_of_covers 4 _ (by decide +kernel) fun t hf y => ?_
  blk_simp
  have h111 := (flush0_4 t).mp hf
  have ey : y = ix2 (y 0) (y 1) := by funext a; fin_cases a <;> rfl
  refine (congrArg (dat.after 4 t) ey).trans ((row_val m c h t h111 _ (hL t h111) (y 0) (y 1)).trans ?_)
  have h7 := index_4 t
  refine congrArg _ (funext fun a => Fin.ext ?_)
  fin_cases a <;> (blk_simp [h7]; rfl)

theorem col_array (h : Good m c) (hL : ∀ t : Fin cfg0.N, t.val % 112 = 111 → RlCol m c t (dat.after 5 t)) :
    dat.arrAt 5 cfg0.N = (colMax (A2 m c) (A3 m c) (A0 m c) (A1 m c) : FVec Ideal S2x8192 .f32) := by
  refine dat.arrAt_eq_of_covers 5 _ (by decide +kernel) fun t hf y => ?_
  blk_simp
  have h111 := (flush0_5 t).mp hf
  have ey : y = ix2 (y 0) (y 1) := by funext a; fin_cases a <;> rfl
  refine (congrArg (dat.after 5 t) ey).trans ((col_val m c h t h111 _ (hL t h111) (y 0) (y 1)).trans ?_)
  have h7 := index_5 t
  refine congrArg _ (funext fun a => Fin.ext ?_)
  fin_cases a <;> (blk_simp [h7]; rfl)

/-- The results after a run. -/
theorem arrays (h : Good m c) (r : PUnit × MemSt nD τ sig (Elt Ideal)) (hr : Pipeline.RDat.FramePost (cfgs 0) (rdat m) (V m) r) :
    r.2.mem ((c : Thread nD τ).loc main_v0_0) = (rowMax (A2 m c) (A3 m c) (A0 m c) (A1 m c) : FVec Ideal S2x7168 .f32)
    ∧ r.2.mem ((c : Thread nD τ).loc main_v0_1) = (colMax (A2 m c) (A3 m c) (A0 m c) (A1 m c) : FVec Ideal S2x8192 .f32) := by
  obtain ⟨after, hL, hA⟩ := Pipeline.RDat.FramePost.exists_exact hr c
  refine ⟨(hA 4).trans (row_array m c _ h fun t ht => ?_), (hA 5).trans (col_array m c _ h fun t ht => ?_)⟩
  · exact Pipeline.Dat.toRRel_leaves (w := 4) (dats m 0 c) rfl (hL 4 t ((flush0_4 t).mpr ht))
  · exact Pipeline.Dat.toRRel_leaves (w := 5) (dats m 0 c) rfl (hL 5 t ((flush0_5 t).mpr ht))

end Cert.StatsIdeal.Hand

end
-- ==== Proof.Update.RunA.lean ====
/- The update kernel's body run at a grid point of case A: what it leaves in its result blocks. -/
module

public import proofs.«01_k».proof.Proof.Update.Body

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen

variable {F : FTy → Type} [FloatOps F] [Named F]

local notation "𝕄" => MT nD τ sig Unit (Elt F) ℕ (UR sig nD τ) ℕ

set_option maxHeartbeats 4000000 in
theorem run_A (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (y14 : Vec F S1x56x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, ⌜IsDw i x0 x1 x2 x5 x6 x7 x8 x9 d⌝ ∗ owns (c : Thread nD τ) arg12 fullShare d) ∗ (∃ d, ⌜IsMc i x5 x7 x8 d⌝ ∗ owns (c : Thread nD τ) arg13 fullShare d) ∗ (∃ d, ⌜IsMs i x5 x7 x8 y14 d⌝ ∗ owns (c : Thread nD τ) arg14 fullShare d) ∗ (∃ d, ⌜IsVc i x1 x2 x3 x4 x7 x9 d⌝ ∗ owns (c : Thread nD τ) arg15 fullShare d) ∗ owns (c : Thread nD τ) arg16 fullShare (k0_pay16 (F := F)) ∗ owns (c : Thread nD τ) arg17 fullShare (k0_pay17 (F := F)) ∗ (∃ d, owns (c : Thread nD τ) arg18 fullShare d) ∗ (∃ d, owns (c : Thread nD τ) arg19 fullShare d)) -∗ K ⟨⟩))
      ⊢ wp frame (wpE (defs₀ (F := F)) Variants.none c none) E (cc0_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_update_eq_skeleton]; unfold cc0_update_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap
    · iexists _; isplitr; swap
      · iexact H10
      ipureintro; rfl
    ipureintro
    refine isDw_of (F := F) (h4 := harg4.read_unread _) (h7 := harg7.read_unread _) (h8 := harg8.read_unread _) (h9 := harg9.read_unread _) (h10 := harg10.read_unread _) (h11 := harg11.read_unread _) (h16 := ?_) (h18 := ?_) (h41 := coef0_read _ harg2 _ _) (h42 := coef1_read _ harg2 _ _)
    · sl_unfold_words; exact (View.read_writes_full _ _ _ _ _)
    · sl_unfold_words; exact (View.read_writes_full _ _ _ _ _).trans (rowV_read i _ harg3 _)
  isplitl [H11]
  · iexists _; isplitr; swap
    · iexists _; isplitr; swap
      · iexact H11
      ipureintro; rfl
    ipureintro
    refine isMc_of (F := F) (h7 := harg7.read_unread _) (h9 := harg9.read_unread _) (h10 := harg10.read_unread _) (h16 := ?_) (h17 := ?_)
    · sl_unfold_words; exact (View.read_writes_full _ _ _ _ _)
    · sl_unfold_words; exact (View.read_writes_full _ _ _ _ _)
  isplitl [H12]
  · iexists _; isplitr; swap
    · iexists _; isplitr; swap
      · iexact H12
      ipureintro; rfl
    ipureintro
    refine isMs_of (F := F) (h7 := harg7.read_unread _) (h9 := harg9.read_unread _) (h10 := harg10.read_unread _) (h16 := ?_) (hf := harg14.read_unread _)
    · sl_unfold_words; exact (View.read_writes_full _ _ _ _ _)
  isplitl [H13]
  · iexists _; isplitr; swap
    · iexists _; isplitr; swap
      · iexact H13
      ipureintro; rfl
    ipureintro
    refine isVc_of (F := F) (h4 := harg4.read_unread _) (h6 := harg6.read_unread _) (h9 := harg9.read_unread _) (h11 := harg11.read_unread _) (h16 := ?_) (h17 := ?_) (h18 := ?_) (h19 := ?_)
    · sl_unfold_words; exact (View.read_writes_full _ _ _ _ _)
    · sl_unfold_words; exact (View.read_writes_full _ _ _ _ _)
    · sl_unfold_words; exact (View.read_writes_full _ _ _ _ _).trans (rowV_read i _ harg3 _)
    · sl_unfold_words; exact (View.read_writes_full _ _ _ _ _).trans (rowI_read i _ harg5 _)
  isplitl [HS0]
  · iexists _; isplitr; swap; · iexact HS0
    ipureintro
    sl_unfold_words
    exact View.read_writes_full _ _ _ _ _
  isplitl [HS1]
  · iexists _; isplitr; swap; · iexact HS1
    ipureintro
    sl_unfold_words
    exact View.read_writes_full _ _ _ _ _
  isplitl [HS2]
  · iexists _, _; isplitr; swap; · iexact HS2
    ipureintro; rfl
  iexists _, _; isplitr; swap; · iexact HS3
  ipureintro; rfl

end Cert.UpdateIdeal.Hand

end

end
-- ==== Proof.Update.RunB.lean ====
/- The update kernel's body run at a grid point of case B: what it leaves in its result blocks. -/
module

public import proofs.«01_k».proof.Proof.Update.Body

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen

variable {F : FTy → Type} [FloatOps F] [Named F]

local notation "𝕄" => MT nD τ sig Unit (Elt F) ℕ (UR sig nD τ) ℕ

set_option maxHeartbeats 4000000 in
theorem run_B (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : ¬cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (y14 : Vec F S1x56x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare y14 ∗ (∃ d, owns (c : Thread nD τ) arg15 fullShare d) ∗ owns (c : Thread nD τ) arg16 fullShare (k0_pay16 (F := F)) ∗ owns (c : Thread nD τ) arg17 fullShare (k0_pay17 (F := F)) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, ⌜IsDw i x0 x1 x2 x5 x6 x7 x8 x9 d⌝ ∗ owns (c : Thread nD τ) arg12 fullShare d) ∗ (∃ d, ⌜IsMc i x5 x7 x8 d⌝ ∗ owns (c : Thread nD τ) arg13 fullShare d) ∗ (∃ d, ⌜IsMs i x5 x7 x8 y14 d⌝ ∗ owns (c : Thread nD τ) arg14 fullShare d) ∗ (∃ d, ⌜IsVc i x1 x2 x3 x4 x7 x9 d⌝ ∗ owns (c : Thread nD τ) arg15 fullShare d) ∗ owns (c : Thread nD τ) arg16 fullShare (k0_pay16 (F := F)) ∗ owns (c : Thread nD τ) arg17 fullShare (k0_pay17 (F := F)) ∗ (∃ d, owns (c : Thread nD τ) arg18 fullShare d) ∗ (∃ d, owns (c : Thread nD τ) arg19 fullShare d)) -∗ K ⟨⟩))
      ⊢ wp frame (wpE (defs₀ (F := F)) Variants.none c none) E (cc0_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_update_eq_skeleton]; unfold cc0_update_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%d13, %f13, -, H13⟩, ⟨%fs0, %hfs0, HS0⟩, ⟨%fs1, %hfs1, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12
  obtain rfl := harg16.eq_unread hfs0; obtain rfl := harg17.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap
    · iexists _; isplitr; swap
      · iexact H10
      ipureintro; rfl
    ipureintro
    refine isDw_of (F := F) (h4 := harg4.read_unread _) (h7 := harg7.read_unread _) (h8 := harg8.read_unread _) (h9 := harg9.read_unread _) (h10 := harg10.read_unread _) (h11 := harg11.read_unread _) (h16 := harg16.read_unread _) (h18 := ?_) (h41 := coef0_read _ harg2 _ _) (h42 := coef1_read _ harg2 _ _)
    · sl_unfold_words; exact (View.read_writes_full _ _ _ _ _).trans (rowV_read i _ harg3 _)
  isplitl [H11]
  · iexists _; isplitr; swap
    · iexists _; isplitr; swap
      · iexact H11
      ipureintro; rfl
    ipureintro
    refine isMc_of (F := F) (h7 := harg7.read_unread _) (h9 := harg9.read_unread _) (h10 := harg10.read_unread _) (h16 := harg16.read_unread _) (h17 := harg17.read_unread _)
  isplitl [H12]
  · iexists _; isplitr; swap
    · iexists _; isplitr; swap
      · iexact H12
      ipureintro; rfl
    ipureintro
    refine isMs_of (F := F) (h7 := harg7.read_unread _) (h9 := harg9.read_unread _) (h10 := harg10.read_unread _) (h16 := harg16.read_unread _) (hf := harg14.read_unread _)
  isplitl [H13]
  · iexists _; isplitr; swap
    · iexists _; isplitr; swap
      · iexact H13
      ipureintro; rfl
    ipureintro
    refine isVc_of (F := F) (h4 := harg4.read_unread _) (h6 := harg6.read_unread _) (h9 := harg9.read_unread _) (h11 := harg11.read_unread _) (h16 := harg16.read_unread _) (h17 := harg17.read_unread _) (h18 := ?_) (h19 := ?_)
    · sl_unfold_words; exact (View.read_writes_full _ _ _ _ _).trans (rowV_read i _ harg3 _)
    · sl_unfold_words; exact (View.read_writes_full _ _ _ _ _).trans (rowI_read i _ harg5 _)
  isplitl [HS0]
  · iexists _; isplitr; swap; · iexact HS0
    ipureintro
    exact harg16.read_unread _
  isplitl [HS1]
  · iexists _; isplitr; swap; · iexact HS1
    ipureintro
    exact harg17.read_unread _
  isplitl [HS2]
  · iexists _, _; isplitr; swap; · iexact HS2
    ipureintro; rfl
  iexists _, _; isplitr; swap; · iexact HS3
  ipureintro; rfl

end Cert.UpdateIdeal.Hand

end

end
-- ==== Proof.Update.Frame.lean ====
/- The run of the update kernel: what its region leaves in each output block at each grid point, the invariant that holds
   from one point to the next, the launch, and the frame. -/
module

public import proofs.«01_k».proof.Proof.Update.RunA
public import proofs.«01_k».proof.Proof.Update.RunB
public import Idealize.ShloMosaic.Lib.Pipeline.DatRel
public import Idealize.ShloMosaic.Lib.Pipeline.ArrRel
public import Idealize.ShloMosaic.Lib.Claim

@[expose] public section

set_option maxRecDepth 16384

noncomputable section

namespace Cert.UpdateIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpdateIdeal.Gen
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of the results, held to a predicate. -/
def forgets0 : Fin 14 → Bool := fun w => w.val == 10 || w.val == 11 || w.val == 12 || w.val == 13

/-- The row of the first moment's scales that the point `i` writes. -/
def MsRow (i : grid0.Coords) (x5 : Vec F S1x56x8192 .f32) (x7 : Vec F S1x128x8192 .bf16) (x8 : Vec F S1x128x4096 .i8) (d : Vec F S1x56x8192 .f32) : Prop :=
  ∀ (k : Fin k0_t1_loop.trips) (x : S1x1x256.Idx) y, (∀ a : Fin 3, (y a).val = (![0, (i 1).val, 256 * k.val] : Fin 3 → ℕ) a + (x a).val) →
    d y = outMs i x5 x7 x8 k0_pay16 k x

/-- What the body leaves in the dw block at point `t`. -/
def RlDw (c : Dev nD) (t : Fin cfg0.N) (X : Vec F S1x128x8192 .f32) : Prop :=
  IsDw (grid0.coords t) (iblk m c 0 t) (iblk m c 1 t) (iblk m c 2 t) (iblk m c 5 t) (iblk m c 6 t) (iblk m c 7 t) (iblk m c 8 t) (iblk m c 9 t) X
/-- What the body leaves in the first moment's code block at point `t`. -/
def RlMc (c : Dev nD) (t : Fin cfg0.N) (X : Vec F S1x128x4096 .i8) : Prop :=
  IsMc (grid0.coords t) (iblk m c 5 t) (iblk m c 7 t) (iblk m c 8 t) X
/-- What the body leaves in the first moment's scale block at point `t`: the rows of the points so far that share the block. -/
def RlMs (c : Dev nD) (t : Fin cfg0.N) (X : Vec F S1x56x8192 .f32) : Prop :=
  ∀ u : Fin cfg0.N, u.val / 56 = t.val / 56 → u.val ≤ t.val →
    MsRow (grid0.coords u) (iblk m c 5 u) (iblk m c 7 u) (iblk m c 8 u) X
/-- What the body leaves in the second moment's code block at point `t`. -/
def RlVc (c : Dev nD) (t : Fin cfg0.N) (X : Vec F S1x128x4096 .i8) : Prop :=
  IsVc (grid0.coords t) (iblk m c 1 t) (iblk m c 2 t) (iblk m c 3 t) (iblk m c 4 t) (iblk m c 7 t) (iblk m c 9 t) X

/-- The predicate each result's block meets after point `t`. -/
def Rl (c : Dev nD) (w : Fin cfg0.W) (t : Fin cfg0.N) : ((cfg0.win w).block.Idx → Elt F (cfg0.win w).elt) → Prop :=
  match w with
  | ⟨10, _⟩ => RlDw m c t
  | ⟨11, _⟩ => RlMc m c t
  | ⟨12, _⟩ => RlMs m c t
  | ⟨13, _⟩ => RlVc m c t
  | _ => fun _ => True

/-- The invariant before position `n`: after the first point the two matrices of the spread and the gather are in their scratch. -/
def PhiS (c : Dev nD) : (n : ℕ) → n ≤ cfg0.N → sProp 𝕄
  | 0, _ => Pipeline.ΦA spec0 c
  | n + 1, hn => iprop(iprop(owns (c : Thread nD τ) scM0_0 fullShare (k0_pay16 (F := F)) ∗ owns (c : Thread nD τ) scM0_1 fullShare (k0_pay17 (F := F)) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS (F := F) c n h = Pipeline.ΦA spec0 c := by
  subst hz; rfl

theorem PhiS_succ (c : Dev nD) (n : ℕ) (hn : n < cfg0.N) : PhiS (F := F) c (n + 1) hn = iprop(iprop(owns (c : Thread nD τ) scM0_0 fullShare (k0_pay16 (F := F)) ∗ owns (c : Thread nD τ) scM0_1 fullShare (k0_pay17 (F := F)) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) : PhiS (F := F) c n h = iprop(iprop(owns (c : Thread nD τ) scM0_0 fullShare (k0_pay16 (F := F)) ∗ owns (c : Thread nD τ) scM0_1 fullShare (k0_pay17 (F := F)) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The proof data of the pipeline: the arrays as the region finds them, each input block left as it was found, the
    invariant above; the results are held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS c t.val (Nat.le_of_lt t.isLt) := by
  dsimp only [dats]; exact Pipeline.Dat.Φ_castSucc (PhiS c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The data with the results held to `Rl`. -/
abbrev rdat (c : Dev nD) : Pipeline.RDat τ (Elt F) Unit ℕ (UR sig nD τ) ℕ cfg0 c := (dats m 0 c).toRRel forgets0 (Rl m c)

/-- What the body finds in the scale block: the rows of the earlier points that share the block. -/
theorem finds_ms (c : Dev nD) (t : Fin cfg0.N) (Y : Vec F S1x56x8192 .f32) (h : (rdat m c).Finds 12 t Y) :
    ∀ u : Fin cfg0.N, u.val / 56 = t.val / 56 → u.val < t.val → MsRow (grid0.coords u) (iblk m c 5 u) (iblk m c 7 u) (iblk m c 8 u) Y := by
  intro u hu hlt
  have hz : t.val ≠ 0 := by omega
  rcases ((rdat m c).finds_of_pos (w := 12) (Pipeline.Window.fetch_out _ rfl _) hz Y).mp h with hf | hL
  · have := (flush0_12 _).mp hf
    dsimp only at this
    omega
  · exact (Dat.toRRel_leaves (w := 12) (dats m 0 c) rfl hL) u (by dsimp only; omega) (by dsimp only; omega)

/-- The point's own row joins them. -/
theorem ms_step (c : Dev nD) (t : Fin cfg0.N) (Y X : Vec F S1x56x8192 .f32) (h : (rdat m c).Finds 12 t Y)
    (hX : IsMs (grid0.coords t) (iblk m c 5 t) (iblk m c 7 t) (iblk m c 8 t) Y X) : RlMs m c t X := by
  intro u hu hle
  rcases Nat.lt_or_eq_of_le hle with hlt | he
  · intro k x y hy
    have e1 : ∀ u : Fin cfg0.N, (grid0.coords u 1).val = u.val / 1 % 56 := fun u => Pipeline.Grid.coords_val u 1 (by decide) rfl
    rw [hX.2 y (by
      have h1 := hy 1
      have hx : (x 1).val = 0 := by have := (x 1).isLt; change (x 1).val < 1 at this; omega
      rw [hx] at h1
      change (y 1).val = (grid0.coords u 1).val + 0 at h1
      rw [h1, e1, e1]; omega)]
    exact finds_ms m c t Y h u hu hlt k x y hy
  · obtain rfl : u = t := Fin.ext he
    exact hX.1

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X))

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS c (t.val + 1) t.isLt from rfl, PhiS_succ]
  have hN : t.val < 112 := lt_of_lt_of_eq t.isLt (show cfg0.N = 112 from N_0)
  by_cases hz : t.val = 0
  · rw [PhiS_castSucc m c t, PhiS_zero c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %hd10, H10⟩, ⟨%d11, %hd11, H11⟩, ⟨%d12, %hd12, H12⟩, ⟨%d13, %hd13, H13⟩⟩
    iapply (run_A c (grid0.coords t) _ _ _ _ _ _ _ _ _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) d12 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, ⟨%e10, %g10, H10⟩, ⟨%e11, %g11, H11⟩, ⟨%e12, %g12, H12⟩, ⟨%e13, %g13, H13⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists e10; isplitr; · ipureintro; exact g10
      iexact H10
    isplitl [H11]
    · iexists e11; isplitr; · ipureintro; exact g11
      iexact H11
    isplitl [H12]
    · iexists e12; isplitr; · ipureintro; exact ms_step m c t d12 e12 hd12 g12
      iexact H12
    iexists e13; isplitr; · ipureintro; exact g13
    iexact H13
  · rw [PhiS_castSucc m c t, PhiS_pos c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %hd10, H10⟩, ⟨%d11, %hd11, H11⟩, ⟨%d12, %hd12, H12⟩, ⟨%d13, %hd13, H13⟩⟩
    iapply (run_B c (grid0.coords t) _ _ _ _ _ _ _ _ _ _ _ _ _ _ _ _ _ _ _ _ _ _ _ _ _ _ _ _ _ _ _ _ _ _ _ _ (fun h => absurd ((hcond0_0 t).mp h) (by omega)) (iblk m c 0 t) (iblk m c 1 t) (iblk m c 2 t) (iblk m c 3 t) (iblk m c 4 t) (iblk m c 5 t) (iblk m c 6 t) (iblk m c 7 t) (iblk m c 8 t) (iblk m c 9 t) d12 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, ⟨%e10, %g10, H10⟩, ⟨%e11, %g11, H11⟩, ⟨%e12, %g12, H12⟩, ⟨%e13, %g13, H13⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists e10; isplitr; · ipureintro; exact g10
      iexact H10
    isplitl [H11]
    · iexists e11; isplitr; · ipureintro; exact g11
      iexact H11
    isplitl [H12]
    · iexists e12; isplitr; · ipureintro; exact ms_step m c t d12 e12 hd12 g12
      iexact H12
    iexists e13; isplitr; · ipureintro; exact g13
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS c 0 (Nat.zero_le _) from rfl, PhiS_zero c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS c t.val (Nat.le_of_lt_succ t.isLt) from rfl, PhiS_pos c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The arguments are unchanged after a run of relational data whose arrays are the region-entry contents. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 6 rfl).trans ((hA c 6).trans (V_main_arg0 m c)),
      (Pipeline.RDat.FramePost.arr_in h c 7 rfl).trans ((hA c 7).trans (V_main_arg1 m c)),
      ((h c).2 main_arg2 (Pipeline.mem_restRefs_of main_arg2 (by decide) (by decide))).trans (V_main_arg2 m c),
      (Pipeline.RDat.FramePost.arr_in h c 8 rfl).trans ((hA c 8).trans (V_main_arg3 m c)),
      (Pipeline.RDat.FramePost.arr_in h c 5 rfl).trans ((hA c 5).trans (V_main_arg4 m c)),
      (Pipeline.RDat.FramePost.arr_in h c 9 rfl).trans ((hA c 9).trans (V_main_arg5 m c)),
      (Pipeline.RDat.FramePost.arr_in h c 1 rfl).trans ((hA c 1).trans (V_main_arg6 m c)),
      (Pipeline.RDat.FramePost.arr_in h c 2 rfl).trans ((hA c 2).trans (V_main_arg7 m c)),
      (Pipeline.RDat.FramePost.arr_in h c 3 rfl).trans ((hA c 3).trans (V_main_arg8 m c)),
      (Pipeline.RDat.FramePost.arr_in h c 4 rfl).trans ((hA c 4).trans (V_main_arg9 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_rel m ρ (rdat m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.UpdateIdeal.Hand

end
-- ==== Proof.Update.Blocks.lean ====
/- The blocks a point of the update's grid reads, as the arguments hold them. -/
module

public import proofs.«01_k».proof.Proof.Update.Frame
public import Idealize.ShloMosaic.Lib.Pipeline.ValueKit.Geometry
public import Idealize.ShloMosaic.Lib.Pointwise

@[expose] public section

set_option maxRecDepth 16384

noncomputable section

namespace Cert.UpdateIdeal.Hand

open Idealize.ShloMosaic Idealize.ShloMosaic.TcCoe
open Cert.UpdateIdeal.Gen

theorem index_5 : ∀ t : Fin cfg0.N, win0_5.index t = ![t.val / 56, 0, 0] := (by decide +kernel : ∀ t : Fin grid0.N, win0_5.index t = ![t.val / 56, 0, 0])
theorem index_6 : ∀ t : Fin cfg0.N, win0_6.index t = ![t.val / 56, t.val % 56, 0] := (by decide +kernel : ∀ t : Fin grid0.N, win0_6.index t = ![t.val / 56, t.val % 56, 0])
theorem index_7 : ∀ t : Fin cfg0.N, win0_7.index t = ![t.val / 56, t.val % 56, 0] := (by decide +kernel : ∀ t : Fin grid0.N, win0_7.index t = ![t.val / 56, t.val % 56, 0])
theorem index_8 : ∀ t : Fin cfg0.N, win0_8.index t = ![t.val / 56, t.val % 56, 0] := (by decide +kernel : ∀ t : Fin grid0.N, win0_8.index t = ![t.val / 56, t.val % 56, 0])
theorem index_9 : ∀ t : Fin cfg0.N, win0_9.index t = ![t.val / 56, t.val % 56, 0] := (by decide +kernel : ∀ t : Fin grid0.N, win0_9.index t = ![t.val / 56, t.val % 56, 0])
theorem index_0 : ∀ t : Fin cfg0.N, win0_0.index t = ![0] := (by decide +kernel : ∀ t : Fin grid0.N, win0_0.index t = ![0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_10 : ∀ t : Fin cfg0.N, win0_10.index t = ![t.val / 56, t.val % 56, 0] := (by decide +kernel : ∀ t : Fin grid0.N, win0_10.index t = ![t.val / 56, t.val % 56, 0])
theorem index_11 : ∀ t : Fin cfg0.N, win0_11.index t = ![t.val / 56, t.val % 56, 0] := (by decide +kernel : ∀ t : Fin grid0.N, win0_11.index t = ![t.val / 56, t.val % 56, 0])
theorem index_12 : ∀ t : Fin cfg0.N, win0_12.index t = ![t.val / 56, 0, 0] := (by decide +kernel : ∀ t : Fin grid0.N, win0_12.index t = ![t.val / 56, 0, 0])
theorem index_13 : ∀ t : Fin cfg0.N, win0_13.index t = ![t.val / 56, t.val % 56, 0] := (by decide +kernel : ∀ t : Fin grid0.N, win0_13.index t = ![t.val / 56, t.val % 56, 0])

theorem coords_0 (t : Fin cfg0.N) : (grid0.coords t 0).val = t.val / 56 := by
  have h : (grid0.coords t 0).val = t.val / 56 % 2 := Pipeline.Grid.coords_val t 0 (by decide) rfl
  have ht : t.val < 112 := lt_of_lt_of_eq t.isLt N_0
  rw [h]; omega

theorem coords_1 (t : Fin cfg0.N) : (grid0.coords t 1).val = t.val % 56 := by
  have h : (grid0.coords t 1).val = t.val / 1 % 56 := Pipeline.Grid.coords_val t 1 (by decide) rfl
  rw [h, Nat.div_one]

variable {F : FTy → Type} [FloatOps F] [Named F]
variable (m : (ℓ : Loc nD τ sig) → Buf (Elt F) ℓ) (c : Dev nD) (t : Fin cfg0.N)

theorem blk7 (b : Fin 2) (hb : b.val = t.val / 56) (p : Fin 128) (r : Fin 7168) (col : Fin 8192) (hr : r.val = 128 * (grid0.coords t 1).val + p.val) :
    (iblk m c 7 t : Vec F S1x128x8192 .bf16) (ix3 0 p col) = (m ((c : Thread nD τ).loc main_arg1) : Vec F S2x7168x8192 .bf16) (ix3 b r col) := by
  rw [coords_1] at hr
  rw [← V_main_arg1 m c]
  have h7 := index_7 t
  blk_ext [iblk, h7]

theorem blk6 (b : Fin 2) (hb : b.val = t.val / 56) (p : Fin 128) (r : Fin 7168) (col : Fin 8192) (hr : r.val = 128 * (grid0.coords t 1).val + p.val) :
    (iblk m c 6 t : Vec F S1x128x8192 .bf16) (ix3 0 p col) = (m ((c : Thread nD τ).loc main_arg0) : Vec F S2x7168x8192 .bf16) (ix3 b r col) := by
  rw [coords_1] at hr
  rw [← V_main_arg0 m c]
  have h7 := index_6 t
  blk_ext [iblk, h7]

theorem blk8 (b : Fin 2) (hb : b.val = t.val / 56) (p : Fin 128) (r : Fin 7168) (col : Fin 4096) (hr : r.val = 128 * (grid0.coords t 1).val + p.val) :
    (iblk m c 8 t : Vec F S1x128x4096 .i8) (ix3 0 p col) = (m ((c : Thread nD τ).loc main_arg3) : Vec F S2x7168x4096 .i8) (ix3 b r col) := by
  rw [coords_1] at hr
  rw [← V_main_arg3 m c]
  have h7 := index_8 t
  blk_ext [iblk, h7]

theorem blk9 (b : Fin 2) (hb : b.val = t.val / 56) (p : Fin 128) (r : Fin 7168) (col : Fin 4096) (hr : r.val = 128 * (grid0.coords t 1).val + p.val) :
    (iblk m c 9 t : Vec F S1x128x4096 .i8) (ix3 0 p col) = (m ((c : Thread nD τ).loc main_arg5) : Vec F S2x7168x4096 .i8) (ix3 b r col) := by
  rw [coords_1] at hr
  rw [← V_main_arg5 m c]
  have h7 := index_9 t
  blk_ext [iblk, h7]

theorem blk5 (b : Fin 2) (hb : b.val = t.val / 56) (j : Fin 56) (col : Fin 8192) :
    (iblk m c 5 t : Vec F S1x56x8192 .f32) (ix3 0 j col) = (m ((c : Thread nD τ).loc main_arg4) : Vec F S2x56x8192 .f32) (ix3 b j col) := by
  rw [← V_main_arg4 m c]
  have h7 := index_5 t
  blk_ext [iblk, h7]

theorem blk1 : (iblk m c 1 t : Vec F S2x7168 .f32) = (m ((c : Thread nD τ).loc main_arg6) : Vec F S2x7168 .f32) := by
  funext y
  rw [← V_main_arg6 m c]
  have h7 := index_1 t
  blk_ext [iblk, h7]

theorem blk2 : (iblk m c 2 t : Vec F S2x8192 .f32) = (m ((c : Thread nD τ).loc main_arg7) : Vec F S2x8192 .f32) := by
  funext y
  rw [← V_main_arg7 m c]
  have h7 := index_2 t
  blk_ext [iblk, h7]

theorem blk3 : (iblk m c 3 t : Vec F S2x7168 .f32) = (m ((c : Thread nD τ).loc main_arg8) : Vec F S2x7168 .f32) := by
  funext y
  rw [← V_main_arg8 m c]
  have h7 := index_3 t
  blk_ext [iblk, h7]

theorem blk4 : (iblk m c 4 t : Vec F S2x8192 .f32) = (m ((c : Thread nD τ).loc main_arg9) : Vec F S2x8192 .f32) := by
  funext y
  rw [← V_main_arg9 m c]
  have h7 := index_4 t
  blk_ext [iblk, h7]

theorem blk0 : (iblk m c 0 t : Vec F S2 .f32) = (V m c main_v15 : Vec F S2 .f32) := by
  funext y
  have h7 := index_0 t
  blk_ext [iblk, h7]

end Cert.UpdateIdeal.Hand

end
-- ==== Proof.Update.Coef.lean ====
/- The two words of the coefficient block, as reals. -/
module

public import proofs.«01_k».proof.Proof.Update.Blocks
public import proofs.«01_k».proof.Proof.Update.RefRead
public import Idealize.ShloMosaic.Lib.Pointwise

@[expose] public section

set_option maxRecDepth 16384

noncomputable section

namespace Cert.UpdateIdeal.Hand

open Idealize.ShloMosaic Idealize.ShloMosaic.TcCoe Idealize.ShloMosaic.Tactic
open Cert.UpdateIdeal.Gen
open Cert.Elem
open Cert.UpdateRefIdeal.Ref (bc c3 c1000 c1e8 one_div_coe one_sub_coe via)

/-- One less a coefficient's power. -/
def hostB (x2 : IVec S_ 32) (β : BitVec 32) : FVec Ideal S_ .f32 :=
  subf (constant S_ .f32 0x3F800000#32) (Host.powf (constant S_ .f32 β) (sitofp .f32 x2))

/-- The first product of the prologue. -/
def hostP (x2 : IVec S_ 32) : FVec Ideal S_ .f32 :=
  mulf (hostB x2 0x3F666666#32) (Host.divf (constant S_ .f32 0x47C35000#32) (constant S_ .f32 0x40400000#32))

/-- The first coefficient. -/
def hostK (x2 : IVec S_ 32) : FVec Ideal S_ .f32 :=
  mulf (hostP x2) (Host.sqrt (Host.divf (Host.divf (constant S_ .f32 0x3F800000#32) (constant S_ .f32 0x447A0000#32)) (hostB x2 0x3F7FBE77#32)))

/-- The second coefficient. -/
def hostE (x2 : IVec S_ 32) : FVec Ideal S_ .f32 :=
  mulf (hostP x2) (Host.divf (constant S_ .f32 0x3F800000#32) (constant S_ .f32 0x4CBEBC20#32))

/-- The coefficient block. -/
def hostC (x2 : IVec S_ 32) : FVec Ideal S2 .f32 :=
  concatenate S2 0 [⟨S1, broadcastInDim S1 ![] bcast_S_S1 (hostK x2)⟩, ⟨S1, broadcastInDim S1 ![] bcast_S_S1 (hostE x2)⟩] concatenates_S1_S1_S2_d0

variable (m : (ℓ : Loc nD τ sig) → Buf (Elt Ideal) ℓ) (c : Dev nD)

theorem V_coef : (V m c main_v15 : FVec Ideal S2 .f32) = hostC (m ((c : Thread nD τ).loc main_arg2)) := by
  show (StableHlo.after hostOps0 (fun b => m (c, b)) (Proc.devRef .tc main_v15) : FVec Ideal S2 .f32) = _
  simp only [hostOps0]
  after_results_simp
  rfl

theorem c1e5 : Ideal.ofBits .f32 0x47C35000#32 = ((100000 : ℝ) : EReal) := by simp [Ideal.ofBits, Ideal.ieee, -EReal.coe_mul]; norm_num

theorem hostB_apply (x2 : IVec S_ 32) (β : BitVec 32) : (hostB x2 β ix0 : EReal) = bc x2 β := by
  refine via fun z hz => ?_
  pointwise [hostB]
  exact hz

theorem hostK_apply (x2 : IVec S_ 32) (b1 b2 : ℝ) (h1 : 0 < b1) (h2 : 0 < b2) (e1 : bc x2 0x3F666666#32 = (b1 : EReal)) (e2 : bc x2 0x3F7FBE77#32 = (b2 : EReal)) :
    (hostK x2 ix0 : EReal) = ((b1 * (100000 / 3) * Real.sqrt (1 / 1000 / b2) : ℝ) : EReal) := by
  have hP : (hostK x2 ix0 : EReal) = hostB x2 0x3F666666#32 ix0 * Ideal.div (Ideal.ofBits .f32 0x47C35000#32) (Ideal.ofBits .f32 0x40400000#32)
      * Ideal.sqrt (Ideal.div (Ideal.div 1 (Ideal.ofBits .f32 0x447A0000#32)) (hostB x2 0x3F7FBE77#32 ix0)) := by
    generalize hB : hostB x2 0x3F666666#32 = B1
    generalize hB' : hostB x2 0x3F7FBE77#32 = B2
    unfold hostK hostP
    rw [hB, hB']
    refine via fun z hz => ?_
    pointwise
    exact hz
  rw [hP, hostB_apply, hostB_apply, e1, e2, c1e5, c3, c1000, one_div_coe _ (by norm_num), div_coe _ _ (by norm_num), div_coe _ _ (ne_of_gt h2), ← EReal.coe_mul]
  rw [show Ideal.sqrt ((1 / 1000 / b2 : ℝ) : EReal) = ((Real.sqrt (1 / 1000 / b2) : ℝ) : EReal) from
    if_neg (not_lt.mpr (show (0 : ℝ) ≤ 1 / 1000 / b2 by positivity))]
  rw [← EReal.coe_mul]

theorem hostE_apply (x2 : IVec S_ 32) (b1 : ℝ) (e1 : bc x2 0x3F666666#32 = (b1 : EReal)) :
    (hostE x2 ix0 : EReal) = ((b1 * (100000 / 3) * (1 / 100000000) : ℝ) : EReal) := by
  have hP : (hostE x2 ix0 : EReal) = hostB x2 0x3F666666#32 ix0 * Ideal.div (Ideal.ofBits .f32 0x47C35000#32) (Ideal.ofBits .f32 0x40400000#32)
      * Ideal.div 1 (Ideal.ofBits .f32 0x4CBEBC20#32) := by
    generalize hB : hostB x2 0x3F666666#32 = B1
    unfold hostE hostP
    rw [hB]
    refine via fun z hz => ?_
    pointwise
    exact hz
  rw [hP, hostB_apply, e1, c1e5, c3, c1e8, one_div_coe _ (by norm_num), div_coe _ _ (by norm_num), ← EReal.coe_mul, ← EReal.coe_mul]

theorem hostC_0 (x2 : IVec S_ 32) : (hostC x2 (ix1 0) : EReal) = hostK x2 ix0 := by
  unfold hostC
  generalize hostK x2 = A
  generalize hostE x2 = B
  refine via fun z hz => ?_
  pointwise
  exact hz

theorem hostC_1 (x2 : IVec S_ 32) : (hostC x2 (ix1 1) : EReal) = hostE x2 ix0 := by
  unfold hostC
  generalize hostK x2 = A
  generalize hostE x2 = B
  refine via fun z hz => ?_
  pointwise
  exact hz

/-- One less a power of a number between zero and one is a positive real. -/
theorem bc_pos (x2 : IVec S_ 32) (β : BitVec 32) (r : ℝ) (hβ : Ideal.ofBits .f32 β = (r : EReal)) (h0 : 0 < r) (h1 : r < 1) (ht : 1 ≤ (x2 ix0).toInt) :
    ∃ b : ℝ, 0 < b ∧ bc x2 β = (b : EReal) := by
  refine ⟨1 - r ^ ((x2 ix0).toInt : ℝ), ?_, ?_⟩
  · have : r ^ ((x2 ix0).toInt : ℝ) < 1 := Real.rpow_lt_one h0.le h1 (by exact_mod_cast (by omega : 0 < (x2 ix0).toInt))
    linarith
  · unfold bc
    rw [hβ, ← one_sub_coe]
    rfl

theorem beta1 : ∃ r : ℝ, Ideal.ofBits .f32 0x3F666666#32 = (r : EReal) ∧ 0 < r ∧ r < 1 :=
  ⟨15099494 / 16777216, by simp [Ideal.ofBits, Ideal.ieee, -EReal.coe_mul]; norm_num, by norm_num, by norm_num⟩

theorem beta2 : ∃ r : ℝ, Ideal.ofBits .f32 0x3F7FBE77#32 = (r : EReal) ∧ 0 < r ∧ r < 1 :=
  ⟨16760439 / 16777216, by simp [Ideal.ofBits, Ideal.ieee, -EReal.coe_mul]; norm_num, by norm_num, by norm_num⟩

end Cert.UpdateIdeal.Hand

end
-- ==== Proof.Update.Result.lean ====
/- The blocks a run leaves are the reference's, and so the arrays. -/
module

public import proofs.«01_k».proof.Proof.Update.Values
public import proofs.«01_k».proof.Proof.Update.Coef

@[expose] public section

set_option maxRecDepth 16384

noncomputable section

namespace Cert.UpdateIdeal.Hand

open Idealize.ShloMosaic Idealize.ShloMosaic.TcCoe
open Cert.UpdateIdeal.Gen
open Cert.UpdateRefIdeal.Ref (mNew vNew mMax mScale mCode vCode dW bc)

variable (m : (ℓ : Loc nD τ sig) → Buf (Elt Ideal) ℓ) (c : Dev nD)

/-! ## The arguments -/

abbrev A0 : FVec Ideal S2x7168x8192 .bf16 := m ((c : Thread nD τ).loc main_arg0)
abbrev A1 : FVec Ideal S2x7168x8192 .bf16 := m ((c : Thread nD τ).loc main_arg1)
abbrev A2 : IVec S_ 32 := m ((c : Thread nD τ).loc main_arg2)
abbrev A3 : IVec S2x7168x4096 8 := m ((c : Thread nD τ).loc main_arg3)
abbrev A4 : FVec Ideal S2x56x8192 .f32 := m ((c : Thread nD τ).loc main_arg4)
abbrev A5 : IVec S2x7168x4096 8 := m ((c : Thread nD τ).loc main_arg5)
abbrev A6 : FVec Ideal S2x7168 .f32 := m ((c : Thread nD τ).loc main_arg6)
abbrev A7 : FVec Ideal S2x8192 .f32 := m ((c : Thread nD τ).loc main_arg7)
abbrev A8 : FVec Ideal S2x7168 .f32 := m ((c : Thread nD τ).loc main_arg8)
abbrev A9 : FVec Ideal S2x8192 .f32 := m ((c : Thread nD τ).loc main_arg9)

/-- What the precondition says of the arguments. -/
structure Good : Prop where
  row : ∀ b r, Ideal.ofBits .f32 0x00800000#32 ≤ A6 m c (ix2 b r)
  col : ∀ b k, Ideal.ofBits .f32 0x00800000#32 ≤ A7 m c (ix2 b k)
  fin : ∀ b r k, (vNew (A1 m c) (A5 m c) (A6 m c) (A7 m c) (ix3 b r k) : EReal) < ⊤
  le : ∀ b r k, (vNew (A1 m c) (A5 m c) (A6 m c) (A7 m c) (ix3 b r k) : EReal) ≤ min (A8 m c (ix2 b r)) (A9 m c (ix2 b k))
  step : 1 ≤ (A2 m c ix0).toInt

variable (t : Fin cfg0.N)

theorem row_of (t : Fin cfg0.N) : t.val / 56 < 2 := by
  have ht : t.val < 112 := lt_of_lt_of_eq t.isLt N_0
  omega

/-- The trip that stores a column. -/
def tripOf (n : ℕ) (h : n < 32) : Fin k0_t1_loop.trips := ⟨n, by rw [trips_eq]; exact h⟩

/-- The coefficients of a point. -/
theorem coef_ref (h : Good m c) : ∃ b1 b2 : ℝ, 0 < b1 ∧ 0 < b2 ∧ bc (A2 m c) 0x3F666666#32 = (b1 : EReal) ∧ bc (A2 m c) 0x3F7FBE77#32 = (b2 : EReal)
    ∧ (coef0 (F := Ideal) (iblk m c 0 t) : EReal) = ((b1 * (100000 / 3) * Real.sqrt (1 / 1000 / b2) : ℝ) : EReal)
    ∧ (coef1 (F := Ideal) (iblk m c 0 t) : EReal) = ((b1 * (100000 / 3) * (1 / 100000000) : ℝ) : EReal) := by
  obtain ⟨r1, p1, q1, s1⟩ := beta1
  obtain ⟨r2, p2, q2, s2⟩ := beta2
  obtain ⟨b1, h1, e1⟩ := bc_pos (A2 m c) _ r1 p1 q1 s1 h.step
  obtain ⟨b2, h2, e2⟩ := bc_pos (A2 m c) _ r2 p2 q2 s2 h.step
  have hb : (iblk m c 0 t : Vec Ideal S2 .f32) = hostC (A2 m c) := (blk0 m c t).trans (V_coef m c)
  refine ⟨b1, b2, h1, h2, e1, e2, ?_, ?_⟩
  · refine Eq.trans ?_ (hostK_apply (A2 m c) b1 b2 h1 h2 e1 e2)
    rw [← hostC_0]
    unfold coef0
    rw [hb]
    exact congrArg _ (funext fun a => by fin_cases a; rfl)
  · refine Eq.trans ?_ (hostE_apply (A2 m c) b1 e1)
    rw [← hostC_1]
    unfold coef1
    rw [hb]
    exact congrArg _ (funext fun a => by fin_cases a; rfl)

theorem dw_block (h : Good m c) (X : Vec Ideal S1x128x8192 .f32) (hX : RlDw m c t X) (b : Fin 2) (hb : b.val = t.val / 56) (p : Fin 128) (r : Fin 7168)
    (hr : r.val = 128 * (grid0.coords t 1).val + p.val) (col : Fin 8192) :
    X (ix3 0 p col) = dW (A0 m c) (A1 m c) (A2 m c) (A3 m c) (A5 m c) (A4 m c) (A6 m c) (A7 m c) (ix3 b r col) := by
  obtain ⟨b1, b2, h1, h2, e1, e2, e41, e42⟩ := coef_ref m c t h
  have hq : col.val = 256 * (tripOf (col.val / 256) (by omega)).val + (⟨col.val % 256, by omega⟩ : Fin 256).val := by
    show col.val = 256 * (col.val / 256) + col.val % 256
    omega
  rw [hX (tripOf (col.val / 256) (by omega)) (ix3 0 p ⟨col.val % 256, by omega⟩) (ix3 0 p col) (by intro a; fin_cases a <;> simp [tripOf]; omega)]
  rw [blk1, blk2]
  exact outDw_ref (A0 m c) (A1 m c) (A2 m c) (A3 m c) (A5 m c) (A4 m c) (A6 m c) (A7 m c) (grid0.coords t) b ((coords_0 t).trans hb.symm)
    ⟨(grid0.coords t 1).val, (grid0.coords t 1).isLt⟩ rfl _ _ _ _ _
    (fun p r col => blk6 m c t b hb p r col) (fun p r col => blk7 m c t b hb p r col) (fun j col => blk5 m c t b hb j col)
    (fun p r a => blk8 m c t b hb p r a) (fun p r a => blk9 m c t b hb p r a) _ (h.row b) (h.col b) (h.fin b) _ _ b1 b2 h1 h2 e1 e2 e41 e42 p r hr _ col hq

theorem mc_block (X : Vec Ideal S1x128x4096 .i8) (hX : RlMc m c t X) (b : Fin 2) (hb : b.val = t.val / 56) (p : Fin 128) (r : Fin 7168)
    (hr : r.val = 128 * (grid0.coords t 1).val + p.val) (N : Fin 4096) :
    X (ix3 0 p N) = Cert.UpdateRefIdeal.Ref.pack (mCode (A1 m c) (A3 m c) (A4 m c)) (ix3 b r N) := by
  have hq : N.val = 128 * (tripOf (N.val / 128) (by omega)).val + (⟨N.val % 128, by omega⟩ : Fin 128).val := by
    show N.val = 128 * (N.val / 128) + N.val % 128
    omega
  rw [hX (tripOf (N.val / 128) (by omega)) (ix3 0 p ⟨N.val % 128, by omega⟩) (ix3 0 p N) (by intro a; fin_cases a <;> simp [tripOf]; omega)]
  exact outMc_ref (A1 m c) (A3 m c) (A4 m c) (grid0.coords t) b ((coords_0 t).trans hb.symm)
    ⟨(grid0.coords t 1).val, (grid0.coords t 1).isLt⟩ rfl _ _ _
    (fun p r col => blk7 m c t b hb p r col) (fun j col => blk5 m c t b hb j col) (fun p r a => blk8 m c t b hb p r a) _ p r hr _ N hq

theorem vc_block (h : Good m c) (X : Vec Ideal S1x128x4096 .i8) (hX : RlVc m c t X) (b : Fin 2) (hb : b.val = t.val / 56) (p : Fin 128) (r : Fin 7168)
    (hr : r.val = 128 * (grid0.coords t 1).val + p.val) (N : Fin 4096) :
    X (ix3 0 p N) = Cert.UpdateRefIdeal.Ref.pack (vCode (A1 m c) (A5 m c) (A6 m c) (A8 m c) (A7 m c) (A9 m c)) (ix3 b r N) := by
  have hq : N.val = 128 * (tripOf (N.val / 128) (by omega)).val + (⟨N.val % 128, by omega⟩ : Fin 128).val := by
    show N.val = 128 * (N.val / 128) + N.val % 128
    omega
  rw [hX (tripOf (N.val / 128) (by omega)) (ix3 0 p ⟨N.val % 128, by omega⟩) (ix3 0 p N) (by intro a; fin_cases a <;> simp [tripOf]; omega)]
  rw [blk1, blk2, blk3, blk4]
  exact outVc_ref (A1 m c) (A5 m c) (A6 m c) (A8 m c) (A7 m c) (A9 m c) (grid0.coords t) b ((coords_0 t).trans hb.symm) _ _
    (fun p r col => blk7 m c t b hb p r col) (fun p r a => blk9 m c t b hb p r a) _ (h.row b) (h.col b) (h.fin b) (h.le b) p r hr _ N hq

theorem ms_block (X : Vec Ideal S1x56x8192 .f32) (hf : t.val % 56 = 55) (hX : RlMs m c t X) (b : Fin 2) (hb : b.val = t.val / 56) (j : Fin 56) (col : Fin 8192) :
    X (ix3 0 j col) = mScale (A1 m c) (A3 m c) (A4 m c) (ix3 b j col) := by
  have ht : t.val < 112 := lt_of_lt_of_eq t.isLt N_0
  obtain ⟨u, hu⟩ : ∃ u : Fin cfg0.N, u.val = 56 * (t.val / 56) + j.val := ⟨⟨56 * (t.val / 56) + j.val, lt_of_lt_of_eq (by omega) N_0.symm⟩, rfl⟩
  have hj : (grid0.coords u 1).val = j.val := by rw [coords_1]; omega
  have hbu : b.val = u.val / 56 := by omega
  have hq : col.val = 256 * (tripOf (col.val / 256) (by omega)).val + (⟨col.val % 256, by omega⟩ : Fin 256).val := by
    show col.val = 256 * (col.val / 256) + col.val % 256
    omega
  rw [hX u (by omega) (by omega) (tripOf (col.val / 256) (by omega)) (ix3 0 0 ⟨col.val % 256, by omega⟩) (ix3 0 j col)
    (by intro a; fin_cases a <;> simp [tripOf, hj]; omega)]
  exact outMs_ref (A1 m c) (A3 m c) (A4 m c) (grid0.coords u) b ((coords_0 u).trans hbu.symm) j hj.symm _ _ _
    (fun p r col => blk7 m c u b hbu p r col) (fun j col => blk5 m c u b hbu j col) (fun p r a => blk8 m c u b hbu p r a) _ _ col hq

end Cert.UpdateIdeal.Hand

end
-- ==== Proof.Update.Pre.lean ====
/- The precondition of the update, read at an element. -/
module

public import proofs.«01_k».proof.Defs
public import proofs.«01_k».proof.Proof.Update.Result

@[expose] public section

set_option maxRecDepth 16384

noncomputable section

namespace Cert.UpdateIdeal.Hand

open Idealize.ShloMosaic Idealize.ShloMosaic.TcCoe
open Cert.UpdateIdeal.Gen
open Cert.UpdateRefIdeal.Ref (vNew)

instance factsPre : Cert.Pre_update_pre.Facts := by
  constructor <;> decide

variable (x0 x1 : FVec Ideal S2x7168x8192 .bf16) (x2 : IVec S_ 32) (x3 x5 : IVec S2x7168x4096 8) (x4 : FVec Ideal S2x56x8192 .f32)
  (x6 x8 : FVec Ideal S2x7168 .f32) (x7 x9 : FVec Ideal S2x8192 .f32)

theorem pre_step : (Cert.Pre_update_pre.fn (F := Ideal) x0 x1 x2 x3 x4 x5 x6 x7 x8 x9).1 = cmpi .sge x2 (constantI S_ 32 1#32) := rfl

theorem pre_row : (Cert.Pre_update_pre.fn (F := Ideal) x0 x1 x2 x3 x4 x5 x6 x7 x8 x9).2.1
    = cmpf .oge x6 (broadcastInDim S2x7168 ![] Cert.Pre_update_pre.Facts.bcast_S_S2x7168 (constant S_ .f32 0x00800000#32)) := rfl

theorem pre_col : (Cert.Pre_update_pre.fn (F := Ideal) x0 x1 x2 x3 x4 x5 x6 x7 x8 x9).2.2.1
    = cmpf .oge x7 (broadcastInDim S2x8192 ![] Cert.Pre_update_pre.Facts.bcast_S_S2x8192 (constant S_ .f32 0x00800000#32)) := rfl

theorem pre_sec : (Cert.Pre_update_pre.fn (F := Ideal) x0 x1 x2 x3 x4 x5 x6 x7 x8 x9).2.2.2
    = andi (cmpf .ole (vNew x1 x5 x6 x7) (minimumf
        (broadcastInDim S2x7168x8192 ![0, 1, 2] Cert.Pre_update_pre.Facts.bcast_S2x7168x1_S2x7168x8192_0_1_2 (broadcastInDim Cert.Pre_update_pre.S2x7168x1 ![0, 1] Cert.Pre_update_pre.Facts.bcast_S2x7168_S2x7168x1_0_1 x8))
        (broadcastInDim S2x7168x8192 ![0, 1, 2] Cert.Pre_update_pre.Facts.bcast_S2x1x8192_S2x7168x8192_0_1_2 (broadcastInDim Cert.Pre_update_pre.S2x1x8192 ![0, 2] Cert.Pre_update_pre.Facts.bcast_S2x8192_S2x1x8192_0_2 x9))))
      (cmpf .olt (vNew x1 x5 x6 x7) (broadcastInDim S2x7168x8192 ![] Cert.Pre_update_pre.Facts.bcast_S_S2x7168x8192 (constant S_ .f32 0x7F800000#32))) := rfl

theorem step_of (h : cmpi .sge x2 (constantI S_ 32 1#32) = fun _ => 1#1) : 1 ≤ (x2 ix0).toInt := by
  have e := congrFun h ix0
  change BitVec.ofBool ((1#32).sle (x2 ix0)) = 1#1 at e
  have e' : (1#32).sle (x2 ix0) = true := by
    cases hh : (1#32).sle (x2 ix0)
    · rw [hh] at e; exact absurd e (by decide)
    · rfl
  rw [BitVec.sle_iff_toInt_le] at e'
  exact e'

theorem ge_of {S : Shape} {φ : FTy} {x y : FVec Ideal S φ} (h : cmpf .oge x y = fun _ => 1#1) (i : S.Idx) : y i ≤ x i := by
  have e := congrFun h i
  change BitVec.ofBool (decide (y i ≤ x i)) = 1#1 at e
  by_contra hc
  rw [decide_eq_false hc] at e
  exact absurd e (by decide)

theorem le_of {S : Shape} {φ : FTy} {x y : FVec Ideal S φ} (i : S.Idx) (e : cmpf .ole x y i = 1#1) : x i ≤ y i := by
  change BitVec.ofBool (decide (x i ≤ y i)) = 1#1 at e
  by_contra hc
  rw [decide_eq_false hc] at e
  exact absurd e (by decide)

theorem lt_of {S : Shape} {φ : FTy} {x y : FVec Ideal S φ} (i : S.Idx) (e : cmpf .olt x y i = 1#1) : x i < y i := by
  change BitVec.ofBool (decide (x i < y i)) = 1#1 at e
  by_contra hc
  rw [decide_eq_false hc] at e
  exact absurd e (by decide)

theorem and_of (a b : BitVec 1) (h : a &&& b = 1#1) : a = 1#1 ∧ b = 1#1 := by
  revert a b; decide

theorem inf_val : (Ideal.ofBits .f32 0x7F800000#32 : EReal) = ⊤ := by
  simp [Ideal.ofBits, Ideal.ieee]

theorem rowmin (x : FVec Ideal S2x7168 .f32) (y : FVec Ideal S2x8192 .f32) (b : Fin 2) (r : Fin 7168) (k : Fin 8192) (h1 h2 h3 h4) :
    (minimumf (broadcastInDim S2x7168x8192 ![0, 1, 2] h1 (broadcastInDim Cert.Pre_update_pre.S2x7168x1 ![0, 1] h2 x))
        (broadcastInDim S2x7168x8192 ![0, 1, 2] h3 (broadcastInDim Cert.Pre_update_pre.S2x1x8192 ![0, 2] h4 y))) (ix3 b r k) = (min (x (ix2 b r)) (y (ix2 b k)) : EReal) := by
  refine congrArg₂ min (congrArg x ?_) (congrArg y ?_)
  · funext a; fin_cases a <;> rfl
  · funext a; fin_cases a <;> rfl

/-- The precondition at every element. -/
theorem good_of (m : (ℓ : Loc nD τ sig) → Buf (Elt Ideal) ℓ) (c : Dev nD)
    (h1 : (Cert.Pre_update_pre.fn (F := Ideal) (A0 m c) (A1 m c) (A2 m c) (A3 m c) (A4 m c) (A5 m c) (A6 m c) (A7 m c) (A8 m c) (A9 m c)).1 = fun _ => 1#1)
    (h2 : (Cert.Pre_update_pre.fn (F := Ideal) (A0 m c) (A1 m c) (A2 m c) (A3 m c) (A4 m c) (A5 m c) (A6 m c) (A7 m c) (A8 m c) (A9 m c)).2.1 = fun _ => 1#1)
    (h3 : (Cert.Pre_update_pre.fn (F := Ideal) (A0 m c) (A1 m c) (A2 m c) (A3 m c) (A4 m c) (A5 m c) (A6 m c) (A7 m c) (A8 m c) (A9 m c)).2.2.1 = fun _ => 1#1)
    (h4 : (Cert.Pre_update_pre.fn (F := Ideal) (A0 m c) (A1 m c) (A2 m c) (A3 m c) (A4 m c) (A5 m c) (A6 m c) (A7 m c) (A8 m c) (A9 m c)).2.2.2 = fun _ => 1#1) :
    Good m c where
  row b r := ge_of ((pre_row ..).symm.trans h2) (ix2 b r)
  col b k := ge_of ((pre_col ..).symm.trans h3) (ix2 b k)
  step := step_of _ ((pre_step ..).symm.trans h1)
  fin b r k := by
    have e := and_of _ _ (congrFun ((pre_sec ..).symm.trans h4) (ix3 b r k))
    exact (lt_of _ e.2).trans_eq inf_val
  le b r k := by
    have e := and_of _ _ (congrFun ((pre_sec ..).symm.trans h4) (ix3 b r k))
    exact (le_of _ e.1).trans_eq (rowmin _ _ b r k _ _ _ _)

end Cert.UpdateIdeal.Hand

end
-- ==== Proof.Stats.Claim.lean ====
/- The statistics' results are the reference's. -/
module

public import proofs.«01_k».proof.Defs
public import proofs.«01_k».proof.Proof.Stats.Arrays
public import proofs.«01_k».proof.Proof.Update.Pre

@[expose] public section

set_option maxRecDepth 16384

noncomputable section

namespace Cert.StatsIdeal.Hand

open Idealize.ShloMosaic Idealize.ShloMosaic.TcCoe Idealize.SL.Sem
open Cert.StatsIdeal.Gen
open Cert.UpdateIdeal.Hand (ge_of)
open Cert.StatsRefIdeal.Ref (rowMax colMax)

instance factsPre : Cert.Pre_stats_pre.Facts := by
  constructor <;> decide

theorem pre_row (x0 : FVec Ideal S2x7168 .f32) (x1 : FVec Ideal S2x8192 .f32) (x2 : FVec Ideal S2x7168x8192 .bf16) (x3 : IVec S2x7168x4096 8) :
    (Cert.Pre_stats_pre.fn (F := Ideal) x0 x1 x2 x3).1 = cmpf .oge x0 (broadcastInDim S2x7168 ![] Cert.Pre_stats_pre.Facts.bcast_S_S2x7168 (constant Cert.Pre_stats_pre.S_ .f32 0x00800000#32)) := rfl

theorem pre_col (x0 : FVec Ideal S2x7168 .f32) (x1 : FVec Ideal S2x8192 .f32) (x2 : FVec Ideal S2x7168x8192 .bf16) (x3 : IVec S2x7168x4096 8) :
    (Cert.Pre_stats_pre.fn (F := Ideal) x0 x1 x2 x3).2 = cmpf .oge x1 (broadcastInDim S2x8192 ![] Cert.Pre_stats_pre.Facts.bcast_S_S2x8192 (constant Cert.Pre_stats_pre.S_ .f32 0x00800000#32)) := rfl

/-- The precondition at every element. -/
theorem good_of (m : (ℓ : Loc nD τ sig) → Buf (Elt Ideal) ℓ) (c : Dev nD)
    (h1 : (Cert.Pre_stats_pre.fn (F := Ideal) (A0 m c) (A1 m c) (A2 m c) (A3 m c)).1 = fun _ => 1#1)
    (h2 : (Cert.Pre_stats_pre.fn (F := Ideal) (A0 m c) (A1 m c) (A2 m c) (A3 m c)).2 = fun _ => 1#1) : Good m c where
  row b r := ge_of ((pre_row ..).symm.trans h1) (ix2 b r)
  col b k := ge_of ((pre_col ..).symm.trans h2) (ix2 b k)

/-- The values both programs leave, as the reference computes them of the kernel's arguments. -/
theorem algebraic_stats : Cert.algebraic_StatsIdeal_StatsRefIdeal_pre_stats_pre := by
  intro m g m' g' hp ha
  refine ⟨fun c => (rowMax (A2 m c) (A3 m c) (A0 m c) (A1 m c) : FVec Ideal S2x7168 .f32),
    fun c => (colMax (A2 m c) (A3 m c) (A0 m c) (A1 m c) : FVec Ideal S2x8192 .f32), ?_, ?_⟩
  · refine (θ_run Cert.StatsIdeal.defs _ _).mono (fun r h c => ?_) (θ_run_and (unchanged m g) (run_main m g))
    obtain ⟨p1, p2⟩ := hp c
    obtain ⟨a0, a1⟩ := arrays m c (good_of m c p1 p2) r h.2
    exact ⟨a0, a1, h.1 c⟩
  · refine (θ_run Cert.StatsRefIdeal.defs _ _).mono (fun r h c => ?_) (Cert.StatsRefIdeal.Value.run (F := Ideal) m' g')
    obtain ⟨e0, e1, e2, e3⟩ := ha c
    obtain ⟨r0, r1, hu⟩ := h c
    refine ⟨r0.trans ?_, r1.trans ?_, hu⟩
    · rw [e0, e1, e2, e3]; rfl
    · rw [e0, e1, e2, e3]; rfl

end Cert.StatsIdeal.Hand

end
-- ==== Proof.UpdateRun.Runs.lean ====
/- What the runs of the kernel body of `Update` share: the staging memrefs, the conditions on the grid point, each input block. -/
module

public import proofs.«01_k».proof.Proof.Gen.Update.Launch
public import proofs.«01_k».proof.Proof.Gen.Update.Skeleton
public import proofs.«01_k».proof.Proof.Gen.Update.Loops
public import proofs.«01_k».proof.Proof.Gen.Update.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Update.Run

open Cert.Update.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Update`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 6 rfl).trans ((hA c 6).trans (V_main_arg0 m c)),
      (Pipeline.RDat.FramePost.arr_in h c 7 rfl).trans ((hA c 7).trans (V_main_arg1 m c)),
      ((h c).2 main_arg2 (Pipeline.mem_restRefs_of main_arg2 (by decide) (by decide))).trans (V_main_arg2 m c),
      (Pipeline.RDat.FramePost.arr_in h c 8 rfl).trans ((hA c 8).trans (V_main_arg3 m c)),
      (Pipeline.RDat.FramePost.arr_in h c 5 rfl).trans ((hA c 5).trans (V_main_arg4 m c)),
      (Pipeline.RDat.FramePost.arr_in h c 9 rfl).trans ((hA c 9).trans (V_main_arg5 m c)),
      (Pipeline.RDat.FramePost.arr_in h c 1 rfl).trans ((hA c 1).trans (V_main_arg6 m c)),
      (Pipeline.RDat.FramePost.arr_in h c 2 rfl).trans ((hA c 2).trans (V_main_arg7 m c)),
      (Pipeline.RDat.FramePost.arr_in h c 3 rfl).trans ((hA c 3).trans (V_main_arg8 m c)),
      (Pipeline.RDat.FramePost.arr_in h c 4 rfl).trans ((hA c 4).trans (V_main_arg9 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [cond0_0, e0, e1]
    word_cmp
   : ∀ t : Fin grid0.N, cond0_0 (grid0.coords t) ↔ t.val % 112 = 0)

/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x7168 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x56x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x4096 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x4096 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x8192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x4096 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x56x8192 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x4096 .i8 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x256 .bf16 := Memref.whole cc0_scratch0
abbrev scM0_1 : Memref sig .tc .vmem S256x128 .bf16 := Memref.whole cc0_scratch1
abbrev scM0_2 : Memref sig .tc .vmem S128x128 .f32 := Memref.whole cc0_scratch2
abbrev scM0_3 : Memref sig .tc .vmem S128x128 .f32 := Memref.whole cc0_scratch3
/-- The scratch `arg16` the kernel carries between points, as a view: what it holds is stated through it. -/
abbrev VS0_0 : View sig .tc .vmem S256x256 .bf16 := scM0_0.view
/-- The scratch `arg17` the kernel carries between points, as a view: what it holds is stated through it. -/
abbrev VS0_1 : View sig .tc .vmem S256x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Update.Run

end
-- ==== Proof.UpdateRun.RunA.lean ====
/- The kernel body of `Update`, run in one case of its conditionals. -/
module

public import proofs.«01_k».proof.Proof.UpdateRun.Runs

@[expose] public section

-- membership in a rectangle of production extents (`View.cover_of_tiled`): the elaborator's structural look
-- recurses once per coordinate of the long axes
set_option maxRecDepth 16384

noncomputable section

namespace Cert.Update.Run

open Cert.Update.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13) at anything, handed back at some contents nothing names. -/
noncomputable def kernelRun0_A (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) :
    Σ' (LS0 : List (View.Piece (Elt F) S256x256 .bf16)), { LS1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ d, owns (c : Thread nD τ) arg18 fullShare d) ∗ (∃ d, owns (c : Thread nD τ) arg19 fullShare d)) -∗ K ⟨⟩))
          ⊢ wp frame (wpE (defs₀ (F := F)) Variants.none c none) E (cc0_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_update_eq_skeleton]; unfold cc0_update_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Update.Run

end
-- ==== Proof.UpdateRun.RunB.lean ====
/- The kernel body of `Update`, run in one case of its conditionals. -/
module

public import proofs.«01_k».proof.Proof.UpdateRun.RunA

@[expose] public section

-- membership in a rectangle of production extents (`View.cover_of_tiled`): the elaborator's structural look
-- recurses once per coordinate of the long axes
set_option maxRecDepth 16384

noncomputable section

namespace Cert.Update.Run

open Cert.Update.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 111: 111 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13) at anything, handed back at some contents nothing names. -/
noncomputable def kernelRun0_B (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : ¬cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (xs0 : Vec F S256x256 .bf16) (xs1 : Vec F S256x128 .bf16) :
    Σ' (LS0 : List (View.Piece (Elt F) S256x256 .bf16)), { LS1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ (∃ d, owns (c : Thread nD τ) arg18 fullShare d) ∗ (∃ d, owns (c : Thread nD τ) arg19 fullShare d)) -∗ K ⟨⟩))
          ⊢ wp frame (wpE (defs₀ (F := F)) Variants.none c none) E (cc0_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], fun E K => ?run⟩
  case run =>
    simp only [cc0_update_eq_skeleton]; unfold cc0_update_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs0; obtain rfl := harg17.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _; isplitr; · ipureintro; exact harg16.read_unread _
      iexact HS0
    isplitl [HS1]
    · iexists _; isplitr; · ipureintro; exact harg17.read_unread _
      iexact HS1
    isplitl [HS2]
    · iexists _, _; isplitr; swap; · iexact HS2
      ipureintro; rfl
    iexists _, _; isplitr; swap; · iexact HS3
    ipureintro; rfl

end Cert.Update.Run

end
-- ==== Proof.UpdateRun.Frame.lean ====
/- The frame of `Update`: what the carried scratch holds point by point, the body at every point, the launch. -/
module

public import proofs.«01_k».proof.Proof.UpdateRun.RunB
public import Idealize.ShloMosaic.Lib.Claim

@[expose] public section

-- membership in a rectangle of production extents (`View.cover_of_tiled`): the elaborator's structural look
-- recurses once per coordinate of the long axes
set_option maxRecDepth 16384

noncomputable section

namespace Cert.Update.Run

open Cert.Update.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg16`, which the kernel carries between points, cover it: 1 piece of `S256x256` tiling it (Lib/Ring.lean `Piece.tiledL`). -/
theorem scover0_A_0 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (y : S256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1 S256x256.size (by sl_kernel_rfl) y

/-- What case A leaves in scratch `arg16`: its pieces read back over junk. -/
def sout0_A_0 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) : Vec F S256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1)

/-- Case A's pieces for scratch `arg17`, which the kernel carries between points, cover it: 1 piece of `S256x128` tiling it (Lib/Ring.lean `Piece.tiledL`). -/
theorem scover0_A_1 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (y : S256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1 S256x128.size (by sl_kernel_rfl) y

/-- What case A leaves in scratch `arg17`: its pieces read back over junk. -/
def sout0_A_1 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) : Vec F S256x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1)

/-- Case B stores nothing into scratch `arg16`: it holds what the point before left. -/
def sout0_B_0 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : ¬cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (xs0 : Vec F S256x256 .bf16) (xs1 : Vec F S256x128 .bf16) : Vec F S256x256 .bf16 := xs0

/-- Case B stores nothing into scratch `arg17`: it holds what the point before left. -/
def sout0_B_1 (c : Dev nD) (i : grid0.Coords) (arg2 : Memref sig .tc .smem S2 .f32) (harg2 : arg2.IsWhole) (arg3 : Memref sig .tc .vmem S2x7168 .f32) (harg3 : arg3.IsWhole) (arg4 : Memref sig .tc .vmem S2x8192 .f32) (harg4 : arg4.IsWhole) (arg5 : Memref sig .tc .vmem S2x7168 .f32) (harg5 : arg5.IsWhole) (arg6 : Memref sig .tc .vmem S2x8192 .f32) (harg6 : arg6.IsWhole) (arg7 : Memref sig .tc .vmem S1x56x8192 .f32) (harg7 : arg7.IsWhole) (arg8 : Memref sig .tc .vmem S1x128x8192 .bf16) (harg8 : arg8.IsWhole) (arg9 : Memref sig .tc .vmem S1x128x8192 .bf16) (harg9 : arg9.IsWhole) (arg10 : Memref sig .tc .vmem S1x128x4096 .i8) (harg10 : arg10.IsWhole) (arg11 : Memref sig .tc .vmem S1x128x4096 .i8) (harg11 : arg11.IsWhole) (arg12 : Memref sig .tc .vmem S1x128x8192 .f32) (harg12 : arg12.IsWhole) (arg13 : Memref sig .tc .vmem S1x128x4096 .i8) (harg13 : arg13.IsWhole) (arg14 : Memref sig .tc .vmem S1x56x8192 .f32) (harg14 : arg14.IsWhole) (arg15 : Memref sig .tc .vmem S1x128x4096 .i8) (harg15 : arg15.IsWhole) (arg16 : Memref sig .tc .vmem S256x256 .bf16) (harg16 : arg16.IsWhole) (arg17 : Memref sig .tc .vmem S256x128 .bf16) (harg17 : arg17.IsWhole) (arg18 : Memref sig .tc .vmem S128x128 .f32) (harg18 : arg18.IsWhole) (arg19 : Memref sig .tc .vmem S128x128 .f32) (harg19 : arg19.IsWhole) (hc0 : ¬cond0_0 i)
    (x0 : Vec F S2 .f32) (x1 : Vec F S2x7168 .f32) (x2 : Vec F S2x8192 .f32) (x3 : Vec F S2x7168 .f32) (x4 : Vec F S2x8192 .f32) (x5 : Vec F S1x56x8192 .f32) (x6 : Vec F S1x128x8192 .bf16) (x7 : Vec F S1x128x8192 .bf16) (x8 : Vec F S1x128x4096 .i8) (x9 : Vec F S1x128x4096 .i8) (xs0 : Vec F S256x256 .bf16) (xs1 : Vec F S256x128 .bf16) : Vec F S256x128 .bf16 := xs1

/-! ## What the outputs hold after each point -/

def outsAt0 (c : Dev nD) : (n : ℕ) → n < cfg0.N → Vec F S256x256 .bf16 × Vec F S256x128 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 112 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 112 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 112 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (10, 11, 12, 13): nothing reads what the kernel leaves in them, so nothing
    of it is named (Lib/Pipeline/Dat.lean `Dat.toRForget`). -/
def forgets0 : Fin 14 → Bool := fun w => w.val == 10 || w.val == 11 || w.val == 12 || w.val == 13

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 112 := lt_of_lt_of_eq t.isLt (show cfg0.N = 112 from N_0)
  by_cases h0 : t.val % 112 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; have hN : t.val < 112 := lt_of_lt_of_eq t.isLt (show cfg0.N = 112 from N_0); omega
  · by_cases hz : t.val = 0
    · exfalso; have hN : t.val < 112 := lt_of_lt_of_eq t.isLt (show cfg0.N = 112 from N_0); omega
    · rw [PhiS_castSucc m c t, PhiS_pos m c _ _ hz]
      rw [outsAt0_B m c t h0]
      unfold sout0_B_0 sout0_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Update`'s statement (Defs.lean) at any `F` — Proof.lean cites it at `Bits`:
    `theorem Cert.Proof.claim : Cert.Claim := ⟨Cert.Update.Gen.facts, fun m ρ _ => Cert.Update.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Update.Run

end
-- ==== Proof.Update.Arrays.lean ====
/- The arrays a run of the update leaves. -/
module

public import proofs.«01_k».proof.Proof.Update.Result

@[expose] public section

set_option maxRecDepth 16384

noncomputable section

namespace Cert.UpdateIdeal.Hand

open Idealize.ShloMosaic Idealize.ShloMosaic.TcCoe
open Idealize.SL Idealize.SL.RA
open Cert.UpdateIdeal.Gen
open Idealize.ShloMosaic.Pipeline (Dat Cfg Window)
open Cert.UpdateRefIdeal.Ref (mNew vNew mMax mScale mCode vCode dW bc)

variable (m : (ℓ : Loc nD τ sig) → Buf (Elt Ideal) ℓ) (c : Dev nD)

variable (dat : Dat τ (Elt Ideal) Unit ℕ (UR sig nD τ) ℕ cfg0 c)

/-- The row of an array that row `p` of point `t`'s block is. -/
def rowAt (t : Fin cfg0.N) (p : Fin 128) : Fin 7168 := ⟨128 * (t.val % 56) + p.val, by omega⟩

theorem dw_array (h : Good m c) (hL : ∀ t, RlDw m c t (dat.after 10 t)) :
    dat.arrAt 10 cfg0.N = (dW (A0 m c) (A1 m c) (A2 m c) (A3 m c) (A5 m c) (A4 m c) (A6 m c) (A7 m c) : FVec Ideal S2x7168x8192 .f32) := by
  refine dat.arrAt_eq_of_covers 10 _ (by decide +kernel) fun t hf y => ?_
  blk_simp
  have e := dw_block m c t h (dat.after 10 t) (hL t) ⟨t.val / 56, row_of t⟩ rfl (y 1) (rowAt t (y 1)) (by rw [coords_1]; rfl) (y 2)
  have ey : y = ix3 (0 : Fin 1) (y 1) (y 2) := by
    funext a; fin_cases a
    · exact Fin.ext (by have := (y 0).isLt; change (y 0).val < 1 at this; show (y 0).val = 0; omega)
    · rfl
    · rfl
  refine (congrArg (dat.after 10 t) ey).trans (e.trans ?_)
  have h7 := index_10 t
  unfold rowAt
  blk_ext [h7]

theorem mc_array (hL : ∀ t, RlMc m c t (dat.after 11 t)) :
    dat.arrAt 11 cfg0.N = (Cert.UpdateRefIdeal.Ref.pack (mCode (A1 m c) (A3 m c) (A4 m c)) : IVec S2x7168x4096 8) := by
  refine dat.arrAt_eq_of_covers 11 _ (by decide +kernel) fun t hf y => ?_
  blk_simp
  have e := mc_block m c t (dat.after 11 t) (hL t) ⟨t.val / 56, row_of t⟩ rfl (y 1) (rowAt t (y 1)) (by rw [coords_1]; rfl) (y 2)
  have ey : y = ix3 (0 : Fin 1) (y 1) (y 2) := by
    funext a; fin_cases a
    · exact Fin.ext (by have := (y 0).isLt; change (y 0).val < 1 at this; show (y 0).val = 0; omega)
    · rfl
    · rfl
  refine (congrArg (dat.after 11 t) ey).trans (e.trans ?_)
  have h7 := index_11 t
  unfold rowAt
  blk_ext [h7]

theorem vc_array (h : Good m c) (hL : ∀ t, RlVc m c t (dat.after 13 t)) :
    dat.arrAt 13 cfg0.N = (Cert.UpdateRefIdeal.Ref.pack (vCode (A1 m c) (A5 m c) (A6 m c) (A8 m c) (A7 m c) (A9 m c)) : IVec S2x7168x4096 8) := by
  refine dat.arrAt_eq_of_covers 13 _ (by decide +kernel) fun t hf y => ?_
  blk_simp
  have e := vc_block m c t h (dat.after 13 t) (hL t) ⟨t.val / 56, row_of t⟩ rfl (y 1) (rowAt t (y 1)) (by rw [coords_1]; rfl) (y 2)
  have ey : y = ix3 (0 : Fin 1) (y 1) (y 2) := by
    funext a; fin_cases a
    · exact Fin.ext (by have := (y 0).isLt; change (y 0).val < 1 at this; show (y 0).val = 0; omega)
    · rfl
    · rfl
  refine (congrArg (dat.after 13 t) ey).trans (e.trans ?_)
  have h7 := index_13 t
  unfold rowAt
  blk_ext [h7]

theorem ms_array (hL : ∀ t : Fin cfg0.N, t.val % 56 = 55 → RlMs m c t (dat.after 12 t)) :
    dat.arrAt 12 cfg0.N = (mScale (A1 m c) (A3 m c) (A4 m c) : FVec Ideal S2x56x8192 .f32) := by
  refine dat.arrAt_eq_of_covers 12 _ (by decide +kernel) fun t hf y => ?_
  blk_simp
  have h55 := (flush0_12 t).mp hf
  have e := ms_block m c t (dat.after 12 t) h55 (hL t h55) ⟨t.val / 56, row_of t⟩ rfl (y 1) (y 2)
  have ey : y = ix3 (0 : Fin 1) (y 1) (y 2) := by
    funext a; fin_cases a
    · exact Fin.ext (by have := (y 0).isLt; change (y 0).val < 1 at this; show (y 0).val = 0; omega)
    · rfl
    · rfl
  refine (congrArg (dat.after 12 t) ey).trans (e.trans ?_)
  have h7 := index_12 t
  refine congrArg _ (funext fun a => Fin.ext ?_)
  fin_cases a <;> (blk_simp [h7]; rfl)

/-- The results after a run. -/
theorem arrays (h : Good m c) (r : PUnit × MemSt nD τ sig (Elt Ideal)) (hr : Pipeline.RDat.FramePost (cfgs 0) (rdat m) (V m) r) :
    r.2.mem ((c : Thread nD τ).loc main_v16_0) = (dW (A0 m c) (A1 m c) (A2 m c) (A3 m c) (A5 m c) (A4 m c) (A6 m c) (A7 m c) : FVec Ideal S2x7168x8192 .f32)
    ∧ r.2.mem ((c : Thread nD τ).loc main_v16_1) = (Cert.UpdateRefIdeal.Ref.pack (mCode (A1 m c) (A3 m c) (A4 m c)) : IVec S2x7168x4096 8)
    ∧ r.2.mem ((c : Thread nD τ).loc main_v16_2) = (mScale (A1 m c) (A3 m c) (A4 m c) : FVec Ideal S2x56x8192 .f32)
    ∧ r.2.mem ((c : Thread nD τ).loc main_v16_3) = (Cert.UpdateRefIdeal.Ref.pack (vCode (A1 m c) (A5 m c) (A6 m c) (A8 m c) (A7 m c) (A9 m c)) : IVec S2x7168x4096 8) := by
  obtain ⟨after, hL, hA⟩ := Pipeline.RDat.FramePost.exists_exact hr c
  refine ⟨(hA 10).trans (dw_array m c _ h fun t => ?_), (hA 11).trans (mc_array m c _ fun t => ?_), (hA 12).trans (ms_array m c _ fun t ht => ?_), (hA 13).trans (vc_array m c _ h fun t => ?_)⟩
  · exact Pipeline.Dat.toRRel_leaves (w := 10) (dats m 0 c) rfl (hL 10 t (flush0_10 t))
  · exact Pipeline.Dat.toRRel_leaves (w := 11) (dats m 0 c) rfl (hL 11 t (flush0_11 t))
  · exact Pipeline.Dat.toRRel_leaves (w := 12) (dats m 0 c) rfl (hL 12 t ((flush0_12 t).mpr ht))
  · exact Pipeline.Dat.toRRel_leaves (w := 13) (dats m 0 c) rfl (hL 13 t (flush0_13 t))

end Cert.UpdateIdeal.Hand

end
-- ==== Proof.Update.RefRun.lean ====
/- The values the reference's run leaves are the reference arrays. -/
module

public import proofs.«01_k».proof.Proof.Update.RefRead
public import proofs.«01_k».proof.Proof.Gen.UpdateRefIdeal.Run

@[expose] public section

set_option maxRecDepth 16384

noncomputable section

namespace Cert.UpdateRefIdeal.Value

open Idealize.ShloMosaic Idealize.ShloMosaic.TcCoe Idealize.ShloMosaic.StableHlo
open Cert.UpdateRefIdeal Cert.UpdateRefIdeal.Gen
open Cert.UpdateRefIdeal.Ref (mNew vNew mMax mScale mCode vCode dW)

variable (V : Valuation τ sig (Elt Ideal)) (x0 x1 : FVec Ideal S2x7168x8192 .bf16) (x2 : IVec S_ 32) (x3 x5 : IVec S2x7168x4096 8) (x4 : FVec Ideal S2x56x8192 .f32)
  (x6 x8 : FVec Ideal S2x7168 .f32) (x7 x9 : FVec Ideal S2x8192 .f32)

theorem ref_dw (e0 : V (Proc.devRef .tc main_arg0) = x0) (e1 : V (Proc.devRef .tc main_arg1) = x1) (e2 : V (Proc.devRef .tc main_arg2) = x2) (e3 : V (Proc.devRef .tc main_arg3) = x3) (e5 : V (Proc.devRef .tc main_arg5) = x5) (e4 : V (Proc.devRef .tc main_arg4) = x4) (e6 : V (Proc.devRef .tc main_arg6) = x6) (e7 : V (Proc.devRef .tc main_arg7) = x7) :
    (mulf (broadcastInDim S2x7168x8192 ![] bcast_S_S2x7168x8192 (Host.divf (constant S_ .f32 0x40400000#32) (constant S_ .f32 0x461C4000#32))) (addf (Host.divf (Host.divf (res_main_v28 V) (broadcastInDim S2x7168x8192 ![] bcast_S_S2x7168x8192 (subf (constant S_ .f32 0x3F800000#32) (Host.powf (constant S_ .f32 0x3F666666#32) (res_main_v58 V))))) (addf (Host.sqrt (Host.divf (res_main_v57 V) (broadcastInDim S2x7168x8192 ![] bcast_S_S2x7168x8192 (subf (constant S_ .f32 0x3F800000#32) (Host.powf (constant S_ .f32 0x3F7FBE77#32) (res_main_v58 V)))))) (broadcastInDim S2x7168x8192 ![] bcast_S_S2x7168x8192 (Host.divf (constant S_ .f32 0x3F800000#32) (constant S_ .f32 0x4CBEBC20#32))))) (mulf (broadcastInDim S2x7168x8192 ![] bcast_S_S2x7168x8192 (Host.divf (constant S_ .f32 0x3F800000#32) (constant S_ .f32 0x41200000#32))) (extf .f32 (V (Proc.devRef .tc main_arg0)) bitsLt_bf16_f32)))) = dW x0 x1 x2 x3 x5 x4 x6 x7 := by
  subst e0 e1 e2 e3 e5 e4 e6 e7; rfl

theorem ref_mc (e1 : V (Proc.devRef .tc main_arg1) = x1) (e3 : V (Proc.devRef .tc main_arg3) = x3) (e4 : V (Proc.devRef .tc main_arg4) = x4) :
    (trunci 8 (ori (shapeCast _ (extractStridedSlice S2x7168x4096x1 ![0, 0, 0, 0] (res_main_v110 V) slices_S2x7168x4096x2_S2x7168x4096x1_0_0_0_0) shapeCasts_S2x7168x4096x1_S2x7168x4096) (Host.shli (shapeCast _ (extractStridedSlice S2x7168x4096x1 ![0, 0, 0, 1] (res_main_v110 V) slices_S2x7168x4096x2_S2x7168x4096x1_0_0_0_1) shapeCasts_S2x7168x4096x1_S2x7168x4096) (broadcastInDim S2x7168x4096 ![] bcast_S_S2x7168x4096 (constantI S_ 32 4#32)))) natLt_8_32) = Cert.UpdateRefIdeal.Ref.pack (mCode x1 x3 x4) := by
  subst e1 e3 e4; rfl

theorem ref_ms (e1 : V (Proc.devRef .tc main_arg1) = x1) (e3 : V (Proc.devRef .tc main_arg3) = x3) (e4 : V (Proc.devRef .tc main_arg4) = x4) :
    (select (cmpf .oeq (res_main_v82 V) (broadcastInDim S2x56x8192 ![] bcast_S_S2x56x8192 (constant S_ .f32 0x00000000#32))) (broadcastInDim S2x56x8192 ![] bcast_S_S2x56x8192 (id (constant S_ .f32 0x3F800000#32))) (Host.divf (res_main_v82 V) (broadcastInDim S2x56x8192 ![] bcast_S_S2x56x8192 (constant S_ .f32 0x40E00000#32)))) = mScale x1 x3 x4 := by
  subst e1 e3 e4; rfl

theorem ref_vc (e1 : V (Proc.devRef .tc main_arg1) = x1) (e5 : V (Proc.devRef .tc main_arg5) = x5) (e6 : V (Proc.devRef .tc main_arg6) = x6) (e8 : V (Proc.devRef .tc main_arg8) = x8) (e7 : V (Proc.devRef .tc main_arg7) = x7) (e9 : V (Proc.devRef .tc main_arg9) = x9) :
    (trunci 8 (ori (shapeCast _ (extractStridedSlice S2x7168x4096x1 ![0, 0, 0, 0] (res_main_v121 V) slices_S2x7168x4096x2_S2x7168x4096x1_0_0_0_0) shapeCasts_S2x7168x4096x1_S2x7168x4096) (Host.shli (shapeCast _ (extractStridedSlice S2x7168x4096x1 ![0, 0, 0, 1] (res_main_v121 V) slices_S2x7168x4096x2_S2x7168x4096x1_0_0_0_1) shapeCasts_S2x7168x4096x1_S2x7168x4096) (broadcastInDim S2x7168x4096 ![] bcast_S_S2x7168x4096 (constantI S_ 32 4#32)))) natLt_8_32) = Cert.UpdateRefIdeal.Ref.pack (vCode x1 x5 x6 x8 x7 x9) := by
  subst e1 e5 e6 e8 e7 e9; rfl

end Cert.UpdateRefIdeal.Value

end
-- ==== Proof.Update.Claim.lean ====
/- The update's results are the reference's. -/
module

public import proofs.«01_k».proof.Proof.Update.Arrays
public import proofs.«01_k».proof.Proof.Update.Pre
public import proofs.«01_k».proof.Proof.Update.RefRun

@[expose] public section

set_option maxRecDepth 16384

noncomputable section

namespace Cert.UpdateIdeal.Hand

open Idealize.ShloMosaic Idealize.ShloMosaic.TcCoe Idealize.SL.Sem
open Cert.UpdateIdeal.Gen
open Cert.UpdateRefIdeal.Ref (mNew vNew mMax mScale mCode vCode dW)

/-- The values both programs leave, as the reference computes them of the kernel's arguments. -/
theorem algebraic_update : Cert.algebraic_UpdateIdeal_UpdateRefIdeal_pre_update_pre := by
  intro m g m' g' hp ha
  refine ⟨fun c => (dW (A0 m c) (A1 m c) (A2 m c) (A3 m c) (A5 m c) (A4 m c) (A6 m c) (A7 m c) : FVec Ideal S2x7168x8192 .f32),
    fun c => (Cert.UpdateRefIdeal.Ref.pack (mCode (A1 m c) (A3 m c) (A4 m c)) : IVec S2x7168x4096 8),
    fun c => (mScale (A1 m c) (A3 m c) (A4 m c) : FVec Ideal S2x56x8192 .f32),
    fun c => (Cert.UpdateRefIdeal.Ref.pack (vCode (A1 m c) (A5 m c) (A6 m c) (A8 m c) (A7 m c) (A9 m c)) : IVec S2x7168x4096 8), ?_, ?_⟩
  · refine (θ_run Cert.UpdateIdeal.defs _ _).mono (fun r h c => ?_) (θ_run_and (unchanged m g) (run_main m g))
    obtain ⟨p1, p2, p3, p4⟩ := hp c
    obtain ⟨a0, a1, a2, a3⟩ := arrays m c (good_of m c p1 p2 p3 p4) r h.2
    exact ⟨a0, a1, a2, a3, h.1 c⟩
  · refine (θ_run Cert.UpdateRefIdeal.defs _ _).mono (fun r h c => ?_) (Cert.UpdateRefIdeal.Value.run (F := Ideal) m' g')
    obtain ⟨e0, e1, e2, e3, e4, e5, e6, e7, e8, e9⟩ := ha c
    obtain ⟨r0, r1, r2, r3, hu⟩ := h c
    refine ⟨r0.trans (Cert.UpdateRefIdeal.Value.ref_dw _ _ _ _ _ _ _ _ _ e0 e1 e2 e3 e5 e4 e6 e7), r1.trans (Cert.UpdateRefIdeal.Value.ref_mc _ _ _ _ e1 e3 e4),
      r2.trans (Cert.UpdateRefIdeal.Value.ref_ms _ _ _ _ e1 e3 e4), r3.trans (Cert.UpdateRefIdeal.Value.ref_vc _ _ _ _ _ _ _ e1 e5 e6 e8 e7 e9), hu⟩

end Cert.UpdateIdeal.Hand

end
-- ==== Proof.lean ====
/- The proof of the certificate's claims: the frame of each program, the named constants of the two kernel calls, and the
   values of their results. -/
module

public import proofs.«01_k».proof.Defs
public import proofs.«01_k».proof.Proof.StatsRun.Frame
public import proofs.«01_k».proof.Proof.Stats.Claim
public import proofs.«01_k».proof.Proof.UpdateRun.Frame
public import proofs.«01_k».proof.Proof.Update.Frame
public import proofs.«01_k».proof.Proof.Update.Claim
public import proofs.«01_k».proof.Proof.Gen.StatsRefIdeal.Run
public import proofs.«01_k».proof.Proof.Gen.UpdateRefIdeal.Run
public import Idealize.ShloMosaic.Adequacy
public import Idealize.ShloMosaic.Init

@[expose] public section

noncomputable section

namespace Cert.Proof

open Idealize.ShloMosaic Idealize.SL.Sem

theorem preserves_stats : Cert.preserves_Stats_StatsIdeal :=
  ⟨IdealRules.named_const.statement Cert.StatsIdeal.κ "norm_c" .f32 0x4279C000#32 _ rfl,
   IdealRules.named_const.statement Cert.StatsIdeal.κ "g2" .f32 0x3A83126F#32 _ rfl⟩

theorem preserves_update : Cert.preserves_Update_UpdateIdeal :=
  ⟨IdealRules.named_const.statement Cert.UpdateIdeal.κ "norm_c" .f32 0x4279C000#32 _ rfl,
   IdealRules.named_const.statement Cert.UpdateIdeal.κ "v16g2" .f32 0x3C83126F#32 _ rfl,
   IdealRules.named_const.statement Cert.UpdateIdeal.κ "m_c" .f32 0x3F100000#32 _ rfl,
   IdealRules.named_const.statement Cert.UpdateIdeal.κ "lrwd" .f32 0x37FBA882#32 _ rfl,
   IdealRules.named_const.statement Cert.UpdateIdeal.κ "g1q" .f32 0x3C6A0EA1#32 _ rfl⟩

/-- The stats program leaves its arguments unchanged and every semaphore at zero. -/
theorem frame_stats_ref : Cert.quiescent_StatsRefIdeal := fun m ρ _ =>
  (θ_run Cert.StatsRefIdeal.defs _ _).mono (fun r h => ⟨fun c => (h c).2.2,
      Idealize.ShloMosaic.sem_eq_zero_of_no_sems (by decide) r.2⟩)
    (Cert.StatsRefIdeal.Value.run (F := Ideal) m ρ)

/-- The update program leaves its arguments unchanged and every semaphore at zero. -/
theorem frame_update_ref : Cert.quiescent_UpdateRefIdeal := fun m ρ _ =>
  (θ_run Cert.UpdateRefIdeal.defs _ _).mono (fun r h => ⟨fun c => (h c).2.2.2.2,
      Idealize.ShloMosaic.sem_eq_zero_of_no_sems (by decide) r.2⟩)
    (Cert.UpdateRefIdeal.Value.run (F := Ideal) m ρ)

theorem claim : Cert.Claim :=
  ⟨Cert.Stats.Gen.facts, Cert.StatsIdeal.Gen.facts, Cert.StatsRefIdeal.Gen.facts, Cert.Update.Gen.facts,
    Cert.UpdateIdeal.Gen.facts, Cert.UpdateRefIdeal.Gen.facts,
    Cert.StatsIdeal.Hand.factsPre, Cert.UpdateIdeal.Hand.factsPre,
    fun m ρ _ => Cert.Stats.Run.frame m ρ,
    fun m ρ _ => Cert.StatsIdeal.Hand.frame m ρ,
    fun m ρ _ => Cert.StatsIdeal.Hand.frame m ρ,
    frame_stats_ref,
    fun m ρ _ => frame_stats_ref m ρ trivial,
    fun m ρ _ => Cert.Update.Run.frame m ρ,
    fun m ρ _ => Cert.UpdateIdeal.Hand.frame m ρ,
    fun m ρ _ => Cert.UpdateIdeal.Hand.frame m ρ,
    frame_update_ref,
    fun m ρ _ => frame_update_ref m ρ trivial,
    preserves_stats, Cert.StatsIdeal.Hand.algebraic_stats, preserves_update, Cert.UpdateIdeal.Hand.algebraic_update⟩

end Cert.Proof

end
